-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_real_inputs [hPre_real_inputs : Cert.Pre_real_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_real_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).1 = (fun _ => 1#1)
    ∧ (Cert.Pre_real_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.1 = (fun _ => 1#1)
    ∧ (Cert.Pre_real_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_real_inputs [hPre_real_inputs : Cert.Pre_real_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_real_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).1 = (fun _ => 1#1)
    ∧ (Cert.Pre_real_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.1 = (fun _ => 1#1)
    ∧ (Cert.Pre_real_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_real_inputs [hKernelIdeal : Cert.KernelIdeal.Facts] [hPre_real_inputs : Cert.Pre_real_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_real_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_real_inputs [hReferenceIdeal : Cert.ReferenceIdeal.Facts] [hPre_real_inputs : Cert.Pre_real_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_real_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def preserves_Kernel_KernelIdeal : Prop :=
  True

def algebraic_KernelIdeal_ReferenceIdeal_pre_real_inputs [hKernelIdeal : Cert.KernelIdeal.Facts] [hReferenceIdeal : Cert.ReferenceIdeal.Facts] [hPre_real_inputs : Cert.Pre_real_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_real_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v112) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)) →
    ∃ (v0 : (c : Dev Cert.Kernel2Ideal.nD) → Buf (Elt Ideal) ((c.tc : Thread Cert.Kernel2Ideal.nD Cert.Kernel2Ideal.τ).loc Cert.Kernel2Ideal.main_v8)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v69) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v10_0)) (v1 : (c : Dev Cert.Kernel3Ideal.nD) → Buf (Elt Ideal) ((c.tc : Thread Cert.Kernel3Ideal.nD Cert.Kernel3Ideal.τ).loc Cert.Kernel3Ideal.main_v10_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v10_0) = v0 c
          ∧ r.2.mem ((c.tc : Thread Cert.Kernel3Ideal.nD Cert.Kernel3Ideal.τ).loc Cert.Kernel3Ideal.main_v10_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v34) = v0 c
          ∧ r.2.mem ((c.tc : Thread Cert.Reference3Ideal.nD Cert.Reference3Ideal.τ).loc Cert.Reference3Ideal.main_v35) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hPre_real_inputs : Cert.Pre_real_inputs.Facts),
    quiescent_Kernel (hKernel := hKernel)
    ∧ quiescent_KernelIdeal (hKernelIdeal := hKernelIdeal)
    ∧ quiescent_KernelIdeal_pre_real_inputs (hKernelIdeal := hKernelIdeal) (hPre_real_inputs := hPre_real_inputs)
    ∧ quiescent_ReferenceIdeal (hReferenceIdeal := hReferenceIdeal)
    ∧ quiescent_ReferenceIdeal_pre_real_inputs (hReferenceIdeal := hReferenceIdeal) (hPre_real_inputs := hPre_real_inputs)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ preserves_Kernel_KernelIdeal
    ∧ algebraic_KernelIdeal_ReferenceIdeal_pre_real_inputs (hKernelIdeal := hKernelIdeal) (hReferenceIdeal := hReferenceIdeal) (hPre_real_inputs := hPre_real_inputs)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
-- ==== Pre_real_inputs.lean ====
abbrev S8x4096x1824 : Shape := ⟨3, ![8, 4096, 1824]⟩
abbrev S1824 : Shape := ⟨1, ![1824]⟩
abbrev S512 : Shape := ⟨1, ![512]⟩
abbrev S64x512 : Shape := ⟨2, ![64, 512]⟩
abbrev S160x512 : Shape := ⟨2, ![160, 512]⟩
abbrev S8x64 : Shape := ⟨2, ![8, 64]⟩
abbrev S_ : Shape := ⟨0, ![]⟩

class Facts : Prop where
  bcast_S_S8x4096x1824 : S_.BroadcastsInDim S8x4096x1824 (![] : Fin 0 → Fin S8x4096x1824.rank)
  bcast_S_S1824 : S_.BroadcastsInDim S1824 (![] : Fin 0 → Fin S1824.rank)
  bcast_S_S512 : S_.BroadcastsInDim S512 (![] : Fin 0 → Fin S512.rank)

variable [Facts]

def fn {F : FTy → Type} [FloatOps F] (main_arg0 : FVec F S8x4096x1824 .f32) (main_arg1 : FVec F S1824 .f32) (main_arg2 : FVec F S512 .f32) (main_arg3 : FVec F S64x512 .f32) (main_arg4 : FVec F S512 .f32) (main_arg5 : FVec F S64x512 .f32) (main_arg6 : FVec F S160x512 .f32) (main_arg7 : FVec F S512 .f32) (main_arg8 : FVec F S512 .f32) (main_arg9 : FVec F S8x64 .f32) (main_arg10 : FVec F S512 .f32) (main_arg11 : FVec F S512 .f32) : IVec S8x4096x1824 1 × IVec S1824 1 × IVec S512 1 :=
  let main_v0 : FVec F S8x4096x1824 .f32 := Host.absf main_arg0
  let main_cst : FVec F S_ .f32 := constant S_ .f32 0x7F800000#32
  let main_v1 : FVec F S8x4096x1824 .f32 := broadcastInDim S8x4096x1824 ![] bcast_S_S8x4096x1824 main_cst
  let main_v2 : IVec S8x4096x1824 1 := cmpf .olt main_v0 main_v1
  let main_v3 : FVec F S1824 .f32 := Host.absf main_arg1
  let main_cst_0 : FVec F S_ .f32 := constant S_ .f32 0x7F800000#32
  let main_v4 : FVec F S1824 .f32 := broadcastInDim S1824 ![] bcast_S_S1824 main_cst_0
  let main_v5 : IVec S1824 1 := cmpf .olt main_v3 main_v4
  let main_v6 : FVec F S512 .f32 := Host.absf main_arg8
  let main_cst_1 : FVec F S_ .f32 := constant S_ .f32 0x7F800000#32
  let main_v7 : FVec F S512 .f32 := broadcastInDim S512 ![] bcast_S_S512 main_cst_1
  let main_v8 : IVec S512 1 := cmpf .olt main_v6 main_v7
  (main_v2, main_v5, main_v8)
-- ==== Kernel.lean ====
abbrev S8x4096x1824 : Shape := ⟨3, ![8, 4096, 1824]⟩
abbrev S1824 : Shape := ⟨1, ![1824]⟩
abbrev S512 : Shape := ⟨1, ![512]⟩
abbrev S64x512 : Shape := ⟨2, ![64, 512]⟩
abbrev S160x512 : Shape := ⟨2, ![160, 512]⟩
abbrev S8x64 : Shape := ⟨2, ![8, 64]⟩
abbrev S_ : Shape := ⟨0, ![]⟩
abbrev S8x4096x1920 : Shape := ⟨3, ![8, 4096, 1920]⟩
abbrev S1664 : Shape := ⟨1, ![1664]⟩
abbrev S160 : Shape := ⟨1, ![160]⟩
abbrev S256 : Shape := ⟨1, ![256]⟩
abbrev S1920 : Shape := ⟨1, ![1920]⟩
abbrev S1x1920 : Shape := ⟨2, ![1, 1920]⟩
abbrev S256x512 : Shape := ⟨2, ![256, 512]⟩
abbrev S1x512 : Shape := ⟨2, ![1, 512]⟩
abbrev S8x4096x512 : Shape := ⟨3, ![8, 4096, 512]⟩
abbrev S4x64x1920 : Shape := ⟨3, ![4, 64, 1920]⟩
abbrev S4x8x1920 : Shape := ⟨3, ![4, 8, 1920]⟩
abbrev S4x64x512 : Shape := ⟨3, ![4, 64, 512]⟩
abbrev S16x64x128 : Shape := ⟨3, ![16, 64, 128]⟩
abbrev S256x1920 : Shape := ⟨2, ![256, 1920]⟩
abbrev S256x1 : Shape := ⟨2, ![256, 1]⟩
abbrev S1x1x1920 : Shape := ⟨3, ![1, 1, 1920]⟩
abbrev S256x64 : Shape := ⟨2, ![256, 64]⟩
abbrev S256x256 : Shape := ⟨2, ![256, 256]⟩
abbrev S64x128 : Shape := ⟨2, ![64, 128]⟩
abbrev S64 : Shape := ⟨1, ![64]⟩
abbrev S64x1 : Shape := ⟨2, ![64, 1]⟩
abbrev S128x128 : Shape := ⟨2, ![128, 128]⟩
abbrev S256x128 : Shape := ⟨2, ![256, 128]⟩
abbrev S128x256 : Shape := ⟨2, ![128, 256]⟩
abbrev S1x64x128 : Shape := ⟨3, ![1, 64, 128]⟩
abbrev S64x256 : Shape := ⟨2, ![64, 256]⟩
abbrev S64x384 : Shape := ⟨2, ![64, 384]⟩
abbrev S384x128 : Shape := ⟨2, ![384, 128]⟩
abbrev S1x128 : Shape := ⟨2, ![1, 128]⟩

abbrev nBuf : Space → Nat
  | .hbm => 36
  | .vmem => 18
  | .smem => 0
  | _ => 0

abbrev bufTy : (tb : Table) → Fin (tcTables nBuf tb) → BufTy
  | .hbm, ⟨0, _⟩ => ⟨S8x4096x1824, .f32⟩
  | .hbm, ⟨1, _⟩ => ⟨S1824, .f32⟩
  | .hbm, ⟨2, _⟩ => ⟨S512, .f32⟩
  | .hbm, ⟨3, _⟩ => ⟨S64x512, .f32⟩
  | .hbm, ⟨4, _⟩ => ⟨S512, .f32⟩
  | .hbm, ⟨5, _⟩ => ⟨S64x512, .f32⟩
  | .hbm, ⟨6, _⟩ => ⟨S160x512, .f32⟩
  | .hbm, ⟨7, _⟩ => ⟨S512, .f32⟩
  | .hbm, ⟨8, _⟩ => ⟨S512, .f32⟩
  | .hbm, ⟨9, _⟩ => ⟨S8x64, .f32⟩
  | .hbm, ⟨10, _⟩ => ⟨S512, .f32⟩
  | .hbm, ⟨11, _⟩ => ⟨S512, .f32⟩
  | .hbm, ⟨12, _⟩ => ⟨S_, .i32⟩
  | .hbm, ⟨13, _⟩ => ⟨S_, .f32⟩
  | .hbm, ⟨14, _⟩ => ⟨S8x4096x1920, .f32⟩
  | .hbm, ⟨15, _⟩ => ⟨S1664, .f32⟩
  | .hbm, ⟨16, _⟩ => ⟨S160, .f32⟩
  | .hbm, ⟨17, _⟩ => ⟨S_, .i32⟩
  | .hbm, ⟨18, _⟩ => ⟨S_, .f32⟩
  | .hbm, ⟨19, _⟩ => ⟨S256, .f32⟩
  | .hbm, ⟨20, _⟩ => ⟨S1920, .f32⟩
  | .hbm, ⟨21, _⟩ => ⟨S1x1920, .f32⟩
  | .hbm, ⟨22, _⟩ => ⟨S_, .i32⟩
  | .hbm, ⟨23, _⟩ => ⟨S_, .f32⟩
  | .hbm, ⟨24, _⟩ => ⟨S256x512, .f32⟩
  | .hbm, ⟨25, _⟩ => ⟨S256x512, .bf16⟩
  | .hbm, ⟨26, _⟩ => ⟨S1x512, .f32⟩
  | .hbm, ⟨27, _⟩ => ⟨S64x512, .bf16⟩
  | .hbm, ⟨28, _⟩ => ⟨S1x512, .f32⟩
  | .hbm, ⟨29, _⟩ => ⟨S64x512, .bf16⟩
  | .hbm, ⟨30, _⟩ => ⟨S1x512, .f32⟩
  | .hbm, ⟨31, _⟩ => ⟨S1x512, .f32⟩
  | .hbm, ⟨32, _⟩ => ⟨S1x512, .f32⟩
  | .hbm, ⟨33, _⟩ => ⟨S1x512, .f32⟩
  | .hbm, ⟨34, _⟩ => ⟨S1x512, .f32⟩
  | .hbm, ⟨35, _⟩ => ⟨S8x4096x512, .f32⟩
  | .local _ .vmem, ⟨0, _⟩ => ⟨S4x64x1920, .f32⟩
  | .local _ .vmem, ⟨1, _⟩ => ⟨S4x64x1920, .f32⟩
  | .local _ .vmem, ⟨2, _⟩ => ⟨S4x8x1920, .f32⟩
  | .local _ .vmem, ⟨3, _⟩ => ⟨S4x8x1920, .f32⟩
  | .local _ .vmem, ⟨4, _⟩ => ⟨S1x1920, .f32⟩
  | .local _ .vmem, ⟨5, _⟩ => ⟨S1x512, .f32⟩
  | .local _ .vmem, ⟨6, _⟩ => ⟨S64x512, .bf16⟩
  | .local _ .vmem, ⟨7, _⟩ => ⟨S1x512, .f32⟩
  | .local _ .vmem, ⟨8, _⟩ => ⟨S64x512, .bf16⟩
  | .local _ .vmem, ⟨9, _⟩ => ⟨S256x512, .bf16⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S4x64x512, .f32⟩
  | .local _ .vmem, ⟨16, _⟩ => ⟨S4x64x512, .f32⟩
  | .local _ .vmem, ⟨17, _⟩ => ⟨S16x64x128, .f32⟩
  | _, _ => ⟨S8x4096x1824, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_call0_v0 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_c_0 : Ref sig .tc := ⟨.hbm, 17, rfl⟩
abbrev main_call1_v0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_c_1 : Ref sig .tc := ⟨.hbm, 22, rfl⟩
abbrev main_call2_v0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg13_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem13_1 : DmaSem sig := 16

abbrev nD : Nat := 1
abbrev τ : Topo := Topo.v7x

variable {F : FTy → Type} [FloatOps F]

abbrev grid0 : Pipeline.Grid := ⟨2, ![2, 64], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x64x1920 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x8x1920 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1920 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S64x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S4x64x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== ReferenceIdeal.lean ====
abbrev S8x4096x1824 : Shape := ⟨3, ![8, 4096, 1824]⟩
abbrev S1824 : Shape := ⟨1, ![1824]⟩
abbrev S512 : Shape := ⟨1, ![512]⟩
abbrev S64x512 : Shape := ⟨2, ![64, 512]⟩
abbrev S160x512 : Shape := ⟨2, ![160, 512]⟩
abbrev S8x64 : Shape := ⟨2, ![8, 64]⟩
abbrev S_ : Shape := ⟨0, ![]⟩
abbrev S8x4097x1824 : Shape := ⟨3, ![8, 4097, 1824]⟩
abbrev S1x1x1824 : Shape := ⟨3, ![1, 1, 1824]⟩
abbrev S8x4096x512 : Shape := ⟨3, ![8, 4096, 512]⟩
abbrev S8x4096x64 : Shape := ⟨3, ![8, 4096, 64]⟩
abbrev S8x4096x160 : Shape := ⟨3, ![8, 4096, 160]⟩
abbrev S1x1x512 : Shape := ⟨3, ![1, 1, 512]⟩
abbrev S8x4096x8x64 : Shape := ⟨4, ![8, 4096, 8, 64]⟩
abbrev S8x4096x8 : Shape := ⟨3, ![8, 4096, 8]⟩
abbrev S8x4096x8x1 : Shape := ⟨4, ![8, 4096, 8, 1]⟩
abbrev S4096x8x8x64 : Shape := ⟨4, ![4096, 8, 8, 64]⟩
abbrev S8x8x64x64 : Shape := ⟨4, ![8, 8, 64, 64]⟩
abbrev S1x8x8x64 : Shape := ⟨4, ![1, 8, 8, 64]⟩
abbrev S8x8x64 : Shape := ⟨3, ![8, 8, 64]⟩
abbrev S8x8x1x64 : Shape := ⟨4, ![8, 8, 1, 64]⟩
abbrev S8x8x64x1 : Shape := ⟨4, ![8, 8, 64, 1]⟩
abbrev S1x1x8x64 : Shape := ⟨4, ![1, 1, 8, 64]⟩

abbrev nBuf : Space → Nat
  | .hbm => 225
  | .vmem => 0
  | .smem => 0
  | _ => 0

abbrev hbmTy0_0 (i : Nat) : BufTy := match i % 128 with
  | 0 => ⟨S8x4096x1824, .f32⟩
  | 1 => ⟨S1824, .f32⟩
  | 2 => ⟨S512, .f32⟩
  | 3 => ⟨S64x512, .f32⟩
  | 4 => ⟨S512, .f32⟩
  | 5 => ⟨S64x512, .f32⟩
  | 6 => ⟨S160x512, .f32⟩
  | 7 => ⟨S512, .f32⟩
  | 8 => ⟨S512, .f32⟩
  | 9 => ⟨S8x64, .f32⟩
  | 10 => ⟨S512, .f32⟩
  | 11 => ⟨S512, .f32⟩
  | 12 => ⟨S_, .i32⟩
  | 13 => ⟨S_, .f32⟩
  | 14 => ⟨S8x4097x1824, .f32⟩
  | 15 => ⟨S8x4096x1824, .f32⟩
  | 16 => ⟨S8x4096x1824, .f32⟩
  | 17 => ⟨S1x1x1824, .f32⟩
  | 18 => ⟨S8x4096x1824, .f32⟩
  | 19 => ⟨S8x4096x1824, .f32⟩
  | 20 => ⟨S8x4096x1824, .f32⟩
  | 21 => ⟨S8x4096x512, .f32⟩
  | 22 => ⟨S8x4096x512, .f32⟩
  | 23 => ⟨S8x4096x512, .f32⟩
  | 24 => ⟨S8x4096x64, .f32⟩
  | 25 => ⟨S8x4096x64, .f32⟩
  | 26 => ⟨S8x4096x160, .f32⟩
  | 27 => ⟨S8x4096x64, .f32⟩
  | 28 => ⟨S8x4096x512, .f32⟩
  | 29 => ⟨S1x1x512, .f32⟩
  | 30 => ⟨S8x4096x512, .f32⟩
  | 31 => ⟨S8x4096x512, .f32⟩
  | 32 => ⟨S8x4096x512, .f32⟩
  | 33 => ⟨S_, .f32⟩
  | 34 => ⟨S8x4096x512, .f32⟩
  | 35 => ⟨S8x4096x512, .f32⟩
  | 36 => ⟨S8x4096x512, .f32⟩
  | 37 => ⟨S8x4096x512, .f32⟩
  | 38 => ⟨S8x4096x512, .i1⟩
  | 39 => ⟨S8x4096x512, .f32⟩
  | 40 => ⟨S8x4096x512, .f32⟩
  | 41 => ⟨S8x4096x512, .f32⟩
  | 42 => ⟨S8x4096x512, .f32⟩
  | 43 => ⟨S8x4096x512, .f32⟩
  | 44 => ⟨S8x4096x512, .f32⟩
  | 45 => ⟨S8x4096x512, .f32⟩
  | 46 => ⟨S8x4096x512, .f32⟩
  | 47 => ⟨S8x4096x512, .f32⟩
  | 48 => ⟨S_, .f32⟩
  | 49 => ⟨S8x4096x512, .f32⟩
  | 50 => ⟨S8x4096x512, .f32⟩
  | 51 => ⟨S8x4096x512, .f32⟩
  | 52 => ⟨S8x4096x512, .f32⟩
  | 53 => ⟨S8x4096x512, .f32⟩
  | 54 => ⟨S8x4096x512, .f32⟩
  | 55 => ⟨S1x1x512, .f32⟩
  | 56 => ⟨S8x4096x512, .f32⟩
  | 57 => ⟨S8x4096x512, .f32⟩
  | 58 => ⟨S8x4096x512, .f32⟩
  | 59 => ⟨S8x4096x512, .f32⟩
  | 60 => ⟨S_, .f32⟩
  | 61 => ⟨S8x4096x512, .f32⟩
  | 62 => ⟨S8x4096x512, .f32⟩
  | 63 => ⟨S_, .f32⟩
  | 64 => ⟨S8x4096x512, .f32⟩
  | 65 => ⟨S8x4096x512, .f32⟩
  | 66 => ⟨S8x4096x160, .f32⟩
  | 67 => ⟨S8x4096x160, .f32⟩
  | 68 => ⟨S_, .f32⟩
  | 69 => ⟨S8x4096x160, .f32⟩
  | 70 => ⟨S8x4096x160, .f32⟩
  | 71 => ⟨S_, .f32⟩
  | 72 => ⟨S8x4096x160, .f32⟩
  | 73 => ⟨S8x4096x160, .f32⟩
  | 74 => ⟨S8x4096x512, .f32⟩
  | 75 => ⟨S1x1x512, .f32⟩
  | 76 => ⟨S8x4096x512, .f32⟩
  | 77 => ⟨S8x4096x512, .f32⟩
  | 78 => ⟨S8x4096x8x64, .f32⟩
  | 79 => ⟨S8x4096x8x64, .f32⟩
  | 80 => ⟨S_, .f32⟩
  | 81 => ⟨S8x4096x8, .f32⟩
  | 82 => ⟨S8x4096x8x1, .f32⟩
  | 83 => ⟨S8x4096x8x1, .f32⟩
  | 84 => ⟨S_, .f32⟩
  | 85 => ⟨S8x4096x8x1, .f32⟩
  | 86 => ⟨S8x4096x8x1, .f32⟩
  | 87 => ⟨S8x4096x8x64, .f32⟩
  | 88 => ⟨S8x4096x8x64, .f32⟩
  | 89 => ⟨S_, .f32⟩
  | 90 => ⟨S8x4096x512, .f32⟩
  | 91 => ⟨S8x4096x512, .f32⟩
  | 92 => ⟨S1x1x512, .f32⟩
  | 93 => ⟨S8x4096x512, .f32⟩
  | 94 => ⟨S8x4096x512, .f32⟩
  | 95 => ⟨S_, .f32⟩
  | 96 => ⟨S8x4096x512, .f32⟩
  | 97 => ⟨S8x4096x512, .f32⟩
  | 98 => ⟨S8x4096x512, .f32⟩
  | 99 => ⟨S8x4096x8x64, .f32⟩
  | 100 => ⟨S8x4096x8x64, .f32⟩
  | 101 => ⟨S8x4096x8x64, .f32⟩
  | 102 => ⟨S8x4096x8x64, .f32⟩
  | 103 => ⟨S8x4096x8x64, .f32⟩
  | 104 => ⟨S8x4096x8x64, .f32⟩
  | 105 => ⟨S8x4096x8x64, .f32⟩
  | 106 => ⟨S4096x8x8x64, .f32⟩
  | 107 => ⟨S4096x8x8x64, .f32⟩
  | 108 => ⟨S4096x8x8x64, .f32⟩
  | 109 => ⟨S4096x8x8x64, .f32⟩
  | 110 => ⟨S4096x8x8x64, .f32⟩
  | 111 => ⟨S4096x8x8x64, .f32⟩
  | 112 => ⟨S_, .f32⟩
  | 113 => ⟨S8x8x64x64, .f32⟩
  | 114 => ⟨S_, .f32⟩
  | 115 => ⟨S4096x8x8x64, .f32⟩
  | 116 => ⟨S_, .i32⟩
  | 117 => ⟨S4096x8x8x64, .f32⟩
  | 118 => ⟨S4096x8x8x64, .f32⟩
  | 119 => ⟨S4096x8x8x64, .f32⟩
  | 120 => ⟨S4096x8x8x64, .f32⟩
  | 121 => ⟨S4096x8x8x64, .f32⟩
  | 122 => ⟨S4096x8x8x64, .f32⟩
  | 123 => ⟨S_, .i32⟩
  | 124 => ⟨S8x8x64x64, .f32⟩
  | 125 => ⟨S4096x8x8x64, .f32⟩
  | 126 => ⟨S_, .i32⟩
  | 127 => ⟨S_, .i1⟩
  | _ => ⟨S8x4096x1824, .f32⟩

abbrev hbmTy0_1 (i : Nat) : BufTy := match i % 128 with
  | 0 => ⟨S_, .i32⟩
  | 1 => ⟨S_, .i32⟩
  | 2 => ⟨S_, .i32⟩
  | 3 => ⟨S1x8x8x64, .f32⟩
  | 4 => ⟨S8x8x64, .f32⟩
  | 5 => ⟨S_, .i32⟩
  | 6 => ⟨S_, .i32⟩
  | 7 => ⟨S_, .i32⟩
  | 8 => ⟨S1x8x8x64, .f32⟩
  | 9 => ⟨S8x8x64, .f32⟩
  | 10 => ⟨S_, .i32⟩
  | 11 => ⟨S_, .i32⟩
  | 12 => ⟨S_, .i32⟩
  | 13 => ⟨S1x8x8x64, .f32⟩
  | 14 => ⟨S8x8x64, .f32⟩
  | 15 => ⟨S_, .i32⟩
  | 16 => ⟨S_, .i32⟩
  | 17 => ⟨S_, .i32⟩
  | 18 => ⟨S1x8x8x64, .f32⟩
  | 19 => ⟨S8x8x64, .f32⟩
  | 20 => ⟨S_, .i32⟩
  | 21 => ⟨S_, .i32⟩
  | 22 => ⟨S_, .i32⟩
  | 23 => ⟨S1x8x8x64, .f32⟩
  | 24 => ⟨S8x8x64, .f32⟩
  | 25 => ⟨S_, .i32⟩
  | 26 => ⟨S_, .i32⟩
  | 27 => ⟨S_, .i32⟩
  | 28 => ⟨S1x8x8x64, .f32⟩
  | 29 => ⟨S8x8x64, .f32⟩
  | 30 => ⟨S8x8x64, .f32⟩
  | 31 => ⟨S8x8x1x64, .f32⟩
  | 32 => ⟨S8x8x64x64, .f32⟩
  | 33 => ⟨S8x8x64x64, .f32⟩
  | 34 => ⟨S8x8x64x1, .f32⟩
  | 35 => ⟨S8x8x1x64, .f32⟩
  | 36 => ⟨S8x8x64x64, .f32⟩
  | 37 => ⟨S8x8x64x64, .f32⟩
  | 38 => ⟨S8x8x64x64, .f32⟩
  | 39 => ⟨S8x8x64x64, .f32⟩
  | 40 => ⟨S8x8x64x1, .f32⟩
  | 41 => ⟨S8x8x1x64, .f32⟩
  | 42 => ⟨S8x8x64x64, .f32⟩
  | 43 => ⟨S8x8x64x64, .f32⟩
  | 44 => ⟨S8x8x64x64, .f32⟩
  | 45 => ⟨S8x8x64x64, .f32⟩
  | 46 => ⟨S8x8x64, .f32⟩
  | 47 => ⟨S1x8x8x64, .f32⟩
  | 48 => ⟨S_, .i32⟩
  | 49 => ⟨S_, .i32⟩
  | 50 => ⟨S_, .i32⟩
  | 51 => ⟨S4096x8x8x64, .f32⟩
  | 52 => ⟨S_, .i32⟩
  | 53 => ⟨S_, .i32⟩
  | 54 => ⟨S8x4096x8x64, .f32⟩
  | 55 => ⟨S_, .f32⟩
  | 56 => ⟨S8x4096x8, .f32⟩
  | 57 => ⟨S8x4096x8x1, .f32⟩
  | 58 => ⟨S_, .f32⟩
  | 59 => ⟨S8x4096x8x1, .f32⟩
  | 60 => ⟨S8x4096x8x1, .f32⟩
  | 61 => ⟨S8x4096x8x64, .f32⟩
  | 62 => ⟨S8x4096x8x64, .f32⟩
  | 63 => ⟨S8x4096x8x64, .f32⟩
  | 64 => ⟨S_, .f32⟩
  | 65 => ⟨S8x4096x8, .f32⟩
  | 66 => ⟨S8x4096x8x1, .f32⟩
  | 67 => ⟨S_, .f32⟩
  | 68 => ⟨S8x4096x8x1, .f32⟩
  | 69 => ⟨S8x4096x8x1, .f32⟩
  | 70 => ⟨S8x4096x8x64, .f32⟩
  | 71 => ⟨S8x4096x8x64, .f32⟩
  | 72 => ⟨S_, .f32⟩
  | 73 => ⟨S8x4096x8x1, .f32⟩
  | 74 => ⟨S8x4096x8x1, .f32⟩
  | 75 => ⟨S8x4096x8x1, .f32⟩
  | 76 => ⟨S8x4096x8x64, .f32⟩
  | 77 => ⟨S8x4096x8x64, .f32⟩
  | 78 => ⟨S8x4096x512, .f32⟩
  | 79 => ⟨S1x1x512, .f32⟩
  | 80 => ⟨S8x4096x512, .f32⟩
  | 81 => ⟨S8x4096x512, .f32⟩
  | 82 => ⟨S1x1x512, .f32⟩
  | 83 => ⟨S8x4096x512, .f32⟩
  | 84 => ⟨S8x4096x512, .f32⟩
  | 85 => ⟨S8x4096x8x64, .f32⟩
  | 86 => ⟨S1x1x8x64, .f32⟩
  | 87 => ⟨S8x4096x8x64, .f32⟩
  | 88 => ⟨S8x4096x8x64, .f32⟩
  | 89 => ⟨S_, .f32⟩
  | 90 => ⟨S8x4096x8, .f32⟩
  | 91 => ⟨S8x4096x8x1, .f32⟩
  | 92 => ⟨S8x4096x8x64, .f32⟩
  | 93 => ⟨S8x4096x8x64, .f32⟩
  | 94 => ⟨S8x4096x512, .f32⟩
  | 95 => ⟨S8x4096x512, .f32⟩
  | 96 => ⟨S8x4096x512, .f32⟩
  | _ => ⟨S8x4096x1824, .f32⟩

abbrev hbmTy (i : Nat) : BufTy := match i / 128 with
  | 0 => hbmTy0_0 i
  | 1 => hbmTy0_1 i
  | _ => ⟨S8x4096x1824, .f32⟩

abbrev bufTy : (tb : Table) → Fin (tcTables nBuf tb) → BufTy
  | .hbm, ⟨i, _⟩ => hbmTy i
  | _, _ => ⟨S8x4096x1824, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_call0_v0 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_call1_cst : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_v19 : Ref sig .tc := ⟨.hbm, 46, rfl⟩
abbrev main_v20 : Ref sig .tc := ⟨.hbm, 47, rfl⟩
abbrev main_cst : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_cst_0 : Ref sig .tc := ⟨.hbm, 60, rfl⟩
abbrev main_v32 : Ref sig .tc := ⟨.hbm, 61, rfl⟩
abbrev main_v33 : Ref sig .tc := ⟨.hbm, 62, rfl⟩
abbrev main_cst_1 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_cst_2 : Ref sig .tc := ⟨.hbm, 68, rfl⟩
abbrev main_v38 : Ref sig .tc := ⟨.hbm, 69, rfl⟩
abbrev main_v39 : Ref sig .tc := ⟨.hbm, 70, rfl⟩
abbrev main_cst_3 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_call2_v0 : Ref sig .tc := ⟨.hbm, 79, rfl⟩
abbrev main_call2_cst : Ref sig .tc := ⟨.hbm, 80, rfl⟩
abbrev main_call2_v1 : Ref sig .tc := ⟨.hbm, 81, rfl⟩
abbrev main_call2_v2 : Ref sig .tc := ⟨.hbm, 82, rfl⟩
abbrev main_v47 : Ref sig .tc := ⟨.hbm, 83, rfl⟩
abbrev main_cst_4 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_cst_5 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_cst_6 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_cst_7 : Ref sig .tc := ⟨.hbm, 112, rfl⟩
abbrev main_v73 : Ref sig .tc := ⟨.hbm, 113, rfl⟩
abbrev main_cst_8 : Ref sig .tc := ⟨.hbm, 114, rfl⟩
abbrev main_v74 : Ref sig .tc := ⟨.hbm, 115, rfl⟩
abbrev main_c_9 : Ref sig .tc := ⟨.hbm, 116, rfl⟩
abbrev main_v75_0 : Ref sig .tc := ⟨.hbm, 117, rfl⟩
abbrev main_v75_1 : Ref sig .tc := ⟨.hbm, 118, rfl⟩
abbrev main_v75_2 : Ref sig .tc := ⟨.hbm, 119, rfl⟩
abbrev main_v75_3 : Ref sig .tc := ⟨.hbm, 120, rfl⟩
abbrev main_v75_4 : Ref sig .tc := ⟨.hbm, 121, rfl⟩
abbrev main_v75_5 : Ref sig .tc := ⟨.hbm, 122, rfl⟩
abbrev main_v75_6 : Ref sig .tc := ⟨.hbm, 123, rfl⟩
abbrev main_v75_7 : Ref sig .tc := ⟨.hbm, 124, rfl⟩
abbrev main_v75_8 : Ref sig .tc := ⟨.hbm, 125, rfl⟩
abbrev main_while0c_c_24 : Ref sig .tc := ⟨.hbm, 126, rfl⟩
abbrev main_while0c_v113 : Ref sig .tc := ⟨.hbm, 127, rfl⟩
abbrev main_while0b_call3_c : Ref sig .tc := ⟨.hbm, 128, rfl⟩
abbrev main_while0b_call3_c_0 : Ref sig .tc := ⟨.hbm, 129, rfl⟩
abbrev main_while0b_call3_c_1 : Ref sig .tc := ⟨.hbm, 130, rfl⟩
abbrev main_while0b_call3_v0 : Ref sig .tc := ⟨.hbm, 131, rfl⟩
abbrev main_while0b_v113 : Ref sig .tc := ⟨.hbm, 132, rfl⟩
abbrev main_while0b_call4_c : Ref sig .tc := ⟨.hbm, 133, rfl⟩
abbrev main_while0b_call4_c_0 : Ref sig .tc := ⟨.hbm, 134, rfl⟩
abbrev main_while0b_call4_c_1 : Ref sig .tc := ⟨.hbm, 135, rfl⟩
abbrev main_while0b_call4_v0 : Ref sig .tc := ⟨.hbm, 136, rfl⟩
abbrev main_while0b_v114 : Ref sig .tc := ⟨.hbm, 137, rfl⟩
abbrev main_while0b_call5_c : Ref sig .tc := ⟨.hbm, 138, rfl⟩
abbrev main_while0b_call5_c_0 : Ref sig .tc := ⟨.hbm, 139, rfl⟩
abbrev main_while0b_call5_c_1 : Ref sig .tc := ⟨.hbm, 140, rfl⟩
abbrev main_while0b_call5_v0 : Ref sig .tc := ⟨.hbm, 141, rfl⟩
abbrev main_while0b_v115 : Ref sig .tc := ⟨.hbm, 142, rfl⟩
abbrev main_while0b_call6_c : Ref sig .tc := ⟨.hbm, 143, rfl⟩
abbrev main_while0b_call6_c_0 : Ref sig .tc := ⟨.hbm, 144, rfl⟩
abbrev main_while0b_call6_c_1 : Ref sig .tc := ⟨.hbm, 145, rfl⟩
abbrev main_while0b_call6_v0 : Ref sig .tc := ⟨.hbm, 146, rfl⟩
abbrev main_while0b_v116 : Ref sig .tc := ⟨.hbm, 147, rfl⟩
abbrev main_while0b_call7_c : Ref sig .tc := ⟨.hbm, 148, rfl⟩
abbrev main_while0b_call7_c_0 : Ref sig .tc := ⟨.hbm, 149, rfl⟩
abbrev main_while0b_call7_c_1 : Ref sig .tc := ⟨.hbm, 150, rfl⟩
abbrev main_while0b_call7_v0 : Ref sig .tc := ⟨.hbm, 151, rfl⟩
abbrev main_while0b_v117 : Ref sig .tc := ⟨.hbm, 152, rfl⟩
abbrev main_while0b_call8_c : Ref sig .tc := ⟨.hbm, 153, rfl⟩
abbrev main_while0b_call8_c_0 : Ref sig .tc := ⟨.hbm, 154, rfl⟩
abbrev main_while0b_call8_c_1 : Ref sig .tc := ⟨.hbm, 155, rfl⟩
abbrev main_while0b_call8_v0 : Ref sig .tc := ⟨.hbm, 156, rfl⟩
abbrev main_while0b_v118 : Ref sig .tc := ⟨.hbm, 157, rfl⟩
abbrev main_while0b_v119 : Ref sig .tc := ⟨.hbm, 158, rfl⟩
abbrev main_while0b_v120 : Ref sig .tc := ⟨.hbm, 159, rfl⟩
abbrev main_while0b_v121 : Ref sig .tc := ⟨.hbm, 160, rfl⟩
abbrev main_while0b_v122 : Ref sig .tc := ⟨.hbm, 161, rfl⟩
abbrev main_while0b_v123 : Ref sig .tc := ⟨.hbm, 162, rfl⟩
abbrev main_while0b_v124 : Ref sig .tc := ⟨.hbm, 163, rfl⟩
abbrev main_while0b_v125 : Ref sig .tc := ⟨.hbm, 164, rfl⟩
abbrev main_while0b_v126 : Ref sig .tc := ⟨.hbm, 165, rfl⟩
abbrev main_while0b_v127 : Ref sig .tc := ⟨.hbm, 166, rfl⟩
abbrev main_while0b_v128 : Ref sig .tc := ⟨.hbm, 167, rfl⟩
abbrev main_while0b_v129 : Ref sig .tc := ⟨.hbm, 168, rfl⟩
abbrev main_while0b_v130 : Ref sig .tc := ⟨.hbm, 169, rfl⟩
abbrev main_while0b_v131 : Ref sig .tc := ⟨.hbm, 170, rfl⟩
abbrev main_while0b_v132 : Ref sig .tc := ⟨.hbm, 171, rfl⟩
abbrev main_while0b_v133 : Ref sig .tc := ⟨.hbm, 172, rfl⟩
abbrev main_while0b_v134 : Ref sig .tc := ⟨.hbm, 173, rfl⟩
abbrev main_while0b_v135 : Ref sig .tc := ⟨.hbm, 174, rfl⟩
abbrev main_while0b_call9_v0 : Ref sig .tc := ⟨.hbm, 175, rfl⟩
abbrev main_while0b_call9_c : Ref sig .tc := ⟨.hbm, 176, rfl⟩
abbrev main_while0b_call9_c_0 : Ref sig .tc := ⟨.hbm, 177, rfl⟩
abbrev main_while0b_call9_c_1 : Ref sig .tc := ⟨.hbm, 178, rfl⟩
abbrev main_while0b_v136 : Ref sig .tc := ⟨.hbm, 179, rfl⟩
abbrev main_while0b_c_24 : Ref sig .tc := ⟨.hbm, 180, rfl⟩
abbrev main_while0b_v137 : Ref sig .tc := ⟨.hbm, 181, rfl⟩
abbrev main_v76 : Ref sig .tc := ⟨.hbm, 182, rfl⟩
abbrev main_cst_10 : Ref sig .tc := ⟨.hbm, 183, rfl⟩
abbrev main_v77 : Ref sig .tc := ⟨.hbm, 184, rfl⟩
abbrev main_v78 : Ref sig .tc := ⟨.hbm, 185, rfl⟩
abbrev main_cst_11 : Ref sig .tc := ⟨.hbm, 186, rfl⟩
abbrev main_v79 : Ref sig .tc := ⟨.hbm, 187, rfl⟩
abbrev main_v80 : Ref sig .tc := ⟨.hbm, 188, rfl⟩
abbrev main_v81 : Ref sig .tc := ⟨.hbm, 189, rfl⟩
abbrev main_v82 : Ref sig .tc := ⟨.hbm, 190, rfl⟩
abbrev main_v83 : Ref sig .tc := ⟨.hbm, 191, rfl⟩
abbrev main_cst_12 : Ref sig .tc := ⟨.hbm, 192, rfl⟩
abbrev main_v84 : Ref sig .tc := ⟨.hbm, 193, rfl⟩
abbrev main_v85 : Ref sig .tc := ⟨.hbm, 194, rfl⟩
abbrev main_cst_13 : Ref sig .tc := ⟨.hbm, 195, rfl⟩
abbrev main_v86 : Ref sig .tc := ⟨.hbm, 196, rfl⟩
abbrev main_v87 : Ref sig .tc := ⟨.hbm, 197, rfl⟩
abbrev main_v88 : Ref sig .tc := ⟨.hbm, 198, rfl⟩
abbrev main_v89 : Ref sig .tc := ⟨.hbm, 199, rfl⟩
abbrev main_cst_14 : Ref sig .tc := ⟨.hbm, 200, rfl⟩
abbrev main_v90 : Ref sig .tc := ⟨.hbm, 201, rfl⟩
abbrev main_v91 : Ref sig .tc := ⟨.hbm, 202, rfl⟩
abbrev main_v92 : Ref sig .tc := ⟨.hbm, 203, rfl⟩
abbrev main_v93 : Ref sig .tc := ⟨.hbm, 204, rfl⟩
abbrev main_v94 : Ref sig .tc := ⟨.hbm, 205, rfl⟩
abbrev main_v95 : Ref sig .tc := ⟨.hbm, 206, rfl⟩
abbrev main_v96 : Ref sig .tc := ⟨.hbm, 207, rfl⟩
abbrev main_v97 : Ref sig .tc := ⟨.hbm, 208, rfl⟩
abbrev main_v98 : Ref sig .tc := ⟨.hbm, 209, rfl⟩
abbrev main_v99 : Ref sig .tc := ⟨.hbm, 210, rfl⟩
abbrev main_v100 : Ref sig .tc := ⟨.hbm, 211, rfl⟩
abbrev main_v101 : Ref sig .tc := ⟨.hbm, 212, rfl⟩
abbrev main_v102 : Ref sig .tc := ⟨.hbm, 213, rfl⟩
abbrev main_v103 : Ref sig .tc := ⟨.hbm, 214, rfl⟩
abbrev main_v104 : Ref sig .tc := ⟨.hbm, 215, rfl⟩
abbrev main_v105 : Ref sig .tc := ⟨.hbm, 216, rfl⟩
abbrev main_cst_15 : Ref sig .tc := ⟨.hbm, 217, rfl⟩
abbrev main_v106 : Ref sig .tc := ⟨.hbm, 218, rfl⟩
abbrev main_v107 : Ref sig .tc := ⟨.hbm, 219, rfl⟩
abbrev main_v108 : Ref sig .tc := ⟨.hbm, 220, rfl⟩
abbrev main_v109 : Ref sig .tc := ⟨.hbm, 221, rfl⟩
abbrev main_v110 : Ref sig .tc := ⟨.hbm, 222, rfl⟩
abbrev main_v111 : Ref sig .tc := ⟨.hbm, 223, rfl⟩
abbrev main_v112 : Ref sig .tc := ⟨.hbm, 224, rfl⟩

abbrev nD : Nat := 1
abbrev τ : Topo := Topo.v7x

variable {F : FTy → Type} [FloatOps F]

abbrev main_while0_count : Scf.Loop 32 := ⟨0#32, 4096#32, 1#32⟩
-- ==== Kernel2.lean ====
abbrev S8x4096x1024 : Shape := ⟨3, ![8, 4096, 1024]⟩
abbrev S8x4096x512 : Shape := ⟨3, ![8, 4096, 512]⟩
abbrev S8x6144 : Shape := ⟨2, ![8, 6144]⟩
abbrev S1024 : Shape := ⟨1, ![1024]⟩
abbrev S1024x1024 : Shape := ⟨2, ![1024, 1024]⟩
abbrev S1024x2816 : Shape := ⟨2, ![1024, 2816]⟩
abbrev S2816x1024 : Shape := ⟨2, ![2816, 1024]⟩
abbrev S8x6x1024 : Shape := ⟨3, ![8, 6, 1024]⟩
abbrev S1x1024 : Shape := ⟨2, ![1, 1024]⟩
abbrev S1x512x1024 : Shape := ⟨3, ![1, 512, 1024]⟩
abbrev S1x512x512 : Shape := ⟨3, ![1, 512, 512]⟩
abbrev S1x6x1024 : Shape := ⟨3, ![1, 6, 1024]⟩
abbrev S1024x1408 : Shape := ⟨2, ![1024, 1408]⟩
abbrev S1408x1024 : Shape := ⟨2, ![1408, 1024]⟩
abbrev S512x1024 : Shape := ⟨2, ![512, 1024]⟩
abbrev S1x256x512 : Shape := ⟨3, ![1, 256, 512]⟩
abbrev S256x512 : Shape := ⟨2, ![256, 512]⟩
abbrev S256x1024 : Shape := ⟨2, ![256, 1024]⟩
abbrev S1x256x1024 : Shape := ⟨3, ![1, 256, 1024]⟩
abbrev S1x1x1024 : Shape := ⟨3, ![1, 1, 1024]⟩
abbrev S256 : Shape := ⟨1, ![256]⟩
abbrev S256x1 : Shape := ⟨2, ![256, 1]⟩
abbrev S512x1408 : Shape := ⟨2, ![512, 1408]⟩
abbrev S512 : Shape := ⟨1, ![512]⟩
abbrev S512x1 : Shape := ⟨2, ![512, 1]⟩

abbrev nBuf : Space → Nat
  | .hbm => 20
  | .vmem => 23
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .f32⟩
  | .hbm, ⟨2, _⟩ => ⟨S8x4096x512, .f32⟩
  | .hbm, ⟨3, _⟩ => ⟨S8x6144, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1024x1024, .f32⟩
  | .hbm, ⟨8, _⟩ => ⟨S1024x2816, .f32⟩
  | .hbm, ⟨9, _⟩ => ⟨S1024x2816, .f32⟩
  | .hbm, ⟨10, _⟩ => ⟨S2816x1024, .f32⟩
  | .hbm, ⟨11, _⟩ => ⟨S8x6x1024, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S1024x1024, .bf16⟩
  | .hbm, ⟨16, _⟩ => ⟨S1024x2816, .bf16⟩
  | .hbm, ⟨17, _⟩ => ⟨S1024x2816, .bf16⟩
  | .hbm, ⟨18, _⟩ => ⟨S2816x1024, .bf16⟩
  | .hbm, ⟨19, _⟩ => ⟨S8x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .f32⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .vmem, ⟨6, _⟩ => ⟨S1x6x1024, .f32⟩
  | .local _ .vmem, ⟨7, _⟩ => ⟨S1x6x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1024x1024, .bf16⟩
  | .local _ .vmem, ⟨12, _⟩ => ⟨S1024x1408, .bf16⟩
  | .local _ .vmem, ⟨13, _⟩ => ⟨S1024x1408, .bf16⟩
  | .local _ .vmem, ⟨14, _⟩ => ⟨S1024x1408, .bf16⟩
  | .local _ .vmem, ⟨15, _⟩ => ⟨S1024x1408, .bf16⟩
  | .local _ .vmem, ⟨16, _⟩ => ⟨S1408x1024, .bf16⟩
  | .local _ .vmem, ⟨17, _⟩ => ⟨S1408x1024, .bf16⟩
  | .local _ .vmem, ⟨18, _⟩ => ⟨S1x512x1024, .f32⟩
  | .local _ .vmem, ⟨19, _⟩ => ⟨S1x512x1024, .f32⟩
  | .local _ .vmem, ⟨20, _⟩ => ⟨S512x1024, .f32⟩
  | .local _ .vmem, ⟨21, _⟩ => ⟨S512x1024, .bf16⟩
  | .local _ .vmem, ⟨22, _⟩ => ⟨S512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨3, ![8, 8, 2], ![false, false, false]⟩

def k0_cond2 (i : grid0.Coords) : BitVec 1 :=
  let arg2 : BitVec 32 := BitVec.ofNat 32 (i 2).val
  let c1_i32 : BitVec 32 := 1#32
  let v22 : BitVec 1 := Scalar.cmpi .eq arg2 c1_i32
  let v23 : BitVec 32 := Scalar.extui v22
  let c0_i32_14 : BitVec 32 := 0#32
  let v24 : BitVec 1 := Scalar.cmpi .ne v23 c0_i32_14
  v24

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S1024x1408 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, false, true]

abbrev stage0_9 : Fin 2 → Memref sig .tc .vmem S1024x1408 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, false, true]

abbrev stage0_10 : Fin 2 → Memref sig .tc .vmem S1408x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, false, true]

abbrev stage0_11 : Fin 2 → Memref sig .tc .vmem S1x512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, false]
-- ==== Reference2Ideal.lean ====
abbrev S8x4096x1024 : Shape := ⟨3, ![8, 4096, 1024]⟩
abbrev S8x4096x512 : Shape := ⟨3, ![8, 4096, 512]⟩
abbrev S8x6144 : Shape := ⟨2, ![8, 6144]⟩
abbrev S1024 : Shape := ⟨1, ![1024]⟩
abbrev S1024x1024 : Shape := ⟨2, ![1024, 1024]⟩
abbrev S1024x2816 : Shape := ⟨2, ![1024, 2816]⟩
abbrev S2816x1024 : Shape := ⟨2, ![2816, 1024]⟩
abbrev S8x1024 : Shape := ⟨2, ![8, 1024]⟩
abbrev S8x1x1024 : Shape := ⟨3, ![8, 1, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x2816 : Shape := ⟨3, ![8, 4096, 2816]⟩

abbrev nBuf : Space → Nat
  | .hbm => 99
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .f32⟩
  | .hbm, ⟨2, _⟩ => ⟨S8x4096x512, .f32⟩
  | .hbm, ⟨3, _⟩ => ⟨S8x6144, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1024x1024, .f32⟩
  | .hbm, ⟨8, _⟩ => ⟨S1024x2816, .f32⟩
  | .hbm, ⟨9, _⟩ => ⟨S1024x2816, .f32⟩
  | .hbm, ⟨10, _⟩ => ⟨S2816x1024, .f32⟩
  | .hbm, ⟨11, _⟩ => ⟨S8x1024, .f32⟩
  | .hbm, ⟨12, _⟩ => ⟨S8x1024, .f32⟩
  | .hbm, ⟨13, _⟩ => ⟨S8x1024, .f32⟩
  | .hbm, ⟨14, _⟩ => ⟨S8x1024, .f32⟩
  | .hbm, ⟨15, _⟩ => ⟨S8x1024, .f32⟩
  | .hbm, ⟨16, _⟩ => ⟨S8x1024, .f32⟩
  | .hbm, ⟨17, _⟩ => ⟨S8x1x1024, .f32⟩
  | .hbm, ⟨18, _⟩ => ⟨S8x1x1024, .f32⟩
  | .hbm, ⟨19, _⟩ => ⟨S8x1x1024, .f32⟩
  | .hbm, ⟨20, _⟩ => ⟨S8x1x1024, .f32⟩
  | .hbm, ⟨21, _⟩ => ⟨S8x1x1024, .f32⟩
  | .hbm, ⟨22, _⟩ => ⟨S8x1x1024, .f32⟩
  | .hbm, ⟨23, _⟩ => ⟨S8x4096x1024, .f32⟩
  | .hbm, ⟨24, _⟩ => ⟨S8x4096x1024, .f32⟩
  | .hbm, ⟨25, _⟩ => ⟨S8x4096x1024, .f32⟩
  | .hbm, ⟨26, _⟩ => ⟨S_, .f32⟩
  | .hbm, ⟨27, _⟩ => ⟨S8x4096, .f32⟩
  | .hbm, ⟨28, _⟩ => ⟨S8x4096x1, .f32⟩
  | .hbm, ⟨29, _⟩ => ⟨S_, .f32⟩
  | .hbm, ⟨30, _⟩ => ⟨S8x4096x1, .f32⟩
  | .hbm, ⟨31, _⟩ => ⟨S8x4096x1, .f32⟩
  | .hbm, ⟨32, _⟩ => ⟨S_, .f32⟩
  | .hbm, ⟨33, _⟩ => ⟨S8x4096x1, .f32⟩
  | .hbm, ⟨34, _⟩ => ⟨S8x4096x1, .f32⟩
  | .hbm, ⟨35, _⟩ => ⟨S8x4096x1, .f32⟩
  | .hbm, ⟨36, _⟩ => ⟨S8x4096x1024, .f32⟩
  | .hbm, ⟨37, _⟩ => ⟨S8x4096x1024, .f32⟩
  | .hbm, ⟨38, _⟩ => ⟨S1x1x1024, .f32⟩
  | .hbm, ⟨39, _⟩ => ⟨S8x4096x1024, .f32⟩
  | .hbm, ⟨40, _⟩ => ⟨S8x4096x1024, .f32⟩
  | .hbm, ⟨41, _⟩ => ⟨S8x4096x1024, .f32⟩
  | .hbm, ⟨42, _⟩ => ⟨S8x4096x1024, .f32⟩
  | .hbm, ⟨43, _⟩ => ⟨S8x4096x1024, .f32⟩
  | .hbm, ⟨44, _⟩ => ⟨S8x4096x1024, .f32⟩
  | .hbm, ⟨45, _⟩ => ⟨S_, .f32⟩
  | .hbm, ⟨46, _⟩ => ⟨S8x4096, .f32⟩
  | .hbm, ⟨47, _⟩ => ⟨S8x4096x1, .f32⟩
  | .hbm, ⟨48, _⟩ => ⟨S_, .f32⟩
  | .hbm, ⟨49, _⟩ => ⟨S8x4096x1, .f32⟩
  | .hbm, ⟨50, _⟩ => ⟨S8x4096x1, .f32⟩
  | .hbm, ⟨51, _⟩ => ⟨S_, .f32⟩
  | .hbm, ⟨52, _⟩ => ⟨S8x4096x1, .f32⟩
  | .hbm, ⟨53, _⟩ => ⟨S8x4096x1, .f32⟩
  | .hbm, ⟨54, _⟩ => ⟨S8x4096x1, .f32⟩
  | .hbm, ⟨55, _⟩ => ⟨S8x4096x1024, .f32⟩
  | .hbm, ⟨56, _⟩ => ⟨S8x4096x1024, .f32⟩
  | .hbm, ⟨57, _⟩ => ⟨S1x1x1024, .f32⟩
  | .hbm, ⟨58, _⟩ => ⟨S8x4096x1024, .f32⟩
  | .hbm, ⟨59, _⟩ => ⟨S8x4096x1024, .f32⟩
  | .hbm, ⟨60, _⟩ => ⟨S_, .f32⟩
  | .hbm, ⟨61, _⟩ => ⟨S8x1x1024, .f32⟩
  | .hbm, ⟨62, _⟩ => ⟨S8x1x1024, .f32⟩
  | .hbm, ⟨63, _⟩ => ⟨S8x4096x1024, .f32⟩
  | .hbm, ⟨64, _⟩ => ⟨S8x4096x1024, .f32⟩
  | .hbm, ⟨65, _⟩ => ⟨S8x4096x1024, .f32⟩
  | .hbm, ⟨66, _⟩ => ⟨S8x4096x1024, .f32⟩
  | .hbm, ⟨67, _⟩ => ⟨S8x4096x2816, .f32⟩
  | .hbm, ⟨68, _⟩ => ⟨S8x4096x2816, .f32⟩
  | .hbm, ⟨69, _⟩ => ⟨S8x4096x2816, .f32⟩
  | .hbm, ⟨70, _⟩ => ⟨S_, .f32⟩
  | .hbm, ⟨71, _⟩ => ⟨S8x4096x2816, .f32⟩
  | .hbm, ⟨72, _⟩ => ⟨S8x4096x2816, .f32⟩
  | .hbm, ⟨73, _⟩ => ⟨S_, .f32⟩
  | .hbm, ⟨74, _⟩ => ⟨S8x4096x2816, .f32⟩
  | .hbm, ⟨75, _⟩ => ⟨S8x4096x2816, .f32⟩
  | .hbm, ⟨76, _⟩ => ⟨S8x4096x2816, .f32⟩
  | .hbm, ⟨77, _⟩ => ⟨S8x4096x2816, .f32⟩
  | .hbm, ⟨78, _⟩ => ⟨S8x4096x2816, .f32⟩
  | .hbm, ⟨79, _⟩ => ⟨S8x4096x1024, .f32⟩
  | .hbm, ⟨80, _⟩ => ⟨S8x4096x1024, .f32⟩
  | .hbm, ⟨81, _⟩ => ⟨S_, .f32⟩
  | .hbm, ⟨82, _⟩ => ⟨S8x4096, .f32⟩
  | .hbm, ⟨83, _⟩ => ⟨S8x4096x1, .f32⟩
  | .hbm, ⟨84, _⟩ => ⟨S_, .f32⟩
  | .hbm, ⟨85, _⟩ => ⟨S8x4096x1, .f32⟩
  | .hbm, ⟨86, _⟩ => ⟨S8x4096x1, .f32⟩
  | .hbm, ⟨87, _⟩ => ⟨S_, .f32⟩
  | .hbm, ⟨88, _⟩ => ⟨S8x4096x1, .f32⟩
  | .hbm, ⟨89, _⟩ => ⟨S8x4096x1, .f32⟩
  | .hbm, ⟨90, _⟩ => ⟨S8x4096x1, .f32⟩
  | .hbm, ⟨91, _⟩ => ⟨S8x4096x1024, .f32⟩
  | .hbm, ⟨92, _⟩ => ⟨S8x4096x1024, .f32⟩
  | .hbm, ⟨93, _⟩ => ⟨S1x1x1024, .f32⟩
  | .hbm, ⟨94, _⟩ => ⟨S8x4096x1024, .f32⟩
  | .hbm, ⟨95, _⟩ => ⟨S8x4096x1024, .f32⟩
  | .hbm, ⟨96, _⟩ => ⟨S8x4096x1024, .f32⟩
  | .hbm, ⟨97, _⟩ => ⟨S8x4096x1024, .f32⟩
  | .hbm, ⟨98, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst : Ref sig .tc := ⟨.hbm, 26, rfl⟩
abbrev main_v15 : Ref sig .tc := ⟨.hbm, 27, rfl⟩
abbrev main_v16 : Ref sig .tc := ⟨.hbm, 28, rfl⟩
abbrev main_cst_0 : Ref sig .tc := ⟨.hbm, 29, rfl⟩
abbrev main_v17 : Ref sig .tc := ⟨.hbm, 30, rfl⟩
abbrev main_v18 : Ref sig .tc := ⟨.hbm, 31, rfl⟩
abbrev main_cst_1 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_2 : Ref sig .tc := ⟨.hbm, 45, rfl⟩
abbrev main_v31 : Ref sig .tc := ⟨.hbm, 46, rfl⟩
abbrev main_v32 : Ref sig .tc := ⟨.hbm, 47, rfl⟩
abbrev main_cst_3 : Ref sig .tc := ⟨.hbm, 48, rfl⟩
abbrev main_v33 : Ref sig .tc := ⟨.hbm, 49, rfl⟩
abbrev main_v34 : Ref sig .tc := ⟨.hbm, 50, rfl⟩
abbrev main_cst_4 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_5 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_call0_v0 : Ref sig .tc := ⟨.hbm, 68, rfl⟩
abbrev main_call0_v1 : Ref sig .tc := ⟨.hbm, 69, rfl⟩
abbrev main_call0_cst : Ref sig .tc := ⟨.hbm, 70, rfl⟩
abbrev main_call0_v2 : Ref sig .tc := ⟨.hbm, 71, rfl⟩
abbrev main_call0_v3 : Ref sig .tc := ⟨.hbm, 72, rfl⟩
abbrev main_call0_cst_0 : Ref sig .tc := ⟨.hbm, 73, rfl⟩
abbrev main_call0_v4 : Ref sig .tc := ⟨.hbm, 74, rfl⟩
abbrev main_call0_v5 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_6 : Ref sig .tc := ⟨.hbm, 81, rfl⟩
abbrev main_v55 : Ref sig .tc := ⟨.hbm, 82, rfl⟩
abbrev main_v56 : Ref sig .tc := ⟨.hbm, 83, rfl⟩
abbrev main_cst_7 : Ref sig .tc := ⟨.hbm, 84, rfl⟩
abbrev main_v57 : Ref sig .tc := ⟨.hbm, 85, rfl⟩
abbrev main_v58 : Ref sig .tc := ⟨.hbm, 86, rfl⟩
abbrev main_cst_8 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩

abbrev nD : Nat := 1
abbrev τ : Topo := Topo.v7x

variable {F : FTy → Type} [FloatOps F]
-- ==== Kernel3.lean ====
abbrev S8x4096x1024 : Shape := ⟨3, ![8, 4096, 1024]⟩
abbrev S8x6144 : Shape := ⟨2, ![8, 6144]⟩
abbrev S1024 : Shape := ⟨1, ![1024]⟩
abbrev S1024x2280 : Shape := ⟨2, ![1024, 2280]⟩
abbrev S8x6x1024 : Shape := ⟨3, ![8, 6, 1024]⟩
abbrev S1024x456 : Shape := ⟨2, ![1024, 456]⟩
abbrev S_ : Shape := ⟨0, ![]⟩
abbrev S1024x512 : Shape := ⟨2, ![1024, 512]⟩
abbrev S1024x1824 : Shape := ⟨2, ![1024, 1824]⟩
abbrev S1024x1664 : Shape := ⟨2, ![1024, 1664]⟩
abbrev S1024x160 : Shape := ⟨2, ![1024, 160]⟩
abbrev S1024x256 : Shape := ⟨2, ![1024, 256]⟩
abbrev S1024x2432 : Shape := ⟨2, ![1024, 2432]⟩
abbrev S1x1024 : Shape := ⟨2, ![1, 1024]⟩
abbrev S8x4096x512 : Shape := ⟨3, ![8, 4096, 512]⟩
abbrev S8x4096x1920 : Shape := ⟨3, ![8, 4096, 1920]⟩
abbrev S1x1024x1024 : Shape := ⟨3, ![1, 1024, 1024]⟩
abbrev S1x6x1024 : Shape := ⟨3, ![1, 6, 1024]⟩
abbrev S1x1024x512 : Shape := ⟨3, ![1, 1024, 512]⟩
abbrev S1x1024x1920 : Shape := ⟨3, ![1, 1024, 1920]⟩
abbrev S1x1x1024 : Shape := ⟨3, ![1, 1, 1024]⟩
abbrev S1024x1024 : Shape := ⟨2, ![1024, 1024]⟩
abbrev S1024x1 : Shape := ⟨2, ![1024, 1]⟩
abbrev S1024x384 : Shape := ⟨2, ![1024, 384]⟩
abbrev S1x1024x384 : Shape := ⟨3, ![1, 1024, 384]⟩

abbrev nBuf : Space → Nat
  | .hbm => 20
  | .vmem => 10
  | .smem => 0
  | _ => 0

abbrev bufTy : (tb : Table) → Fin (tcTables nBuf tb) → BufTy
  | .hbm, ⟨0, _⟩ => ⟨S8x4096x1024, .f32⟩
  | .hbm, ⟨1, _⟩ => ⟨S8x6144, .f32⟩
  | .hbm, ⟨2, _⟩ => ⟨S1024, .f32⟩
  | .hbm, ⟨3, _⟩ => ⟨S1024x2280, .f32⟩
  | .hbm, ⟨4, _⟩ => ⟨S8x6x1024, .f32⟩
  | .hbm, ⟨5, _⟩ => ⟨S1024x456, .f32⟩
  | .hbm, ⟨6, _⟩ => ⟨S_, .i32⟩
  | .hbm, ⟨7, _⟩ => ⟨S_, .f32⟩
  | .hbm, ⟨8, _⟩ => ⟨S1024x512, .f32⟩
  | .hbm, ⟨9, _⟩ => ⟨S1024x1824, .f32⟩
  | .hbm, ⟨10, _⟩ => ⟨S1024x1664, .f32⟩
  | .hbm, ⟨11, _⟩ => ⟨S1024x160, .f32⟩
  | .hbm, ⟨12, _⟩ => ⟨S_, .i32⟩
  | .hbm, ⟨13, _⟩ => ⟨S_, .f32⟩
  | .hbm, ⟨14, _⟩ => ⟨S1024x256, .f32⟩
  | .hbm, ⟨15, _⟩ => ⟨S1024x2432, .f32⟩
  | .hbm, ⟨16, _⟩ => ⟨S1024x2432, .bf16⟩
  | .hbm, ⟨17, _⟩ => ⟨S1x1024, .f32⟩
  | .hbm, ⟨18, _⟩ => ⟨S8x4096x512, .f32⟩
  | .hbm, ⟨19, _⟩ => ⟨S8x4096x1920, .f32⟩
  | .local _ .vmem, ⟨0, _⟩ => ⟨S1x1024x1024, .f32⟩
  | .local _ .vmem, ⟨1, _⟩ => ⟨S1x1024x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x2432, .bf16⟩
  | .local _ .vmem, ⟨6, _⟩ => ⟨S1x1024x512, .f32⟩
  | .local _ .vmem, ⟨7, _⟩ => ⟨S1x1024x512, .f32⟩
  | .local _ .vmem, ⟨8, _⟩ => ⟨S1x1024x1920, .f32⟩
  | .local _ .vmem, ⟨9, _⟩ => ⟨S1x1024x1920, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_call1_v0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10_0 : Ref sig .tc := ⟨.hbm, 18, rfl⟩
abbrev main_v10_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2432 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x1920 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference3Ideal.lean ====
abbrev S8x4096x1024 : Shape := ⟨3, ![8, 4096, 1024]⟩
abbrev S8x6144 : Shape := ⟨2, ![8, 6144]⟩
abbrev S1024 : Shape := ⟨1, ![1024]⟩
abbrev S1024x2280 : Shape := ⟨2, ![1024, 2280]⟩
abbrev S8x1024 : Shape := ⟨2, ![8, 1024]⟩
abbrev S8x1x1024 : Shape := ⟨3, ![8, 1, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x2280 : Shape := ⟨3, ![8, 4096, 2280]⟩
abbrev S8x4096x456 : Shape := ⟨3, ![8, 4096, 456]⟩
abbrev S8x4096x1824 : Shape := ⟨3, ![8, 4096, 1824]⟩
abbrev S8x4096x512 : Shape := ⟨3, ![8, 4096, 512]⟩
abbrev S8x4096x1920 : Shape := ⟨3, ![8, 4096, 1920]⟩

abbrev nBuf : Space → Nat
  | .hbm => 48
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x6144, .f32⟩
  | .hbm, ⟨2, _⟩ => ⟨S1024, .f32⟩
  | .hbm, ⟨3, _⟩ => ⟨S1024x2280, .f32⟩
  | .hbm, ⟨4, _⟩ => ⟨S8x1024, .f32⟩
  | .hbm, ⟨5, _⟩ => ⟨S8x1024, .f32⟩
  | .hbm, ⟨6, _⟩ => ⟨S8x1024, .f32⟩
  | .hbm, ⟨7, _⟩ => ⟨S8x1024, .f32⟩
  | .hbm, ⟨8, _⟩ => ⟨S8x1024, .f32⟩
  | .hbm, ⟨9, _⟩ => ⟨S8x1024, .f32⟩
  | .hbm, ⟨10, _⟩ => ⟨S8x1x1024, .f32⟩
  | .hbm, ⟨11, _⟩ => ⟨S8x1x1024, .f32⟩
  | .hbm, ⟨12, _⟩ => ⟨S8x1x1024, .f32⟩
  | .hbm, ⟨13, _⟩ => ⟨S8x1x1024, .f32⟩
  | .hbm, ⟨14, _⟩ => ⟨S8x1x1024, .f32⟩
  | .hbm, ⟨15, _⟩ => ⟨S8x1x1024, .f32⟩
  | .hbm, ⟨16, _⟩ => ⟨S8x4096x1024, .f32⟩
  | .hbm, ⟨17, _⟩ => ⟨S_, .f32⟩
  | .hbm, ⟨18, _⟩ => ⟨S8x4096, .f32⟩
  | .hbm, ⟨19, _⟩ => ⟨S8x4096x1, .f32⟩
  | .hbm, ⟨20, _⟩ => ⟨S_, .f32⟩
  | .hbm, ⟨21, _⟩ => ⟨S8x4096x1, .f32⟩
  | .hbm, ⟨22, _⟩ => ⟨S8x4096x1, .f32⟩
  | .hbm, ⟨23, _⟩ => ⟨S_, .f32⟩
  | .hbm, ⟨24, _⟩ => ⟨S8x4096x1, .f32⟩
  | .hbm, ⟨25, _⟩ => ⟨S8x4096x1, .f32⟩
  | .hbm, ⟨26, _⟩ => ⟨S8x4096x1, .f32⟩
  | .hbm, ⟨27, _⟩ => ⟨S8x4096x1024, .f32⟩
  | .hbm, ⟨28, _⟩ => ⟨S8x4096x1024, .f32⟩
  | .hbm, ⟨29, _⟩ => ⟨S1x1x1024, .f32⟩
  | .hbm, ⟨30, _⟩ => ⟨S8x4096x1024, .f32⟩
  | .hbm, ⟨31, _⟩ => ⟨S8x4096x1024, .f32⟩
  | .hbm, ⟨32, _⟩ => ⟨S_, .f32⟩
  | .hbm, ⟨33, _⟩ => ⟨S8x1x1024, .f32⟩
  | .hbm, ⟨34, _⟩ => ⟨S8x1x1024, .f32⟩
  | .hbm, ⟨35, _⟩ => ⟨S8x4096x1024, .f32⟩
  | .hbm, ⟨36, _⟩ => ⟨S8x4096x1024, .f32⟩
  | .hbm, ⟨37, _⟩ => ⟨S8x4096x1024, .f32⟩
  | .hbm, ⟨38, _⟩ => ⟨S8x4096x1024, .f32⟩
  | .hbm, ⟨39, _⟩ => ⟨S8x4096x2280, .f32⟩
  | .hbm, ⟨40, _⟩ => ⟨S8x4096x456, .f32⟩
  | .hbm, ⟨41, _⟩ => ⟨S8x4096x1824, .f32⟩
  | .hbm, ⟨42, _⟩ => ⟨S_, .i32⟩
  | .hbm, ⟨43, _⟩ => ⟨S_, .f32⟩
  | .hbm, ⟨44, _⟩ => ⟨S8x4096x512, .f32⟩
  | .hbm, ⟨45, _⟩ => ⟨S_, .i32⟩
  | .hbm, ⟨46, _⟩ => ⟨S_, .f32⟩
  | .hbm, ⟨47, _⟩ => ⟨S8x4096x1920, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_2 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_c : Ref sig .tc := ⟨.hbm, 42, rfl⟩
abbrev main_call0_v0 : Ref sig .tc := ⟨.hbm, 43, rfl⟩
abbrev main_v34 : Ref sig .tc := ⟨.hbm, 44, rfl⟩
abbrev main_c_3 : Ref sig .tc := ⟨.hbm, 45, rfl⟩
abbrev main_call1_v0 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== Kernel4.lean ====
abbrev S8x1024 : Shape := ⟨2, ![8, 1024]⟩
abbrev S1024x6144 : Shape := ⟨2, ![1024, 6144]⟩
abbrev S6144 : Shape := ⟨1, ![6144]⟩
abbrev S1x6144 : Shape := ⟨2, ![1, 6144]⟩
abbrev S8x6144 : Shape := ⟨2, ![8, 6144]⟩
abbrev S1024x1536 : Shape := ⟨2, ![1024, 1536]⟩
abbrev S1x1536 : Shape := ⟨2, ![1, 1536]⟩
abbrev S8x1536 : Shape := ⟨2, ![8, 1536]⟩

abbrev nBuf : Space → Nat
  | .hbm => 5
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S1024x6144, .f32⟩
  | .hbm, ⟨2, _⟩ => ⟨S6144, .f32⟩
  | .hbm, ⟨3, _⟩ => ⟨S1x6144, .f32⟩
  | .hbm, ⟨4, _⟩ => ⟨S8x6144, .f32⟩
  | .local _ .vmem, ⟨0, _⟩ => ⟨S8x1024, .f32⟩
  | .local _ .vmem, ⟨1, _⟩ => ⟨S1024x1536, .f32⟩
  | .local _ .vmem, ⟨2, _⟩ => ⟨S1024x1536, .f32⟩
  | .local _ .vmem, ⟨3, _⟩ => ⟨S1x1536, .f32⟩
  | .local _ .vmem, ⟨4, _⟩ => ⟨S1x1536, .f32⟩
  | .local _ .vmem, ⟨5, _⟩ => ⟨S8x1536, .f32⟩
  | .local _ .vmem, ⟨6, _⟩ => ⟨S8x1536, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference4Ideal.lean ====
abbrev S8x1024 : Shape := ⟨2, ![8, 1024]⟩
abbrev S1024x6144 : Shape := ⟨2, ![1024, 6144]⟩
abbrev S6144 : Shape := ⟨1, ![6144]⟩
abbrev S_ : Shape := ⟨0, ![]⟩
abbrev S8x6144 : Shape := ⟨2, ![8, 6144]⟩
abbrev S1x6144 : Shape := ⟨2, ![1, 6144]⟩

abbrev nBuf : Space → Nat
  | .hbm => 16
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024x6144, .f32⟩
  | .hbm, ⟨2, _⟩ => ⟨S6144, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S8x6144, .f32⟩
  | .hbm, ⟨13, _⟩ => ⟨S1x6144, .f32⟩
  | .hbm, ⟨14, _⟩ => ⟨S8x6144, .f32⟩
  | .hbm, ⟨15, _⟩ => ⟨S8x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Kernel5.lean ====
abbrev S8x4096x512 : Shape := ⟨3, ![8, 4096, 512]⟩
abbrev S256 : Shape := ⟨1, ![256]⟩
abbrev S256x8x64 : Shape := ⟨3, ![256, 8, 64]⟩
abbrev S128 : Shape := ⟨1, ![128]⟩
abbrev S64 : Shape := ⟨1, ![64]⟩
abbrev S8x128x64 : Shape := ⟨3, ![8, 128, 64]⟩
abbrev S256x512 : Shape := ⟨2, ![256, 512]⟩
abbrev S8x64x128 : Shape := ⟨3, ![8, 64, 128]⟩
abbrev S1x256 : Shape := ⟨2, ![1, 256]⟩
abbrev S1x128 : Shape := ⟨2, ![1, 128]⟩
abbrev S1x64 : Shape := ⟨2, ![1, 64]⟩
abbrev S8x32x128x1024 : Shape := ⟨4, ![8, 32, 128, 1024]⟩
abbrev S8x32x64x1024 : Shape := ⟨4, ![8, 32, 64, 1024]⟩
abbrev S8x4096x64 : Shape := ⟨3, ![8, 4096, 64]⟩
abbrev S8x4096x128 : Shape := ⟨3, ![8, 4096, 128]⟩
abbrev S8x32x128x128 : Shape := ⟨4, ![8, 32, 128, 128]⟩
abbrev S8x8x4096 : Shape := ⟨3, ![8, 8, 4096]⟩
abbrev S1x1024x512 : Shape := ⟨3, ![1, 1024, 512]⟩
abbrev S1x8x128x1024 : Shape := ⟨4, ![1, 8, 128, 1024]⟩
abbrev S1x8x64x1024 : Shape := ⟨4, ![1, 8, 64, 1024]⟩
abbrev S1x1024x64 : Shape := ⟨3, ![1, 1024, 64]⟩
abbrev S1x1024x128 : Shape := ⟨3, ![1, 1024, 128]⟩
abbrev S1x8x128x128 : Shape := ⟨4, ![1, 8, 128, 128]⟩
abbrev S1x8x1024 : Shape := ⟨3, ![1, 8, 1024]⟩
abbrev S1024x512 : Shape := ⟨2, ![1024, 512]⟩
abbrev S1024x256 : Shape := ⟨2, ![1024, 256]⟩
abbrev S1024 : Shape := ⟨1, ![1024]⟩
abbrev S1024x1 : Shape := ⟨2, ![1024, 1]⟩
abbrev S1024x128 : Shape := ⟨2, ![1024, 128]⟩
abbrev S1024x64 : Shape := ⟨2, ![1024, 64]⟩
abbrev S128x128 : Shape := ⟨2, ![128, 128]⟩
abbrev S1x1x128x128 : Shape := ⟨4, ![1, 1, 128, 128]⟩
abbrev S8x128 : Shape := ⟨2, ![8, 128]⟩
abbrev S1x8x128 : Shape := ⟨3, ![1, 8, 128]⟩
abbrev S1x64x128 : Shape := ⟨3, ![1, 64, 128]⟩
abbrev S64x128 : Shape := ⟨2, ![64, 128]⟩
abbrev S1x1x64x128 : Shape := ⟨4, ![1, 1, 64, 128]⟩

abbrev nBuf : Space → Nat
  | .hbm => 22
  | .vmem => 20
  | .smem => 0
  | _ => 0

abbrev bufTy : (tb : Table) → Fin (tcTables nBuf tb) → BufTy
  | .hbm, ⟨0, _⟩ => ⟨S8x4096x512, .f32⟩
  | .hbm, ⟨1, _⟩ => ⟨S256, .f32⟩
  | .hbm, ⟨2, _⟩ => ⟨S256x8x64, .f32⟩
  | .hbm, ⟨3, _⟩ => ⟨S256x8x64, .f32⟩
  | .hbm, ⟨4, _⟩ => ⟨S128, .f32⟩
  | .hbm, ⟨5, _⟩ => ⟨S64, .f32⟩
  | .hbm, ⟨6, _⟩ => ⟨S8x128x64, .f32⟩
  | .hbm, ⟨7, _⟩ => ⟨S256x512, .f32⟩
  | .hbm, ⟨8, _⟩ => ⟨S256x512, .bf16⟩
  | .hbm, ⟨9, _⟩ => ⟨S256x512, .f32⟩
  | .hbm, ⟨10, _⟩ => ⟨S256x512, .bf16⟩
  | .hbm, ⟨11, _⟩ => ⟨S8x64x128, .f32⟩
  | .hbm, ⟨12, _⟩ => ⟨S8x64x128, .bf16⟩
  | .hbm, ⟨13, _⟩ => ⟨S1x256, .f32⟩
  | .hbm, ⟨14, _⟩ => ⟨S1x128, .f32⟩
  | .hbm, ⟨15, _⟩ => ⟨S1x64, .f32⟩
  | .hbm, ⟨16, _⟩ => ⟨S8x32x128x1024, .bf16⟩
  | .hbm, ⟨17, _⟩ => ⟨S8x32x64x1024, .bf16⟩
  | .hbm, ⟨18, _⟩ => ⟨S8x4096x64, .bf16⟩
  | .hbm, ⟨19, _⟩ => ⟨S8x4096x128, .bf16⟩
  | .hbm, ⟨20, _⟩ => ⟨S8x32x128x128, .bf16⟩
  | .hbm, ⟨21, _⟩ => ⟨S8x8x4096, .f32⟩
  | .local _ .vmem, ⟨0, _⟩ => ⟨S1x1024x512, .f32⟩
  | .local _ .vmem, ⟨1, _⟩ => ⟨S1x1024x512, .f32⟩
  | .local _ .vmem, ⟨2, _⟩ => ⟨S1x256, .f32⟩
  | .local _ .vmem, ⟨3, _⟩ => ⟨S1x128, .f32⟩
  | .local _ .vmem, ⟨4, _⟩ => ⟨S1x64, .f32⟩
  | .local _ .vmem, ⟨5, _⟩ => ⟨S256x512, .bf16⟩
  | .local _ .vmem, ⟨6, _⟩ => ⟨S256x512, .bf16⟩
  | .local _ .vmem, ⟨7, _⟩ => ⟨S8x64x128, .bf16⟩
  | .local _ .vmem, ⟨8, _⟩ => ⟨S1x8x128x1024, .bf16⟩
  | .local _ .vmem, ⟨9, _⟩ => ⟨S1x8x128x1024, .bf16⟩
  | .local _ .vmem, ⟨10, _⟩ => ⟨S1x8x64x1024, .bf16⟩
  | .local _ .vmem, ⟨11, _⟩ => ⟨S1x8x64x1024, .bf16⟩
  | .local _ .vmem, ⟨12, _⟩ => ⟨S1x1024x64, .bf16⟩
  | .local _ .vmem, ⟨13, _⟩ => ⟨S1x1024x64, .bf16⟩
  | .local _ .vmem, ⟨14, _⟩ => ⟨S1x1024x128, .bf16⟩
  | .local _ .vmem, ⟨15, _⟩ => ⟨S1x1024x128, .bf16⟩
  | .local _ .vmem, ⟨16, _⟩ => ⟨S1x8x128x128, .bf16⟩
  | .local _ .vmem, ⟨17, _⟩ => ⟨S1x8x128x128, .bf16⟩
  | .local _ .vmem, ⟨18, _⟩ => ⟨S1x8x1024, .f32⟩
  | .local _ .vmem, ⟨19, _⟩ => ⟨S1x8x1024, .f32⟩
  | _, _ => ⟨S8x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v9_2 : Ref sig .tc := ⟨.hbm, 18, rfl⟩
abbrev main_v9_3 : Ref sig .tc := ⟨.hbm, 19, rfl⟩
abbrev main_v9_4 : Ref sig .tc := ⟨.hbm, 20, rfl⟩
abbrev main_v9_5 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S8x64x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x8x128x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x8x64x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1024x64 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1024x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x8x128x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x8x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Proof.RwFrame.lean ====
/-
  The recurrence's reference leaves its arguments as they were: no operation of it, before the loop, in it or after it,
  writes one of them.
-/
module

public import proofs.«01_k».proof.Defs
public import proofs.«01_k».proof.Proof.Gen.ReferenceIdeal.Run
public import Idealize.ShloMosaic.Lib.Claim

@[expose] public section

set_option maxRecDepth 16384

noncomputable section

namespace Cert.Rw

open Cert.ReferenceIdeal Cert.ReferenceIdeal.Gen Cert.ReferenceIdeal.Value Idealize.ShloMosaic Idealize.ShloMosaic.TcCoe
open Idealize.ShloMosaic.StableHlo Idealize.SL.Sem

/-- The arrays written after the loop. -/
abbrev lateW : List (Ref sig .tc) :=
  [main_v76, main_cst_10, main_v77, main_v78, main_cst_11, main_v79, main_v80, main_v81, main_v82, main_v83,
    main_cst_12, main_v84, main_v85, main_cst_13, main_v86, main_v87, main_v88, main_v89, main_cst_14, main_v90,
    main_v91, main_v92, main_v93, main_v94, main_v95, main_v96, main_v97, main_v98, main_v99, main_v100,
    main_v101, main_v102, main_v103, main_v104, main_v105, main_cst_15, main_v106, main_v107, main_v108,
    main_v109, main_v110, main_v111, main_v112]

/-- The operations after the loop write those arrays only. -/
theorem late_writes : (hostOps0_7 : List (HloOp τ sig (Elt Ideal))).Forall
    fun op => op.writes ⊆ (lateW.map (Proc.devRef (τ := τ) .tc)).toFinset :=
  forall_writes_sub_of_map rfl

/-- The arrays written before the loop. -/
abbrev earlyW : List (Ref sig .tc) :=
  hostOps0_W ++ hostOps0_1_W ++ hostOps0_2_W ++ hostOps0_3_W ++ hostOps0_4_W ++ hostOps0_5_W ++ hostOps0_6_W

/-- The arrays written by the loop. -/
abbrev loopW : List (Ref sig .tc) :=
  condOps_W ++ while0Ops0_W ++ while0Ops0_1_W ++ while0Ops0_2_W ++ while0Ops0_3_W ++ while0Ops0_4_W ++ while0Ops0_5_W
    ++ while0Ops0_6_W ++ while0Ops0_7_W ++ while0Ops0_8_W

/-- What the operations before the loop do not write is at the loop's entry as it was at the start. -/
theorem early_keep (V : Valuation τ sig (Elt Ideal)) (r : Ref sig .tc) (h : r ∉ earlyW) :
    afterL preI V (Proc.devRef .tc r) = V (Proc.devRef .tc r) := by
  simp only [earlyW, List.mem_append, not_or] at h
  obtain ⟨⟨⟨⟨⟨⟨h0, h1⟩, h2⟩, h3⟩, h4⟩, h5⟩, h6⟩ := h
  simp only [afterL_cons, afterL_nil]
  rw [after_of_writes_sub _ _ hostOps0_6_writes h6, after_of_writes_sub _ _ hostOps0_5_writes h5,
    after_of_writes_sub _ _ hostOps0_4_writes h4, after_of_writes_sub _ _ hostOps0_3_writes h3,
    after_of_writes_sub _ _ hostOps0_2_writes h2, after_of_writes_sub _ _ hostOps0_1_writes h1,
    after_of_writes_sub _ _ hostOps0_writes h0]

/-- What the loop does not write is after any number of trips as it was at the entry. -/
theorem loop_keep (W : Dev nD → Valuation τ sig (Elt Ideal)) (c : Dev nD) (r : Ref sig .tc) (h : r ∉ loopW) :
    ∀ n, atTrip condOps bodyI W n c (Proc.devRef .tc r) = W c (Proc.devRef .tc r)
  | 0 => rfl
  | n + 1 => by
    have h' := h
    simp only [loopW, List.mem_append, not_or] at h'
    obtain ⟨⟨⟨⟨⟨⟨⟨⟨⟨hc, h0⟩, h1⟩, h2⟩, h3⟩, h4⟩, h5⟩, h6⟩, h7⟩, h8⟩ := h'
    rw [atTrip_succ]
    simp only [afterL_cons, afterL_nil]
    rw [after_of_writes_sub _ _ while0Ops0_8_writes h8, after_of_writes_sub _ _ while0Ops0_7_writes h7,
      after_of_writes_sub _ _ while0Ops0_6_writes h6, after_of_writes_sub _ _ while0Ops0_5_writes h5,
      after_of_writes_sub _ _ while0Ops0_4_writes h4, after_of_writes_sub _ _ while0Ops0_3_writes h3,
      after_of_writes_sub _ _ while0Ops0_2_writes h2, after_of_writes_sub _ _ while0Ops0_1_writes h1,
      after_of_writes_sub _ _ while0Ops0_writes h0, after_of_writes_sub _ _ condOps_writes hc, loop_keep W c r h n]

/-- What no operation writes is at the end as it was at the start. -/
theorem final_keep (m : (ℓ : Loc nD τ sig) → Buf (Elt Ideal) ℓ) (c : Dev nD) (r : Ref sig .tc)
    (h1 : r ∉ lateW) (h2 : r ∉ loopW) (h3 : r ∉ earlyW) :
    finalContents condOps preI bodyI postI 4096 m c (Proc.devRef .tc r) = m ((c.tc : Thread nD τ).loc r) := by
  have hc : r ∉ condOps_W := fun hr => h2 (by simp only [loopW, List.mem_append]; tauto)
  unfold finalContents
  simp only [afterL_cons, afterL_nil]
  rw [after_of_writes_sub _ _ late_writes h1, after_of_writes_sub _ _ condOps_writes hc, loop_keep _ c r h2]
  exact early_keep _ r h3

/-- The recurrence's reference runs to its end and keeps its arguments. -/
theorem frame_ref : Cert.quiescent_ReferenceIdeal := by
  intro m g hpre
  run_from Cert.ReferenceIdeal.Value.run_fold (F := Ideal) m g
  · exact fun c => ⟨final_keep m c main_arg0 (by decide) (by decide) (by decide), final_keep m c main_arg1 (by decide) (by decide) (by decide),
      final_keep m c main_arg2 (by decide) (by decide) (by decide), final_keep m c main_arg3 (by decide) (by decide) (by decide),
      final_keep m c main_arg4 (by decide) (by decide) (by decide), final_keep m c main_arg5 (by decide) (by decide) (by decide),
      final_keep m c main_arg6 (by decide) (by decide) (by decide), final_keep m c main_arg7 (by decide) (by decide) (by decide),
      final_keep m c main_arg8 (by decide) (by decide) (by decide), final_keep m c main_arg9 (by decide) (by decide) (by decide),
      final_keep m c main_arg10 (by decide) (by decide) (by decide), final_keep m c main_arg11 (by decide) (by decide) (by decide)⟩
  · exact Idealize.ShloMosaic.sem_eq_zero_of_no_sems (by decide) r.2

end Cert.Rw

end
-- ==== Proof.FfnMath.lean ====
/-
  The layer's output part, one token at a time: what it computes for one row of the sequence, in plain sums over
  extended reals. The kernel's blocks and the reference's arrays are both read into these functions
  (FfnPay.lean, FfnRef.lean), and the two claims meet here.
-/
module

public import Idealize.ShloMosaic.Lib.Pointwise

@[expose] public section

noncomputable section

namespace Cert.Ffn

open Idealize.ShloMosaic

/-- The small constant under the root of every normalisation: the float nearest to one millionth. -/
def eps : EReal := Ideal.ofBits .f32 0x358637BD#32

/-- The width of a row, as the programs write it: the float 1024. -/
def width : EReal := Ideal.ofBits .f32 0x44800000#32

/-- A row of 1024 numbers. -/
abbrev Row : Type := Fin 1024 → EReal

/-- The root-mean-square normalisation of a row with a gain: each entry over the root of the mean square. -/
def rms (x g : Row) : Row := fun l => x l * Ideal.rsqrt (Ideal.div (∑ k, x k * x k) width + eps) * g l

/-- The two halves of the heads' outputs times the two halves of the output matrix. -/
def mix (ya yr : Fin 512 → EReal) (wt wb : Fin 512 → Row) : Row :=
  fun l => (∑ k, ya k * wt k l) + ∑ k, yr k * wb k l

/-- The first residual: the input row plus the gated, normalised mix. -/
def mid (x : Row) (ya yr : Fin 512 → EReal) (wt wb : Fin 512 → Row) (gate gp : Row) : Row :=
  fun l => x l + gate l * rms (mix ya yr wt wb) gp l

/-- The normalised first residual, scaled and shifted: what the two wide products read. -/
def hid (a gpre scale shift : Row) : Row :=
  fun l => rms a gpre l * (1 + scale l) + shift l

/-- The gated unit of one hidden column: the gate product times its logistic, times the up product. -/
def act (h : Row) (wg wu : Row) : EReal :=
  (∑ k, h k * wg k) * Ideal.logistic (∑ k, h k * wg k) * ∑ k, h k * wu k

/-- The product back to the row's width over one half of the hidden columns. -/
def half (h : Row) (wg wu : Fin 1408 → Row) (wd : Fin 1408 → Row) : Row :=
  fun l => ∑ f, act h (wg f) (wu f) * wd f l

/-- The second residual: the first residual plus the gated, normalised product. -/
def fin (a down gate gf : Row) : Row := fun l => a l + gate l * rms down gf l

end Cert.Ffn

end
-- ==== Proof.FfnBlk.lean ====
/-
  The blocks the output part's kernel loads at a grid point, read at an index: each is the launch array at the point's
  batch row, its sequence tile and its half of the hidden columns.
-/
module

public import proofs.«01_k».proof.Proof.Gen.Kernel2Ideal.Frame.Runs
public import proofs.«01_k».proof.Proof.FfnMath
public import Idealize.ShloMosaic.Lib.Pipeline.Value

@[expose] public section

set_option maxRecDepth 16384

noncomputable section

namespace Cert.Ffn

open Cert.Kernel2Ideal Cert.Kernel2Ideal.Gen Idealize.ShloMosaic Idealize.ShloMosaic.TcCoe Idealize.SL.Sem

variable (m : (ℓ : Loc nD τ sig) → Buf (Elt Ideal) ℓ) (c : Dev nD)

/-- An argument of the launch, as an array. -/
abbrev arg (b : Ref sig .tc) : Buf (Elt Ideal) ((c : Thread nD τ).loc b) := m ((c : Thread nD τ).loc b)

/-- The batch row, the sequence tile and the half of the hidden columns of a grid point. -/
def ptB (t : Fin cfg0.N) : Nat := t.val / 16
/-- The point's tile of the sequence. -/
def ptI (t : Fin cfg0.N) : Nat := t.val / 2 % 8
/-- The point's half of the hidden columns. -/
def ptJ (t : Fin cfg0.N) : Nat := t.val % 2

/-- The batch row is one of eight. -/
theorem ptB_lt (t : Fin cfg0.N) : ptB t < 8 := by
  have h : t.val < 128 := lt_of_lt_of_eq t.isLt N_0
  unfold ptB; omega

/-- The tile is one of eight. -/
theorem ptI_lt (t : Fin cfg0.N) : ptI t < 8 := Nat.mod_lt _ (by decide)

/-- The half is one of two. -/
theorem ptJ_lt (t : Fin cfg0.N) : ptJ t < 2 := Nat.mod_lt _ (by decide)

/-- Where the three sequence windows stand. -/
theorem index_seq : ∀ t : Fin grid0.N,
    (win0_0.index t 0 = t.val / 16 ∧ win0_0.index t 1 = t.val / 2 % 8 ∧ win0_0.index t 2 = 0)
    ∧ (win0_1.index t 0 = t.val / 16 ∧ win0_1.index t 1 = t.val / 2 % 8 ∧ win0_1.index t 2 = 0)
    ∧ (win0_2.index t 0 = t.val / 16 ∧ win0_2.index t 1 = t.val / 2 % 8 ∧ win0_2.index t 2 = 0)
    ∧ (win0_3.index t 0 = t.val / 16 ∧ win0_3.index t 1 = 0 ∧ win0_3.index t 2 = 0) := by decide +kernel

/-- Where the gains' and the matrices' windows stand. -/
theorem index_par : ∀ t : Fin grid0.N,
    (win0_4.index t 0 = 0 ∧ win0_4.index t 1 = 0) ∧ (win0_5.index t 0 = 0 ∧ win0_5.index t 1 = 0)
    ∧ (win0_6.index t 0 = 0 ∧ win0_6.index t 1 = 0) ∧ (win0_7.index t 0 = 0 ∧ win0_7.index t 1 = 0)
    ∧ (win0_8.index t 0 = 0 ∧ win0_8.index t 1 = t.val % 2) ∧ (win0_9.index t 0 = 0 ∧ win0_9.index t 1 = t.val % 2)
    ∧ (win0_10.index t 0 = t.val % 2 ∧ win0_10.index t 1 = 0) := by decide +kernel

/-- The input rows of the point's tile. -/
theorem blk0 (t : Fin cfg0.N) (r : Fin 512) (l : Fin 1024) :
    (iblk m c 0 t : FVec Ideal S1x512x1024 .f32) (ix3 0 r l)
      = (arg m c main_arg0 : FVec Ideal S8x4096x1024 .f32) (ix3 ⟨ptB t, ptB_lt t⟩ ⟨512 * ptI t + r.val, by have := ptI_lt t; omega⟩ l) := by
  have hi := (index_seq t).1
  unfold iblk
  rw [View.read_apply]
  show V m c main_arg0 _ = _
  rw [V_main_arg0]
  unfold arg
  congr 1
  funext a
  apply Fin.ext
  match a with
  | ⟨0, _⟩ => show win0_0.index t 0 * 1 + 1 * 0 = t.val / 16; rw [hi.1]; omega
  | ⟨1, _⟩ => show win0_0.index t 1 * 512 + 1 * r.val = 512 * (t.val / 2 % 8) + r.val; rw [hi.2.1]; omega
  | ⟨2, _⟩ => show win0_0.index t 2 * 1024 + 1 * l.val = l.val; rw [hi.2.2]; omega

/-- The attention's rows of the point's tile. -/
theorem blk1 (t : Fin cfg0.N) (r : Fin 512) (l : Fin 512) :
    (iblk m c 1 t : FVec Ideal S1x512x512 .f32) (ix3 0 r l)
      = (arg m c main_arg1 : FVec Ideal S8x4096x512 .f32) (ix3 ⟨ptB t, ptB_lt t⟩ ⟨512 * ptI t + r.val, by have := ptI_lt t; omega⟩ l) := by
  have hi := (index_seq t).2.1
  unfold iblk
  rw [View.read_apply]
  show V m c main_arg1 _ = _
  rw [V_main_arg1]
  unfold arg
  congr 1
  funext a
  apply Fin.ext
  match a with
  | ⟨0, _⟩ => show win0_1.index t 0 * 1 + 1 * 0 = t.val / 16; rw [hi.1]; omega
  | ⟨1, _⟩ => show win0_1.index t 1 * 512 + 1 * r.val = 512 * (t.val / 2 % 8) + r.val; rw [hi.2.1]; omega
  | ⟨2, _⟩ => show win0_1.index t 2 * 512 + 1 * l.val = l.val; rw [hi.2.2]; omega

/-- The recurrence's rows of the point's tile. -/
theorem blk2 (t : Fin cfg0.N) (r : Fin 512) (l : Fin 512) :
    (iblk m c 2 t : FVec Ideal S1x512x512 .f32) (ix3 0 r l)
      = (arg m c main_arg2 : FVec Ideal S8x4096x512 .f32) (ix3 ⟨ptB t, ptB_lt t⟩ ⟨512 * ptI t + r.val, by have := ptI_lt t; omega⟩ l) := by
  have hi := (index_seq t).2.2.1
  unfold iblk
  rw [View.read_apply]
  show V m c main_arg2 _ = _
  rw [V_main_arg2]
  unfold arg
  congr 1
  funext a
  apply Fin.ext
  match a with
  | ⟨0, _⟩ => show win0_2.index t 0 * 1 + 1 * 0 = t.val / 16; rw [hi.1]; omega
  | ⟨1, _⟩ => show win0_2.index t 1 * 512 + 1 * r.val = 512 * (t.val / 2 % 8) + r.val; rw [hi.2.1]; omega
  | ⟨2, _⟩ => show win0_2.index t 2 * 512 + 1 * l.val = l.val; rw [hi.2.2]; omega

/-- The launch's modulation rows, regrouped by chunk. -/
theorem V_v0 : (V m c main_v0 : FVec Ideal S8x6x1024 .f32)
    = shapeCast S8x6x1024 (arg m c main_arg3 : FVec Ideal S8x6144 .f32) shapeCasts_S8x6144_S8x6x1024 := by
  unfold V
  after_results
  rfl

/-- A chunk of the batch row's modulation. -/
theorem blk3 (t : Fin cfg0.N) (q : Fin 6) (l : Fin 1024) :
    (iblk m c 3 t : FVec Ideal S1x6x1024 .f32) (ix3 0 q l)
      = (arg m c main_arg3 : FVec Ideal S8x6144 .f32) (ix2 ⟨ptB t, ptB_lt t⟩ ⟨q.val * 1024 + l.val, by omega⟩) := by
  have hi := (index_seq t).2.2.2
  unfold iblk
  rw [View.read_apply]
  show (V m c main_v0 : FVec Ideal S8x6x1024 .f32) _ = _
  rw [V_v0]
  refine Eq.trans (congrArg _ (?_ : _ = ix3 ⟨ptB t, ptB_lt t⟩ q l)) ?_
  · funext a
    apply Fin.ext
    match a with
    | ⟨0, _⟩ => show win0_3.index t 0 * 1 + 1 * 0 = t.val / 16; rw [hi.1]; omega
    | ⟨1, _⟩ => show win0_3.index t 1 * 6 + 1 * q.val = q.val; rw [hi.2.1]; omega
    | ⟨2, _⟩ => show win0_3.index t 2 * 1024 + 1 * l.val = l.val; rw [hi.2.2]; omega
  · pointwise

/-- The first gain. -/
theorem blk4 (t : Fin cfg0.N) (l : Fin 1024) :
    (iblk m c 4 t : FVec Ideal S1x1024 .f32) (ix2 0 l) = (arg m c main_arg4 : FVec Ideal S1024 .f32) (ix1 l) := by
  have hi := (index_par t).1
  have hV : (V m c main_v1 : FVec Ideal S1x1024 .f32)
      = shapeCast S1x1024 (arg m c main_arg4 : FVec Ideal S1024 .f32) shapeCasts_S1024_S1x1024 := by
    unfold V
    after_results
    rfl
  unfold iblk
  rw [View.read_apply]
  show (V m c main_v1 : FVec Ideal S1x1024 .f32) _ = _
  rw [hV]
  refine Eq.trans (congrArg _ (?_ : _ = ix2 0 l)) ?_
  · funext a
    apply Fin.ext
    match a with
    | ⟨0, _⟩ => show win0_4.index t 0 * 1 + 1 * 0 = 0; rw [hi.1]
    | ⟨1, _⟩ => show win0_4.index t 1 * 1024 + 1 * l.val = l.val; rw [hi.2]; omega
  · pointwise

/-- The second gain. -/
theorem blk5 (t : Fin cfg0.N) (l : Fin 1024) :
    (iblk m c 5 t : FVec Ideal S1x1024 .f32) (ix2 0 l) = (arg m c main_arg5 : FVec Ideal S1024 .f32) (ix1 l) := by
  have hi := (index_par t).2.1
  have hV : (V m c main_v2 : FVec Ideal S1x1024 .f32)
      = shapeCast S1x1024 (arg m c main_arg5 : FVec Ideal S1024 .f32) shapeCasts_S1024_S1x1024 := by
    unfold V
    after_results
    rfl
  unfold iblk
  rw [View.read_apply]
  show (V m c main_v2 : FVec Ideal S1x1024 .f32) _ = _
  rw [hV]
  refine Eq.trans (congrArg _ (?_ : _ = ix2 0 l)) ?_
  · funext a
    apply Fin.ext
    match a with
    | ⟨0, _⟩ => show win0_5.index t 0 * 1 + 1 * 0 = 0; rw [hi.1]
    | ⟨1, _⟩ => show win0_5.index t 1 * 1024 + 1 * l.val = l.val; rw [hi.2]; omega
  · pointwise

/-- The third gain. -/
theorem blk6 (t : Fin cfg0.N) (l : Fin 1024) :
    (iblk m c 6 t : FVec Ideal S1x1024 .f32) (ix2 0 l) = (arg m c main_arg6 : FVec Ideal S1024 .f32) (ix1 l) := by
  have hi := (index_par t).2.2.1
  have hV : (V m c main_v3 : FVec Ideal S1x1024 .f32)
      = shapeCast S1x1024 (arg m c main_arg6 : FVec Ideal S1024 .f32) shapeCasts_S1024_S1x1024 := by
    unfold V
    after_results
    rfl
  unfold iblk
  rw [View.read_apply]
  show (V m c main_v3 : FVec Ideal S1x1024 .f32) _ = _
  rw [hV]
  refine Eq.trans (congrArg _ (?_ : _ = ix2 0 l)) ?_
  · funext a
    apply Fin.ext
    match a with
    | ⟨0, _⟩ => show win0_6.index t 0 * 1 + 1 * 0 = 0; rw [hi.1]
    | ⟨1, _⟩ => show win0_6.index t 1 * 1024 + 1 * l.val = l.val; rw [hi.2]; omega
  · pointwise

/-- The output matrix. -/
theorem blk7 (t : Fin cfg0.N) (k l : Fin 1024) :
    (iblk m c 7 t : FVec Ideal S1024x1024 .bf16) (ix2 k l)
      = (arg m c main_arg7 : FVec Ideal S1024x1024 .f32) (ix2 k l) := by
  have hi := (index_par t).2.2.2.1
  have hV : (V m c main_v4 : FVec Ideal S1024x1024 .bf16) = (truncf .bf16 (arg m c main_arg7 : FVec Ideal S1024x1024 .f32) bitsLt_bf16_f32 : FVec Ideal S1024x1024 .bf16) := by
    unfold V
    after_results
  unfold iblk
  rw [View.read_apply]
  show (V m c main_v4 : FVec Ideal S1024x1024 .bf16) _ = _
  rw [hV]
  show arg m c main_arg7 _ = _
  congr 1
  funext a
  apply Fin.ext
  match a with
  | ⟨0, _⟩ => show win0_7.index t 0 * 1024 + 1 * k.val = k.val; rw [hi.1]; omega
  | ⟨1, _⟩ => show win0_7.index t 1 * 1024 + 1 * l.val = l.val; rw [hi.2]; omega

/-- A half of the columns of the gate's matrix. -/
theorem blk8 (t : Fin cfg0.N) (k : Fin 1024) (f : Fin 1408) :
    (iblk m c 8 t : FVec Ideal S1024x1408 .bf16) (ix2 k f)
      = (arg m c main_arg8 : FVec Ideal S1024x2816 .f32) (ix2 k ⟨1408 * ptJ t + f.val, by have := ptJ_lt t; omega⟩) := by
  have hi := (index_par t).2.2.2.2.1
  have hV : (V m c main_v5 : FVec Ideal S1024x2816 .bf16) = (truncf .bf16 (arg m c main_arg8 : FVec Ideal S1024x2816 .f32) bitsLt_bf16_f32 : FVec Ideal S1024x2816 .bf16) := by
    unfold V
    after_results
  unfold iblk
  rw [View.read_apply]
  show (V m c main_v5 : FVec Ideal S1024x2816 .bf16) _ = _
  rw [hV]
  show arg m c main_arg8 _ = _
  congr 1
  funext a
  apply Fin.ext
  match a with
  | ⟨0, _⟩ => show win0_8.index t 0 * 1024 + 1 * k.val = k.val; rw [hi.1]; omega
  | ⟨1, _⟩ => show win0_8.index t 1 * 1408 + 1 * f.val = 1408 * (t.val % 2) + f.val; rw [hi.2]; omega

/-- A half of the columns of the up product's matrix. -/
theorem blk9 (t : Fin cfg0.N) (k : Fin 1024) (f : Fin 1408) :
    (iblk m c 9 t : FVec Ideal S1024x1408 .bf16) (ix2 k f)
      = (arg m c main_arg9 : FVec Ideal S1024x2816 .f32) (ix2 k ⟨1408 * ptJ t + f.val, by have := ptJ_lt t; omega⟩) := by
  have hi := (index_par t).2.2.2.2.2.1
  have hV : (V m c main_v6 : FVec Ideal S1024x2816 .bf16) = (truncf .bf16 (arg m c main_arg9 : FVec Ideal S1024x2816 .f32) bitsLt_bf16_f32 : FVec Ideal S1024x2816 .bf16) := by
    unfold V
    after_results
  unfold iblk
  rw [View.read_apply]
  show (V m c main_v6 : FVec Ideal S1024x2816 .bf16) _ = _
  rw [hV]
  show arg m c main_arg9 _ = _
  congr 1
  funext a
  apply Fin.ext
  match a with
  | ⟨0, _⟩ => show win0_9.index t 0 * 1024 + 1 * k.val = k.val; rw [hi.1]; omega
  | ⟨1, _⟩ => show win0_9.index t 1 * 1408 + 1 * f.val = 1408 * (t.val % 2) + f.val; rw [hi.2]; omega

/-- A half of the rows of the matrix back to the row's width. -/
theorem blk10 (t : Fin cfg0.N) (f : Fin 1408) (l : Fin 1024) :
    (iblk m c 10 t : FVec Ideal S1408x1024 .bf16) (ix2 f l)
      = (arg m c main_arg10 : FVec Ideal S2816x1024 .f32) (ix2 ⟨1408 * ptJ t + f.val, by have := ptJ_lt t; omega⟩ l) := by
  have hi := (index_par t).2.2.2.2.2.2
  have hV : (V m c main_v7 : FVec Ideal S2816x1024 .bf16) = (truncf .bf16 (arg m c main_arg10 : FVec Ideal S2816x1024 .f32) bitsLt_bf16_f32 : FVec Ideal S2816x1024 .bf16) := by
    unfold V
    after_results
  unfold iblk
  rw [View.read_apply]
  show (V m c main_v7 : FVec Ideal S2816x1024 .bf16) _ = _
  rw [hV]
  show arg m c main_arg10 _ = _
  congr 1
  funext a
  apply Fin.ext
  match a with
  | ⟨0, _⟩ => show win0_10.index t 0 * 1408 + 1 * f.val = 1408 * (t.val % 2) + f.val; rw [hi.1]; omega
  | ⟨1, _⟩ => show win0_10.index t 1 * 1024 + 1 * l.val = l.val; rw [hi.2]; omega

end Cert.Ffn

end
-- ==== Proof.FfnPay.lean ====
/-
  What the output part's kernel body stores, read at an index: each stored block of rows is the row function of
  FfnMath.lean at that row of the blocks loaded.
-/
module

public import proofs.«01_k».proof.Proof.Gen.Kernel2Ideal.Skeleton
public import proofs.«01_k».proof.Proof.FfnMath
public import Idealize.ShloMosaic.Lib.Pipeline.Value

@[expose] public section

set_option maxRecDepth 16384

noncomputable section

namespace Cert.Ffn

open Cert.Kernel2Ideal Cert.Kernel2Ideal.Gen Idealize.ShloMosaic

variable [Cert.Kernel2Ideal.Facts]

/-- The first residual of the block's first 256 rows. -/
theorem pay5_apply (ya yr : FVec Ideal S1x256x512 .f32) (wt wb : FVec Ideal S512x1024 .bf16) (x : FVec Ideal S1x256x1024 .f32)
    (g : FVec Ideal S1x1x1024 .f32) (gp : FVec Ideal S1x1024 .f32) (r : Fin 256) (l : Fin 1024) :
    k0_pay5 (F := Ideal) ya wt yr wb x g gp (ix2 r l)
      = mid (fun k => x (ix3 0 r k)) (fun k => ya (ix3 0 r k)) (fun k => yr (ix3 0 r k)) (fun k l => wt (ix2 k l))
          (fun k l => wb (ix2 k l)) (fun l => g (ix3 0 0 l)) (fun l => gp (ix2 0 l)) l := by
  unfold mid rms mix eps width
  pointwise [k0_pay5]

/-- The first residual of the block's last 256 rows. -/
theorem pay9_apply (ya yr : FVec Ideal S1x256x512 .f32) (wt wb : FVec Ideal S512x1024 .bf16) (x : FVec Ideal S1x256x1024 .f32)
    (g : FVec Ideal S1x1x1024 .f32) (gp : FVec Ideal S1x1024 .f32) (r : Fin 256) (l : Fin 1024) :
    k0_pay9 (F := Ideal) (k0_pay8 ya wt) yr wb x g gp (ix2 r l)
      = mid (fun k => x (ix3 0 r k)) (fun k => ya (ix3 0 r k)) (fun k => yr (ix3 0 r k)) (fun k l => wt (ix2 k l))
          (fun k l => wb (ix2 k l)) (fun l => g (ix3 0 0 l)) (fun l => gp (ix2 0 l)) l := by
  unfold mid rms mix eps width
  pointwise [k0_pay9, k0_pay8]

/-- What the wide products read, in the block's first 256 rows. -/
theorem pay7_apply (a : FVec Ideal S256x1024 .f32) (gp : FVec Ideal S1x1024 .f32) (s b : FVec Ideal S1x1x1024 .f32)
    (r : Fin 256) (l : Fin 1024) :
    k0_pay7 (F := Ideal) a gp s b (ix2 r l)
      = hid (fun k => a (ix2 r k)) (fun l => gp (ix2 0 l)) (fun l => s (ix3 0 0 l)) (fun l => b (ix3 0 0 l)) l := by
  unfold hid rms eps width
  pointwise [k0_pay7]

/-- The mean square of a row of the first residual, in the block's last 256 rows. -/
theorem pay12_apply (p : FVec Ideal S256x1024 .f32) (yr : FVec Ideal S1x256x512 .f32) (wb : FVec Ideal S512x1024 .bf16)
    (x : FVec Ideal S1x256x1024 .f32) (g : FVec Ideal S1x1x1024 .f32) (gp : FVec Ideal S1x1024 .f32) (r : Fin 256) :
    k0_pay12 (F := Ideal) p yr wb x g gp (ix2 r 0)
      = Ideal.div (∑ k : Fin 1024, k0_pay9 (F := Ideal) p yr wb x g gp (ix2 r k) * k0_pay9 (F := Ideal) p yr wb x g gp (ix2 r k)) width := by
  unfold width
  pointwise [k0_pay9, k0_pay12]

/-- What the wide products read, in the block's last 256 rows. -/
theorem pay1_apply (a : FVec Ideal S256x1024 .f32) (gp : FVec Ideal S1x1024 .f32) (q : FVec Ideal S256x1 .f32)
    (s b : FVec Ideal S1x1x1024 .f32) (r : Fin 256) (l : Fin 1024)
    (hq : q (ix2 r 0) = Ideal.div (∑ k : Fin 1024, a (ix2 r k) * a (ix2 r k)) width) :
    k0_pay1 (F := Ideal) a (k0_pay11 gp) q s b (ix2 r l)
      = hid (fun k => a (ix2 r k)) (fun l => gp (ix2 0 l)) (fun l => s (ix3 0 0 l)) (fun l => b (ix3 0 0 l)) l := by
  unfold hid rms
  rw [← hq]
  unfold eps
  pointwise [k0_pay1, k0_pay11]

/-- The running product with one half of the hidden columns added. -/
theorem pay3_apply (h : FVec Ideal S512x1024 .bf16) (wg wu : FVec Ideal S1024x1408 .bf16) (acc : FVec Ideal S512x1024 .f32)
    (wd : FVec Ideal S1408x1024 .bf16) (r : Fin 512) (l : Fin 1024) :
    k0_pay3 (F := Ideal) h wg wu acc wd (ix2 r l)
      = acc (ix2 r l) + half (fun k => h (ix2 r k)) (fun f k => wg (ix2 k f)) (fun f k => wu (ix2 k f))
          (fun f l => wd (ix2 f l)) l := by
  unfold half act
  pointwise [k0_pay3]

/-- The block of the result. -/
theorem pay4_apply (a : FVec Ideal S512x1024 .f32) (g : FVec Ideal S1x1x1024 .f32) (d : FVec Ideal S512x1024 .f32)
    (gf : FVec Ideal S1x1024 .f32) (r : Fin 512) (l : Fin 1024) :
    k0_pay4 (F := Ideal) a g d gf (ix3 0 r l)
      = fin (fun k => a (ix2 r k)) (fun k => d (ix2 r k)) (fun l => g (ix3 0 0 l)) (fun l => gf (ix2 0 l)) l := by
  unfold fin rms eps width
  pointwise [k0_pay4]

end Cert.Ffn

end
-- ==== Proof.FfnCase.lean ====
/-
  What the output part's kernel leaves after a grid point, in the row functions of FfnMath.lean over the point's blocks:
  a point with the first half of the hidden columns starts the three carried buffers, a point with the second half
  finishes the product and writes the block of the result.
-/
module

public import proofs.«01_k».proof.Proof.Gen.Kernel2Ideal.Value
public import proofs.«01_k».proof.Proof.FfnBlk
public import proofs.«01_k».proof.Proof.FfnPay

@[expose] public section

set_option maxRecDepth 16384

noncomputable section

namespace Cert.Ffn

open Cert.Kernel2Ideal Cert.Kernel2Ideal.Gen Cert.Kernel2Ideal.Value Idealize.ShloMosaic Idealize.ShloMosaic.TcCoe Idealize.ShloMosaic.Tactic Idealize.SL.Sem

variable (m : (ℓ : Loc nD τ sig) → Buf (Elt Ideal) ℓ) (c : Dev nD)

/-- Two zero offsets, as one function. -/
theorem hz2 : (![0, 0] : Fin 2 → Nat) = fun _ => 0 := funext fun a => by fin_cases a <;> rfl
/-- Three zero offsets, as one function. -/
theorem hz3 : (![0, 0, 0] : Fin 3 → Nat) = fun _ => 0 := funext fun a => by fin_cases a <;> rfl

/-- The part of a block that starts at the given corner with the given extents. -/
abbrev sub {n : Nat} {d : Fin n → Nat} {e : EltTy} (X : Vec Ideal ⟨n, d⟩ e) (off size : Fin n → Nat)
    (inb : ∀ a, off a + size a ≤ d a) : Vec Ideal ⟨n, size⟩ e := View.ld (Val := Elt Ideal) X (Rect.unit (s := ⟨n, d⟩) off size inb)

/-- The input rows the point loads. -/
abbrev bk0 (t : Fin cfg0.N) : FVec Ideal S1x512x1024 .f32 := iblk m c 0 t
/-- The attention's rows the point loads. -/
abbrev bk1 (t : Fin cfg0.N) : FVec Ideal S1x512x512 .f32 := iblk m c 1 t
/-- The recurrence's rows the point loads. -/
abbrev bk2 (t : Fin cfg0.N) : FVec Ideal S1x512x512 .f32 := iblk m c 2 t
/-- The modulation the point loads. -/
abbrev bk3 (t : Fin cfg0.N) : FVec Ideal S1x6x1024 .f32 := iblk m c 3 t
/-- The first gain the point loads. -/
abbrev bk4 (t : Fin cfg0.N) : FVec Ideal S1x1024 .f32 := iblk m c 4 t
/-- The second gain the point loads. -/
abbrev bk5 (t : Fin cfg0.N) : FVec Ideal S1x1024 .f32 := iblk m c 5 t
/-- The third gain the point loads. -/
abbrev bk6 (t : Fin cfg0.N) : FVec Ideal S1x1024 .f32 := iblk m c 6 t
/-- The output matrix the point loads. -/
abbrev bk7 (t : Fin cfg0.N) : FVec Ideal S1024x1024 .bf16 := iblk m c 7 t
/-- The half of the gate's matrix the point loads. -/
abbrev bk8 (t : Fin cfg0.N) : FVec Ideal S1024x1408 .bf16 := iblk m c 8 t
/-- The half of the up product's matrix the point loads. -/
abbrev bk9 (t : Fin cfg0.N) : FVec Ideal S1024x1408 .bf16 := iblk m c 9 t
/-- The half of the matrix back the point loads. -/
abbrev bk10 (t : Fin cfg0.N) : FVec Ideal S1408x1024 .bf16 := iblk m c 10 t

/-- The first residual of the point's tile, by row of the tile, over the point's blocks. -/
def bMid (t : Fin cfg0.N) (r : Fin 512) : Row :=
  mid (fun k => bk0 m c t (ix3 0 r k))
    (fun k => bk1 m c t (ix3 0 r k))
    (fun k => bk2 m c t (ix3 0 r k))
    (fun k l => bk7 m c t (ix2 (Fin.castAdd 512 k) l))
    (fun k l => bk7 m c t (ix2 (Fin.natAdd 512 k) l))
    (fun l => bk3 m c t (ix3 0 2 l))
    (fun l => bk4 m c t (ix2 0 l))

/-- What the wide products read, by row of the tile, over the point's blocks. -/
def bHid (t : Fin cfg0.N) (r : Fin 512) : Row :=
  hid (bMid m c t r) (fun l => bk5 m c t (ix2 0 l))
    (fun l => bk3 m c t (ix3 0 4 l))
    (fun l => bk3 m c t (ix3 0 3 l))

/-- The first residual in the tile's first 256 rows, as the body computes it from the blocks read. -/
theorem mid_lo (t : Fin cfg0.N) (r : Fin 256) (l : Fin 1024) :
    k0_pay5 (F := Ideal)
        (sub (bk1 m c t) ![0, 0, 0] ![1, 256, 512] inb_S1x512x512_S1x256x512_0_0_0)
        (sub (bk7 m c t) ![0, 0] ![512, 1024] inb_S1024x1024_S512x1024_0_0)
        (sub (bk2 m c t) ![0, 0, 0] ![1, 256, 512] inb_S1x512x512_S1x256x512_0_0_0)
        (sub (bk7 m c t) ![512, 0] ![512, 1024] inb_S1024x1024_S512x1024_512_0)
        (sub (bk0 m c t) ![0, 0, 0] ![1, 256, 1024] inb_S1x512x1024_S1x256x1024_0_0_0)
        (sub (bk3 m c t) ![0, 2, 0] ![1, 1, 1024] inb_S1x6x1024_S1x1x1024_0_2_0)
        (sub (bk4 m c t) ![0, 0] ![1, 1024] inb_S1x1024_S1x1024_0_0) (ix2 r l)
      = bMid m c t ⟨r.val, by omega⟩ l := by
  refine (pay5_apply ..).trans ?_
  unfold bMid sub
  pointwise
  rfl

/-- The first residual in the tile's last 256 rows, as the body computes it from the blocks read. -/
theorem mid_hi (t : Fin cfg0.N) (r : Fin 256) (l : Fin 1024) :
    k0_pay9 (F := Ideal) (k0_pay8
        (sub (bk1 m c t) ![0, 256, 0] ![1, 256, 512] inb_S1x512x512_S1x256x512_0_256_0)
        (sub (bk7 m c t) ![0, 0] ![512, 1024] inb_S1024x1024_S512x1024_0_0))
        (sub (bk2 m c t) ![0, 256, 0] ![1, 256, 512] inb_S1x512x512_S1x256x512_0_256_0)
        (sub (bk7 m c t) ![512, 0] ![512, 1024] inb_S1024x1024_S512x1024_512_0)
        (sub (bk0 m c t) ![0, 256, 0] ![1, 256, 1024] inb_S1x512x1024_S1x256x1024_0_256_0)
        (sub (bk3 m c t) ![0, 2, 0] ![1, 1, 1024] inb_S1x6x1024_S1x1x1024_0_2_0)
        (sub (bk4 m c t) ![0, 0] ![1, 1024] inb_S1x1024_S1x1024_0_0) (ix2 r l)
      = bMid m c t ⟨256 + r.val, by omega⟩ l := by
  refine (pay9_apply ..).trans ?_
  unfold bMid sub
  pointwise
  rfl

/-- Every index of a block of 256 rows has a row and a column. -/
theorem ex_ix2 {n0 n1 : Nat} (x : (⟨2, ![n0, n1]⟩ : Shape).Idx) : ∃ (r : Fin n0) (l : Fin n1), x = ix2 r l :=
  ⟨x 0, x 1, by funext a; match a with | ⟨0, _⟩ => rfl | ⟨1, _⟩ => rfl⟩

/-- Where the row of a stored half block lies in the tile. -/
theorem emb_hi (r : Fin 256) (l : Fin 1024) :
    (Rect.unit (s := S512x1024) ![256, 0] ![256, 1024] inb_S512x1024_S256x1024_256_0).emb (ix2 r l) = ix2 ⟨256 + r.val, by omega⟩ l := by
  funext a
  apply Fin.ext
  match a with
  | ⟨0, _⟩ => show 256 + 1 * r.val = 256 + r.val; omega
  | ⟨1, _⟩ => show 0 + 1 * l.val = l.val; omega

/-- The same for the first half. -/
theorem emb_lo (r : Fin 256) (l : Fin 1024) :
    (Rect.unit (s := S512x1024) ![0, 0] ![256, 1024] inb_S512x1024_S256x1024_0_0).emb (ix2 r l) = ix2 ⟨r.val, by omega⟩ l := by
  funext a
  apply Fin.ext
  match a with
  | ⟨0, _⟩ => show 0 + 1 * r.val = r.val; omega
  | ⟨1, _⟩ => show 0 + 1 * l.val = l.val; omega

/-- After a point with the first half of the hidden columns the first carried buffer holds the first residual. -/
theorem first_mid (t : Fin cfg0.N) (acc) (h0 : t.val % 2 = 0) (h1 : ¬ t.val % 2 = 1) :
    (stAt0 m c t.val t.isLt acc).2.1 = fun y => bMid m c t (y 0) (y 1) := by
  rw [stAt0_A m c t acc h0 h1]
  dsimp only
  unfold sout0_A_0
  rw [View.read_writes_eq_canon _ _ _ (fun y => scover0_A_0 (y := y) ..)]
  funext y
  refine View.canon_apply_of_pieces (Val := Elt Ideal) (S := S512x1024) (e := .f32) (fun y => bMid m c t (y 0) (y 1)) _ ?_ y
    (scover0_A_0 (y := y) ..)
  unfold kernelRun0_A
  dsimp only
  sl_unfold_words
  simp only [List.forall_mem_cons, View.readAt_eq_ld, (hs0_0 t).read_unread, (hs0_1 t).read_unread, (hs0_2 t).read_unread,
    (hs0_3 t).read_unread, (hs0_4 t).read_unread, (hs0_7 t).read_unread]
  refine ⟨fun x => ?_, fun x => ?_, by simp⟩ <;> obtain ⟨r, l, rfl⟩ := ex_ix2 x
  · unfold k0_pay10
    rw [shapeCast_self, emb_hi]
    exact mid_hi m c t r l
  · unfold k0_pay6
    rw [shapeCast_self, emb_lo]
    exact mid_lo m c t r l

/-- The pieces the body stores into the second carried buffer hold what the wide products read. -/
theorem hid_hi (t : Fin cfg0.N) (r : Fin 256) (l : Fin 1024) (p : FVec Ideal S256x1024 .f32) (yr wb x g gp) (gh s b)
    (hp : ∀ l, k0_pay9 (F := Ideal) p yr wb x g gp (ix2 r l) = bMid m c t ⟨256 + r.val, by omega⟩ l)
    (hg : gh = (sub (bk5 m c t) ![0, 0] ![1, 1024] inb_S1x1024_S1x1024_0_0))
    (hs : s = (sub (bk3 m c t) ![0, 4, 0] ![1, 1, 1024] inb_S1x6x1024_S1x1x1024_0_4_0))
    (hb : b = (sub (bk3 m c t) ![0, 3, 0] ![1, 1, 1024] inb_S1x6x1024_S1x1x1024_0_3_0)) :
    k0_pay1 (F := Ideal) (k0_pay9 p yr wb x g gp) (k0_pay11 gh) (k0_pay12 p yr wb x g gp) s b (ix2 r l)
      = bHid m c t ⟨256 + r.val, by omega⟩ l := by
  refine (pay1_apply _ _ _ _ _ _ _ (pay12_apply ..)).trans ?_
  subst hg hs hb
  simp only [hp]
  unfold bHid sub
  pointwise

/-- The same for the first half of the rows. -/
theorem hid_lo (t : Fin cfg0.N) (r : Fin 256) (l : Fin 1024) (a : FVec Ideal S256x1024 .f32) (gh s b)
    (ha : ∀ l, a (ix2 r l) = bMid m c t ⟨r.val, by omega⟩ l)
    (hg : gh = (sub (bk5 m c t) ![0, 0] ![1, 1024] inb_S1x1024_S1x1024_0_0))
    (hs : s = (sub (bk3 m c t) ![0, 4, 0] ![1, 1, 1024] inb_S1x6x1024_S1x1x1024_0_4_0))
    (hb : b = (sub (bk3 m c t) ![0, 3, 0] ![1, 1, 1024] inb_S1x6x1024_S1x1x1024_0_3_0)) :
    k0_pay7 (F := Ideal) a gh s b (ix2 r l) = bHid m c t ⟨r.val, by omega⟩ l := by
  refine (pay7_apply ..).trans ?_
  subst hg hs hb
  simp only [ha]
  unfold bHid sub
  pointwise

/-- After a point with the first half of the hidden columns the second carried buffer holds what the wide products read. -/
theorem first_hid (t : Fin cfg0.N) (acc) (h0 : t.val % 2 = 0) (h1 : ¬ t.val % 2 = 1) :
    (stAt0 m c t.val t.isLt acc).2.2.1 = fun y => bHid m c t (y 0) (y 1) := by
  rw [stAt0_A m c t acc h0 h1]
  dsimp only
  unfold sout0_A_1
  rw [View.read_writes_eq_canon _ _ _ (fun y => scover0_A_1 (y := y) ..)]
  funext y
  refine View.canon_apply_of_pieces (Val := Elt Ideal) (S := S512x1024) (e := .bf16) (fun y => bHid m c t (y 0) (y 1)) _ ?_ y
    (scover0_A_1 (y := y) ..)
  unfold kernelRun0_A
  dsimp only
  sl_unfold_words
  simp only [List.forall_mem_cons, View.readAt_eq_ld, (hs0_0 t).read_unread, (hs0_1 t).read_unread, (hs0_2 t).read_unread,
    (hs0_3 t).read_unread, (hs0_4 t).read_unread, (hs0_5 t).read_unread, (hs0_7 t).read_unread]
  refine ⟨fun x => ?_, fun x => ?_, by simp⟩ <;> obtain ⟨r, l, rfl⟩ := ex_ix2 x
  · rw [emb_hi]
    exact hid_hi m c t r l _ _ _ _ _ _ _ _ _ (mid_hi m c t r) rfl rfl rfl
  · rw [emb_lo]
    exact hid_lo m c t r l _ _ _ _ (mid_lo m c t r) rfl rfl rfl

/-- The product over the point's half of the hidden columns, of a row of what the wide products read. -/
def bHalf (t : Fin cfg0.N) (h : Row) : Row :=
  half h (fun f k => bk8 m c t (ix2 k f)) (fun f k => bk9 m c t (ix2 k f)) (fun f l => bk10 m c t (ix2 f l))

/-- After a point with the first half of the hidden columns the third carried buffer holds that half's product. -/
theorem first_acc (t : Fin cfg0.N) (acc) (h0 : t.val % 2 = 0) (h1 : ¬ t.val % 2 = 1) :
    (stAt0 m c t.val t.isLt acc).2.2.2 = fun y => bHalf m c t (bHid m c t (y 0)) (y 1) := by
  have e := first_hid m c t acc h0 h1
  rw [stAt0_A m c t acc h0 h1] at e ⊢
  dsimp only at e ⊢
  unfold sout0_A_1 at e
  rw [View.read_writes_eq_canon _ _ _ (fun y => scover0_A_1 (y := y) ..)] at e
  unfold sout0_A_2
  rw [View.read_writes_eq_canon _ _ _ (fun y => scover0_A_2 (y := y) ..)]
  unfold kernelRun0_A
  dsimp only
  sl_unfold_words
  rw [View.canon_cons_unit_zero (S := S512x1024) hz2]
  refine (congrArg (fun h => k0_pay3 (F := Ideal) h _ _ _ _) (?_ : _ = fun y => bHid m c t (y 0) (y 1))).trans ?_
  · refine (View.readCov_eq_canon_ld _ _ _ (fun y => scover0_A_1 (y := y) ..)).trans ((congrArg (fun X => View.ld X _) e).trans ?_)
    exact View.ld_unit_zero (S := S512x1024) hz2 _ _
  · simp only [View.readAt_eq_ld, (hs0_8 t).read_unread, (hs0_9 t).read_unread, (hs0_10 t).read_unread,
      View.readCov_unit_zero (S := S512x1024) _ hz2, View.ld_unit_zero (S := S1024x1408) hz2, View.ld_unit_zero (S := S1408x1024) hz2]
    funext y
    obtain ⟨r, l, rfl⟩ := ex_ix2 y
    refine (pay3_apply ..).trans ?_
    have hz : k0_pay2 (F := Ideal) (ix2 r l) = 0 := by pointwise [k0_pay2]
    rw [hz, zero_add]
    rfl

/-- What a point with the second half of the hidden columns writes back, over what the point before left. -/
theorem second_out (t : Fin cfg0.N) (acc) (h0 : ¬ t.val % 2 = 0) (h1 : t.val % 2 = 1) :
    (stAt0 m c t.val t.isLt acc).1 = fun y => fin (fun k => acc.2.1 (ix2 (y 1) k))
      (fun k => acc.2.2.2 (ix2 (y 1) k) + bHalf m c t (fun k => acc.2.2.1 (ix2 (y 1) k)) k)
      (fun l => bk3 m c t (ix3 0 5 l)) (fun l => bk6 m c t (ix2 0 l)) (y 2) := by
  rw [stAt0_B m c t acc h0 h1]
  dsimp only
  unfold out0_B_11
  rw [View.read_writes_eq_canon _ _ _ (fun y => cover0_B_11 (y := y) ..)]
  unfold kernelRun0_B
  dsimp only
  sl_unfold_words
  rw [View.canon_unit_zero hz3]
  simp only [View.readAt_eq_ld, (hs0_3 t).read_unread, (hs0_6 t).read_unread, (hs0_8 t).read_unread, (hs0_9 t).read_unread,
    (hs0_10 t).read_unread, View.readCov_unit_zero (S := S512x1024) _ hz2, View.ld_unit_zero (S := S1024x1408) hz2,
    View.ld_unit_zero (S := S1408x1024) hz2, View.ld_unit_zero (S := S512x1024) hz2, View.ld_unit_zero (S := S1x1024) hz2,
    (Memref.isWhole_whole _).read_unread]
  funext y
  obtain ⟨r, l, rfl⟩ : ∃ (r : Fin 512) (l : Fin 1024), y = ix3 0 r l := ⟨y 1, y 2, by
    funext a; match a with | ⟨0, _⟩ => exact Subsingleton.elim (α := Fin 1) _ _ | ⟨1, _⟩ => rfl | ⟨2, _⟩ => rfl⟩
  refine (pay4_apply ..).trans ?_
  simp only [pay3_apply]
  pointwise
  rfl
end Cert.Ffn
end
-- ==== Proof.FfnRef.lean ====
/-
  The output part's reference read one row at a time: its last array at a token and a column is the row function of
  FfnMath.lean at the arguments' rows.
-/
module

public import proofs.«01_k».proof.Proof.Gen.Reference2Ideal.Read
public import proofs.«01_k».proof.Proof.FfnMath
public import Idealize.ShloMosaic.Lib.Pipeline.Value

@[expose] public section

set_option maxRecDepth 16384

noncomputable section

namespace Cert.Ffn.Ref

open Cert.Reference2Ideal Cert.Reference2Ideal.Gen Cert.Reference2Ideal.Read Idealize.ShloMosaic

/-- An index of a rank-3 array from its coordinates' numbers. -/
theorem eq3 {n0 n1 n2 : Nat} (i : (⟨3, ![n0, n1, n2]⟩ : Shape).Idx) (a : Fin n0) (b : Fin n1) (c : Fin n2)
    (h0 : (i 0).val = a.val) (h1 : (i 1).val = b.val) (h2 : (i 2).val = c.val) : i = ix3 a b c := by
  funext x
  apply Fin.ext
  match x with
  | ⟨0, _⟩ => exact h0
  | ⟨1, _⟩ => exact h1
  | ⟨2, _⟩ => exact h2

/-- An index of a rank-2 array from its coordinates' numbers. -/
theorem eq2 {n0 n1 : Nat} (i : (⟨2, ![n0, n1]⟩ : Shape).Idx) (a : Fin n0) (b : Fin n1)
    (h0 : (i 0).val = a.val) (h1 : (i 1).val = b.val) : i = ix2 a b := by
  funext x
  apply Fin.ext
  match x with
  | ⟨0, _⟩ => exact h0
  | ⟨1, _⟩ => exact h1

variable (x : FVec Ideal S8x4096x1024 .f32) (ya yr : FVec Ideal S8x4096x512 .f32) (md : FVec Ideal S8x6144 .f32)
  (gp ga gf : FVec Ideal S1024 .f32) (wo : FVec Ideal S1024x1024 .f32) (wg wu : FVec Ideal S1024x2816 .f32)
  (wd : FVec Ideal S2816x1024 .f32)

/-- The first 512 columns of the joined heads are the attention's. -/
theorem cat_left (b : Fin 8) (s : Fin 4096) (k : Fin 512) :
    val_main_v12 (F := Ideal) ya yr (ix3 b s (Fin.castAdd 512 k)) = ya (ix3 b s k) := by
  unfold val_main_v12
  exact concatenate_pair_apply_left (t := S8x4096x1024) 2 ya yr _ (ix3 b s (Fin.castAdd 512 k)) rfl (ix3 b s k) (fun a => match a with
    | ⟨0, _⟩ => rfl | ⟨1, _⟩ => rfl | ⟨2, _⟩ => rfl)

/-- The last 512 columns of the joined heads are the recurrence's. -/
theorem cat_right (b : Fin 8) (s : Fin 4096) (k : Fin 512) :
    val_main_v12 (F := Ideal) ya yr (ix3 b s (Fin.natAdd 512 k)) = yr (ix3 b s k) := by
  unfold val_main_v12
  refine concatenate_pair_apply_right (t := S8x4096x1024) 2 ya yr _ (ix3 b s (Fin.natAdd 512 k)) rfl rfl (ix3 b s k)
    (fun a h => ?_) (Nat.add_comm k.val 512)
  match a with
  | ⟨0, _⟩ => rfl
  | ⟨1, _⟩ => rfl
  | ⟨2, _⟩ => exact absurd rfl h

/-- The product of the joined heads with the output matrix, as its two halves. -/
theorem mix_ref (b : Fin 8) (s : Fin 4096) (l : Fin 1024) :
    val_main_v13 (F := Ideal) ya yr wo (ix3 b s l)
      = mix (fun k => ya (ix3 b s k)) (fun k => yr (ix3 b s k)) (fun k l => wo (ix2 (Fin.castAdd 512 k) l))
          (fun k l => wo (ix2 (Fin.natAdd 512 k) l)) l := by
  rw [val_main_v13_apply]
  refine (Fin.sum_univ_add (a := 512) (b := 512) _).trans ?_
  unfold mix
  refine congrArg₂ (· + ·) (Finset.sum_congr rfl fun k _ => ?_) (Finset.sum_congr rfl fun k _ => ?_)
  · rw [eq3 (lidx_main_v13 _ _) b s (Fin.castAdd 512 k) rfl rfl rfl, eq2 (ridx_main_v13 _ _) (Fin.castAdd 512 k) l rfl rfl, cat_left]
  · rw [eq3 (lidx_main_v13 _ _) b s (Fin.natAdd 512 k) rfl rfl rfl, eq2 (ridx_main_v13 _ _) (Fin.natAdd 512 k) l rfl rfl, cat_right]

/-- The first residual. -/
theorem mid_ref (b : Fin 8) (s : Fin 4096) (l : Fin 1024) :
    val_main_v29 (F := Ideal) x ya yr md gp wo (ix3 b s l)
      = mid (fun k => x (ix3 b s k)) (fun k => ya (ix3 b s k)) (fun k => yr (ix3 b s k)) (fun k l => wo (ix2 (Fin.castAdd 512 k) l))
          (fun k l => wo (ix2 (Fin.natAdd 512 k) l)) (fun l => md (ix2 b ⟨2048 + l.val, by omega⟩)) (fun l => gp (ix1 l)) l := by
  unfold mid rms
  simp only [← mix_ref]
  unfold eps width
  pointwise [val_main_v29, val_main_v28, val_main_v27, val_main_v26, val_main_v25, val_main_v24, val_main_v23, val_main_v22,
    val_main_v21, val_main_v20, val_main_v19, val_main_v18, val_main_v17, val_main_v16, val_main_v15, val_main_v14,
    val_main_v8, val_main_v2, val_main_cst, val_main_cst_0, val_main_cst_1]

/-- What the two wide products read. -/
theorem hid_ref (b : Fin 8) (s : Fin 4096) (l : Fin 1024) :
    val_main_v48 (F := Ideal) x ya yr md gp ga wo (ix3 b s l)
      = hid (fun k => val_main_v29 (F := Ideal) x ya yr md gp wo (ix3 b s k)) (fun l => ga (ix1 l))
          (fun l => md (ix2 b ⟨4096 + l.val, by omega⟩)) (fun l => md (ix2 b ⟨3072 + l.val, by omega⟩)) l := by
  unfold hid rms eps width
  pointwise [val_main_v48, val_main_v47, val_main_v46, val_main_v45, val_main_v44, val_main_v43, val_main_v42, val_main_v41,
    val_main_v40, val_main_v39, val_main_v38, val_main_v37, val_main_v36, val_main_v35, val_main_v34, val_main_v33,
    val_main_v32, val_main_v31, val_main_v30, val_main_v9, val_main_v10, val_main_v3, val_main_v4, val_main_cst_2,
    val_main_cst_3, val_main_cst_4, val_main_cst_5]

/-- The gated unit of a hidden column. -/
theorem act_ref (b : Fin 8) (s : Fin 4096) (f : Fin 2816) :
    val_main_v52 (F := Ideal) x ya yr md gp ga wo wg wu (ix3 b s f)
      = act (fun k => val_main_v48 (F := Ideal) x ya yr md gp ga wo (ix3 b s k)) (fun k => wg (ix2 k f)) (fun k => wu (ix2 k f)) := by
  have hg : val_main_v49 (F := Ideal) x ya yr md gp ga wo wg (ix3 b s f)
      = ∑ k : Fin 1024, val_main_v48 (F := Ideal) x ya yr md gp ga wo (ix3 b s k) * wg (ix2 k f) := by
    rw [val_main_v49_apply]
    refine Finset.sum_congr rfl fun k _ => ?_
    rw [eq3 (lidx_main_v49 _ _) b s k rfl rfl rfl, eq2 (ridx_main_v49 _ _) k f rfl rfl]
  have hu : val_main_v51 (F := Ideal) x ya yr md gp ga wo wu (ix3 b s f)
      = ∑ k : Fin 1024, val_main_v48 (F := Ideal) x ya yr md gp ga wo (ix3 b s k) * wu (ix2 k f) := by
    rw [val_main_v51_apply]
    refine Finset.sum_congr rfl fun k _ => ?_
    rw [eq3 (lidx_main_v51 _ _) b s k rfl rfl rfl, eq2 (ridx_main_v51 _ _) k f rfl rfl]
  unfold act
  rw [← hg, ← hu]
  unfold Ideal.logistic
  pointwise [val_main_v52, val_main_v50, val_main_call0_v5, val_main_call0_v4, val_main_call0_v3, val_main_call0_v2,
    val_main_call0_v1, val_main_call0_v0, val_main_call0_cst, val_main_call0_cst_0]

/-- The product back to the row's width, as its two halves of the hidden columns. -/
theorem down_ref (b : Fin 8) (s : Fin 4096) (l : Fin 1024) :
    val_main_v53 (F := Ideal) x ya yr md gp ga wo wg wu wd (ix3 b s l)
      = half (fun k => val_main_v48 (F := Ideal) x ya yr md gp ga wo (ix3 b s k)) (fun f k => wg (ix2 k (Fin.castAdd 1408 f)))
            (fun f k => wu (ix2 k (Fin.castAdd 1408 f))) (fun f l => wd (ix2 (Fin.castAdd 1408 f) l)) l
          + half (fun k => val_main_v48 (F := Ideal) x ya yr md gp ga wo (ix3 b s k)) (fun f k => wg (ix2 k (Fin.natAdd 1408 f)))
            (fun f k => wu (ix2 k (Fin.natAdd 1408 f))) (fun f l => wd (ix2 (Fin.natAdd 1408 f) l)) l := by
  rw [val_main_v53_apply]
  refine (Fin.sum_univ_add (a := 1408) (b := 1408) _).trans ?_
  unfold half
  refine congrArg₂ (· + ·) (Finset.sum_congr rfl fun k _ => ?_) (Finset.sum_congr rfl fun k _ => ?_)
  · rw [eq3 (lidx_main_v53 _ _) b s (Fin.castAdd 1408 k) rfl rfl rfl, eq2 (ridx_main_v53 _ _) (Fin.castAdd 1408 k) l rfl rfl, act_ref]
  · rw [eq3 (lidx_main_v53 _ _) b s (Fin.natAdd 1408 k) rfl rfl rfl, eq2 (ridx_main_v53 _ _) (Fin.natAdd 1408 k) l rfl rfl, act_ref]

/-- The result: the second residual. -/
theorem fin_ref (b : Fin 8) (s : Fin 4096) (l : Fin 1024) :
    val_main_v69 (F := Ideal) x ya yr md gp ga gf wo wg wu wd (ix3 b s l)
      = fin (fun k => val_main_v29 (F := Ideal) x ya yr md gp wo (ix3 b s k))
          (fun k => val_main_v53 (F := Ideal) x ya yr md gp ga wo wg wu wd (ix3 b s k))
          (fun l => md (ix2 b ⟨5120 + l.val, by omega⟩)) (fun l => gf (ix1 l)) l := by
  unfold fin rms eps width
  pointwise [val_main_v69, val_main_v68, val_main_v67, val_main_v66, val_main_v65, val_main_v64, val_main_v63, val_main_v62,
    val_main_v61, val_main_v60, val_main_v59, val_main_v58, val_main_v57, val_main_v56, val_main_v55, val_main_v54,
    val_main_v11, val_main_v5, val_main_cst_6, val_main_cst_7, val_main_cst_8]

end Cert.Ffn.Ref

end
-- ==== Proof.FfnValue.lean ====
/-
  The output part's result array, row by row: the tile a grid point works on is a range of tokens, the two points of a
  tile cover the two halves of the hidden columns, and so the array ends at the reference's row function.
-/
module

public import proofs.«01_k».proof.Proof.FfnCase
public import proofs.«01_k».proof.Proof.FfnRef

@[expose] public section

set_option maxRecDepth 16384

noncomputable section

namespace Cert.Ffn

open Cert.Kernel2Ideal Cert.Kernel2Ideal.Gen Cert.Kernel2Ideal.Value Idealize.ShloMosaic Idealize.ShloMosaic.TcCoe Idealize.SL.Sem

section Rows

variable (x : FVec Ideal S8x4096x1024 .f32) (ya yr : FVec Ideal S8x4096x512 .f32) (md : FVec Ideal S8x6144 .f32)
  (gp ga gf : FVec Ideal S1024 .f32) (wo : FVec Ideal S1024x1024 .f32) (wg wu : FVec Ideal S1024x2816 .f32)
  (wd : FVec Ideal S2816x1024 .f32)

/-- The first residual of a token, over the whole arrays. -/
def rowMid (b : Fin 8) (s : Fin 4096) : Row :=
  mid (fun k => x (ix3 b s k)) (fun k => ya (ix3 b s k)) (fun k => yr (ix3 b s k)) (fun k l => wo (ix2 (Fin.castAdd 512 k) l))
    (fun k l => wo (ix2 (Fin.natAdd 512 k) l)) (fun l => md (ix2 b ⟨2048 + l.val, by omega⟩)) (fun l => gp (ix1 l))

/-- What the wide products read of a token, over the whole arrays. -/
def rowHid (b : Fin 8) (s : Fin 4096) : Row :=
  hid (rowMid x ya yr md gp wo b s) (fun l => ga (ix1 l))
    (fun l => md (ix2 b ⟨4096 + l.val, by omega⟩)) (fun l => md (ix2 b ⟨3072 + l.val, by omega⟩))

/-- The product back over the half of the hidden columns the number names. -/
def rowHalf (j : Nat) (hj : j < 2) (h : Row) : Row :=
  half h (fun f k => wg (ix2 k ⟨1408 * j + f.val, by omega⟩)) (fun f k => wu (ix2 k ⟨1408 * j + f.val, by omega⟩))
    (fun f l => wd (ix2 ⟨1408 * j + f.val, by omega⟩ l))

/-- The result at a token, over the whole arrays. -/
def rowOut (b : Fin 8) (s : Fin 4096) : Row :=
  fin (rowMid x ya yr md gp wo b s)
    (fun k => rowHalf wg wu wd 0 (by decide) (rowHid x ya yr md gp ga wo b s) k + rowHalf wg wu wd 1 (by decide) (rowHid x ya yr md gp ga wo b s) k)
    (fun l => md (ix2 b ⟨5120 + l.val, by omega⟩)) (fun l => gf (ix1 l))

/-- The reference's result at a token is the row function over the whole arrays. -/
theorem ref_row (b : Fin 8) (s : Fin 4096) (l : Fin 1024) :
    Cert.Reference2Ideal.Read.val_main_v69 (F := Ideal) x ya yr md gp ga gf wo wg wu wd (ix3 b s l)
      = rowOut x ya yr md gp ga gf wo wg wu wd b s l := by
  refine (Ref.fin_ref x ya yr md gp ga gf wo wg wu wd b s l).trans ?_
  have hm : (fun k => Cert.Reference2Ideal.Read.val_main_v29 (F := Ideal) x ya yr md gp wo (ix3 b s k)) = rowMid x ya yr md gp wo b s :=
    funext fun k => Ref.mid_ref x ya yr md gp wo b s k
  have hh : (fun k => Cert.Reference2Ideal.Read.val_main_v48 (F := Ideal) x ya yr md gp ga wo (ix3 b s k)) = rowHid x ya yr md gp ga wo b s :=
    funext fun k => (Ref.hid_ref x ya yr md gp ga wo b s k).trans (by rw [hm]; rfl)
  have hd : (fun k => Cert.Reference2Ideal.Read.val_main_v53 (F := Ideal) x ya yr md gp ga wo wg wu wd (ix3 b s k))
      = fun k => rowHalf wg wu wd 0 (by decide) (rowHid x ya yr md gp ga wo b s) k
          + rowHalf wg wu wd 1 (by decide) (rowHid x ya yr md gp ga wo b s) k := by
    funext k
    refine (Ref.down_ref x ya yr md gp ga wo wg wu wd b s k).trans ?_
    rw [hh]
    have e0 : ∀ f : Fin 1408, (Fin.castAdd 1408 f : Fin 2816) = ⟨1408 * 0 + f.val, by omega⟩ :=
      fun f => Fin.ext (by show f.val = 1408 * 0 + f.val; omega)
    have e1 : ∀ f : Fin 1408, (Fin.natAdd 1408 f : Fin 2816) = ⟨1408 * 1 + f.val, by omega⟩ :=
      fun f => Fin.ext (by show 1408 + f.val = 1408 * 1 + f.val; omega)
    unfold rowHalf
    simp only [e0, e1]
  rw [hm, hd]
  rfl

end Rows

variable (m : (ℓ : Loc nD τ sig) → Buf (Elt Ideal) ℓ) (c : Dev nD)

/-- The first residual of a tile's row is the token's. -/
theorem tile_mid (t : Fin cfg0.N) (r : Fin 512) (b : Fin 8) (s : Fin 4096) (hb : ptB t = b.val) (hs : 512 * ptI t + r.val = s.val) :
    bMid m c t r = rowMid (arg m c main_arg0) (arg m c main_arg1) (arg m c main_arg2) (arg m c main_arg3) (arg m c main_arg4)
      (arg m c main_arg7) b s := by
  have eb : (⟨ptB t, ptB_lt t⟩ : Fin 8) = b := Fin.ext hb
  have es : (⟨512 * ptI t + r.val, by have := ptI_lt t; omega⟩ : Fin 4096) = s := Fin.ext hs
  unfold bMid rowMid
  simp only [blk0, blk1, blk2, blk3, blk4, blk7, eb, es]
  rfl

/-- What the wide products read of a tile's row is the token's. -/
theorem tile_hid (t : Fin cfg0.N) (r : Fin 512) (b : Fin 8) (s : Fin 4096) (hb : ptB t = b.val) (hs : 512 * ptI t + r.val = s.val) :
    bHid m c t r = rowHid (arg m c main_arg0) (arg m c main_arg1) (arg m c main_arg2) (arg m c main_arg3) (arg m c main_arg4)
      (arg m c main_arg5) (arg m c main_arg7) b s := by
  have eb : (⟨ptB t, ptB_lt t⟩ : Fin 8) = b := Fin.ext hb
  unfold bHid rowHid
  rw [tile_mid m c t r b s hb hs]
  simp only [blk3, blk5, eb]
  rfl

/-- The product over a point's half of the hidden columns is over the half the point's number names. -/
theorem tile_half (t : Fin cfg0.N) (j : Nat) (hj : j < 2) (h : Row) (ht : ptJ t = j) :
    bHalf m c t h = rowHalf (arg m c main_arg8) (arg m c main_arg9) (arg m c main_arg10) j hj h := by
  subst ht
  unfold bHalf rowHalf
  simp only [blk8, blk9, blk10]

/-- What the carried buffers hold after any point is the point's step from something. -/
theorem fold_step (n : Nat) (h : 0 + n < cfg0.N) :
    ∃ acc, Pipeline.accAt (fun n h => stAt0 m c n h junk0) (stAt0 m c) 0 n h = stAt0 m c n (by omega) acc := by
  cases n with
  | zero => exact ⟨junk0, rfl⟩
  | succ j =>
    refine ⟨Pipeline.accAt (fun n h => stAt0 m c n h junk0) (stAt0 m c) 0 j (by omega), ?_⟩
    rw [Pipeline.accAt_succ]
    congr 1
    omega

/-- The result array at a token is the row function over the arguments. -/
theorem out_row (b : Fin 8) (s : Fin 4096) (l : Fin 1024) :
    (G11 m c : FVec Ideal S8x4096x1024 .f32) (ix3 b s l)
      = rowOut (arg m c main_arg0) (arg m c main_arg1) (arg m c main_arg2) (arg m c main_arg3) (arg m c main_arg4)
          (arg m c main_arg5) (arg m c main_arg6) (arg m c main_arg7) (arg m c main_arg8) (arg m c main_arg9)
          (arg m c main_arg10) b s l := by
  have hN : cfg0.N = 128 := N_0
  obtain ⟨R, hR⟩ : ∃ R, R = 8 * b.val + s.val / 512 := ⟨_, rfl⟩
  have hpt : pt11Of (ix3 b s l) = 2 * R + 1 := by
    show 2 * (8 * (b.val / 1 - 0) + 1 * (s.val / 512 - 0) + 1 * (l.val / 1024 - 0)) + 1 = _
    omega
  have hlt : pt11Of (ix3 b s l) < cfg0.N := by rw [hpt, hN]; omega
  unfold G11
  rw [dif_pos hlt, fold0_congr m c _ _ _ (by omega) hpt, Pipeline.accAt_succ]
  obtain ⟨acc, hacc⟩ := fold_step m c (2 * R) (by omega)
  rw [hacc]
  have h1 : 0 + (2 * R + 1) < cfg0.N := by omega
  have h0 : 2 * R < cfg0.N := by omega
  have e0 : (⟨2 * R, h0⟩ : Fin cfg0.N).val % 2 = 0 := by show 2 * R % 2 = 0; omega
  have e1 : (⟨0 + (2 * R + 1), h1⟩ : Fin cfg0.N).val % 2 = 1 := by show (0 + (2 * R + 1)) % 2 = 1; omega
  have hb0 : ptB ⟨2 * R, h0⟩ = b.val := by show 2 * R / 16 = _; omega
  have hb1 : ptB ⟨0 + (2 * R + 1), h1⟩ = b.val := by show (0 + (2 * R + 1)) / 16 = _; omega
  have hs0 : 512 * ptI ⟨2 * R, h0⟩ + s.val % 512 = s.val := by show 512 * (2 * R / 2 % 8) + _ = _; omega
  have hj0 : ptJ ⟨2 * R, h0⟩ = 0 := e0
  have hj1 : ptJ ⟨0 + (2 * R + 1), h1⟩ = 1 := e1
  have hloc : (loc11Of (ix3 b s l) : S1x512x1024.Idx) = ix3 0 ⟨s.val % 512, Nat.mod_lt _ (by decide)⟩ l := by
    funext a
    apply Fin.ext
    match a with
    | ⟨0, _⟩ => exact Nat.mod_one _
    | ⟨1, _⟩ => rfl
    | ⟨2, _⟩ => exact Nat.mod_eq_of_lt l.isLt
  rw [hloc]
  refine (congrFun (second_out m c ⟨0 + (2 * R + 1), h1⟩ (stAt0 m c (2 * R) h0 acc) (by omega) e1) _).trans ?_
  have hm := first_mid m c ⟨2 * R, h0⟩ acc e0 (by omega)
  have hh := first_hid m c ⟨2 * R, h0⟩ acc e0 (by omega)
  have ha := first_acc m c ⟨2 * R, h0⟩ acc e0 (by omega)
  dsimp only at hm hh ha ⊢
  rw [hm, hh, ha]
  have em := tile_mid m c ⟨2 * R, h0⟩ ⟨s.val % 512, Nat.mod_lt _ (by decide)⟩ b s hb0 hs0
  have eh := tile_hid m c ⟨2 * R, h0⟩ ⟨s.val % 512, Nat.mod_lt _ (by decide)⟩ b s hb0 hs0
  have eb : (⟨ptB ⟨0 + (2 * R + 1), h1⟩, ptB_lt _⟩ : Fin 8) = b := Fin.ext hb1
  unfold rowOut
  rw [← em, ← eh, ← tile_half m c ⟨2 * R, h0⟩ 0 (by decide) _ hj0, ← tile_half m c ⟨0 + (2 * R + 1), h1⟩ 1 (by decide) _ hj1]
  simp only [blk3, blk6, eb]
  rfl

end Cert.Ffn

end
-- ==== Proof.FfnClaim.lean ====
/-
  The value claim of the output part: run from equal arguments, the kernel's array and the reference's are equal element by
  element over the extended reals, both being the row function at the arguments.
-/
module

public import proofs.«01_k».proof.Defs
public import proofs.«01_k».proof.Proof.FfnValue
public import proofs.«01_k».proof.Proof.Gen.Reference2Ideal.Run
public import Idealize.ShloMosaic.Lib.Claim

@[expose] public section

set_option maxRecDepth 16384

noncomputable section

namespace Cert.Ffn

open Idealize.ShloMosaic Idealize.ShloMosaic.TcCoe Idealize.SL.Sem

/-- The output part's kernel computes its reference, over the extended reals and for every input. -/
theorem algebraic : Cert.algebraic_Kernel2Ideal_Reference2Ideal := by
  pair_intro
  · run_from Cert.Kernel2Ideal.Value.run (F := Ideal) m g
  · run_from Cert.Reference2Ideal.Value.run (F := Ideal) m' g'
    rw [Cert.Reference2Ideal.Read.val_main_v69_eq]
    obtain ⟨e0, e1, e2, e3, e4, e5, e6, e7, e8, e9, e10⟩ := hagree c
    rw [e0, e1, e2, e3, e4, e5, e6, e7, e8, e9, e10]
    funext i
    obtain ⟨b, s, l, rfl⟩ : ∃ (b : Fin 8) (s : Fin 4096) (l : Fin 1024), i = ix3 b s l := ⟨i 0, i 1, i 2, by
      funext a
      match a with
      | ⟨0, _⟩ => rfl
      | ⟨1, _⟩ => rfl
      | ⟨2, _⟩ => rfl⟩
    exact (ref_row ..).trans (out_row m c b s l).symm

end Cert.Ffn

end
-- ==== Proof.InpRef.lean ====
/-
  The input projection's reference read one row at a time: the two arrays it gives are the normalised, scaled and shifted
  row times the columns of the padded matrix.
-/
module

public import proofs.«01_k».proof.Proof.Gen.Reference3Ideal.Read
public import proofs.«01_k».proof.Proof.FfnMath
public import Idealize.ShloMosaic.Lib.Pipeline.Value
public import Idealize.ShloMosaic.Lib.KernelVsHost

@[expose] public section

set_option maxRecDepth 16384

noncomputable section

namespace Cert.Inp

open Cert.Reference3Ideal Cert.Reference3Ideal.Gen Cert.Reference3Ideal.Read Idealize.ShloMosaic Cert.Ffn

/-- An index of a rank-3 array from its coordinates' numbers. -/
theorem eq3 {n0 n1 n2 : Nat} (i : (⟨3, ![n0, n1, n2]⟩ : Shape).Idx) (a : Fin n0) (b : Fin n1) (c : Fin n2)
    (h0 : (i 0).val = a.val) (h1 : (i 1).val = b.val) (h2 : (i 2).val = c.val) : i = ix3 a b c := by
  funext x
  apply Fin.ext
  match x with
  | ⟨0, _⟩ => exact h0
  | ⟨1, _⟩ => exact h1
  | ⟨2, _⟩ => exact h2

/-- An index of a rank-2 array from its coordinates' numbers. -/
theorem eq2 {n0 n1 : Nat} (i : (⟨2, ![n0, n1]⟩ : Shape).Idx) (a : Fin n0) (b : Fin n1)
    (h0 : (i 0).val = a.val) (h1 : (i 1).val = b.val) : i = ix2 a b := by
  funext x
  apply Fin.ext
  match x with
  | ⟨0, _⟩ => exact h0
  | ⟨1, _⟩ => exact h1

/-- A column of the padded matrix: the attention's 456 columns, zeros up to 512, the recurrence's 1824 columns, zeros. -/
def wcol (w : FVec Ideal S1024x2280 .f32) (k : Fin 1024) (n : Nat) : EReal :=
  if h : n < 456 then w (ix2 k ⟨n, by omega⟩)
  else if n < 512 then 0
  else if h : n < 2336 then w (ix2 k ⟨n - 56, by omega⟩)
  else 0

variable (x : FVec Ideal S8x4096x1024 .f32) (md : FVec Ideal S8x6144 .f32) (g : FVec Ideal S1024 .f32)
  (w : FVec Ideal S1024x2280 .f32)

/-- What the projection reads of a token: its normalised row, scaled and shifted. -/
def rowIn (b : Fin 8) (s : Fin 4096) : Row :=
  hid (fun k => x (ix3 b s k)) (fun l => g (ix1 l)) (fun l => md (ix2 b ⟨1024 + l.val, by omega⟩))
    (fun l => md (ix2 b ⟨l.val, by omega⟩))

/-- A token's row times a column of the padded matrix. -/
def rowProj (b : Fin 8) (s : Fin 4096) (n : Nat) : EReal := ∑ k, rowIn x md g b s k * wcol w k n

/-- What the reference's product reads. -/
theorem in_ref (b : Fin 8) (s : Fin 4096) (l : Fin 1024) :
    val_main_v30 (F := Ideal) x md g (ix3 b s l) = rowIn x md g b s l := by
  unfold rowIn hid rms eps width
  pointwise [val_main_v30, val_main_v29, val_main_v28, val_main_v27, val_main_v26, val_main_v25, val_main_v24, val_main_v23,
    val_main_v22, val_main_v21, val_main_v20, val_main_v19, val_main_v18, val_main_v17, val_main_v16, val_main_v15,
    val_main_v14, val_main_v13, val_main_v12, val_main_v7, val_main_v6, val_main_v1, val_main_v0, val_main_cst,
    val_main_cst_0, val_main_cst_1, val_main_cst_2]

/-- The reference's product. -/
theorem proj_ref (b : Fin 8) (s : Fin 4096) (n : Fin 2280) :
    val_main_v31 (F := Ideal) x md g w (ix3 b s n) = ∑ k, rowIn x md g b s k * w (ix2 k n) := by
  rw [val_main_v31_apply]
  refine Finset.sum_congr rfl fun k _ => ?_
  rw [eq3 (lidx_main_v31 _ _) b s k rfl rfl rfl, eq2 (ridx_main_v31 _ _) k n rfl rfl, in_ref]

/-- A sum against zeros. -/
theorem sum_zeros (h : Row) : ∑ k, h k * (0 : EReal) = 0 := by simp

/-- The number that fills the added columns is zero. -/
theorem zero_pad : (FloatOps.sitofp (F := Ideal) .f32 (0#32 : BitVec 32)) = (0 : EReal) := by
  show (((0#32 : BitVec 32).toInt : ℝ) : EReal) = 0
  simp

/-- The reference's array for the attention. -/
theorem att_ref (b : Fin 8) (s : Fin 4096) (n : Fin 512) :
    val_main_v34 (F := Ideal) x md g w (ix3 b s n) = rowProj x md g w b s n.val := by
  unfold rowProj wcol
  by_cases h : n.val < 456
  · unfold val_main_v34
    rw [pad_apply_of_inside _ _ _ _ _ _ _ _ (ix3 b s ⟨n.val, h⟩) (fun a => match a with
      | ⟨0, _⟩ => by show b.val = 0 + b.val * (0 + 1); omega
      | ⟨1, _⟩ => by show s.val = 0 + s.val * (0 + 1); omega
      | ⟨2, _⟩ => by show n.val = 0 + n.val * (0 + 1); omega)]
    rw [val_main_v32_apply]
    simp only [h, dif_pos]
    rw [← proj_ref]
    congr 1
    exact eq3 _ _ _ _ rfl rfl rfl
  · have h5 : n.val < 512 := n.isLt
    simp only [h, h5, dif_neg, not_false_eq_true, if_pos, sum_zeros]
    unfold val_main_v34
    rw [pad_apply_of_not_inside _ _ _ _ _ _ _ _ 2 (by
      show ¬(0 ≤ n.val ∧ (n.val - 0) % (0 + 1) = 0 ∧ (n.val - 0) / (0 + 1) < 456); omega)]
    exact zero_pad

/-- The reference's array for the recurrence. -/
theorem rw_ref (b : Fin 8) (s : Fin 4096) (n : Fin 1920) :
    val_main_v35 (F := Ideal) x md g w (ix3 b s n) = rowProj x md g w b s (512 + n.val) := by
  unfold rowProj wcol
  have h0 : ¬ 512 + n.val < 456 := by omega
  have h1 : ¬ 512 + n.val < 512 := by omega
  by_cases h : n.val < 1824
  · have h2 : 512 + n.val < 2336 := by omega
    unfold val_main_v35
    rw [pad_apply_of_inside _ _ _ _ _ _ _ _ (ix3 b s ⟨n.val, h⟩) (fun a => match a with
      | ⟨0, _⟩ => by show b.val = 0 + b.val * (0 + 1); omega
      | ⟨1, _⟩ => by show s.val = 0 + s.val * (0 + 1); omega
      | ⟨2, _⟩ => by show n.val = 0 + n.val * (0 + 1); omega)]
    rw [val_main_v33_apply]
    simp only [h0, h1, h2, dif_neg, not_false_eq_true, if_neg, dif_pos]
    rw [← proj_ref]
    congr 1
    exact eq3 _ _ _ _ rfl rfl
      (by show 456 + n.val = 512 + n.val - 56; omega)
  · have h2 : ¬ 512 + n.val < 2336 := by omega
    simp only [h0, h1, h2, dif_neg, not_false_eq_true, if_neg, sum_zeros]
    unfold val_main_v35
    rw [pad_apply_of_not_inside _ _ _ _ _ _ _ _ 2 (by
      show ¬(0 ≤ n.val ∧ (n.val - 0) % (0 + 1) = 0 ∧ (n.val - 0) / (0 + 1) < 1824); omega)]
    exact zero_pad

end Cert.Inp

end
-- ==== Proof.InpValue.lean ====
/-
  The input projection's two arrays, row by row: a grid point works on 1024 tokens of one batch row, and what it stores is
  the row function of InpRef.lean at those tokens.
-/
module

public import proofs.«01_k».proof.Proof.Gen.Kernel3Ideal.Value
public import proofs.«01_k».proof.Proof.InpRef
public import Idealize.ShloMosaic.Lib.Pipeline.ValueKit.Geometry

@[expose] public section

set_option maxRecDepth 16384

noncomputable section

namespace Cert.Inp

open Cert.Kernel3Ideal Cert.Kernel3Ideal.Gen Cert.Kernel3Ideal.Value Idealize.ShloMosaic Idealize.ShloMosaic.TcCoe Idealize.SL.Sem Cert.Ffn

/-- The matrix as the launch pads it. -/
def wpad (w : FVec Ideal S1024x2280 .f32) : FVec Ideal S1024x2432 .f32 :=
  concatenate S1024x2432 1
    [⟨S1024x512, pad S1024x512 ![0, 0] ![0, 56] ![0, 0] (extractStridedSlice S1024x456 ![0, 0] w slices_S1024x2280_S1024x456_0_0)
        (sitofp .f32 (constantI S_ 32 0#32) : FVec Ideal S_ .f32) pads_S1024x456_S1024x512_000_0560 h_S_⟩,
      ⟨S1024x1664, extractStridedSlice S1024x1664 ![0, 0] (extractStridedSlice S1024x1824 ![0, 456] w slices_S1024x2280_S1024x1824_0_456)
        slices_S1024x1824_S1024x1664_0_0⟩,
      ⟨S1024x256, pad S1024x256 ![0, 0] ![0, 96] ![0, 0]
        (extractStridedSlice S1024x160 ![0, 1664] (extractStridedSlice S1024x1824 ![0, 456] w slices_S1024x2280_S1024x1824_0_456)
          slices_S1024x1824_S1024x160_0_1664)
        (sitofp .f32 (constantI S_ 32 0#32) : FVec Ideal S_ .f32) pads_S1024x160_S1024x256_000_0960 h_S_⟩]
    concatenates_S1024x512_S1024x1664_S1024x256_S1024x2432_d1

/-- The column of the padded weight at `n`, by the part of the three that holds it. -/
theorem col_cases (f : Fin 2280 → EReal) (z : EReal) (hz : z = 0) (n : ℕ) (hn : n < 2432) :
    (if h : n < 512 then if h1 : n < 456 then f ⟨n, by omega⟩ else z
      else if h1 : n - 512 < 1664 then f ⟨456 + (n - 512), by omega⟩
      else if h2 : n - 512 - 1664 < 160 then f ⟨456 + (1664 + (n - 512 - 1664)), by omega⟩ else z)
      = if h : n < 456 then f ⟨n, by omega⟩ else if n < 512 then 0
        else if h : n < 2336 then f ⟨n - 56, by omega⟩ else 0 := by
  subst hz
  have e : ∀ (a b : Fin 2280), a.val = b.val → f a = f b := fun a b h => congrArg f (Fin.ext h)
  split_ifs <;> first | rfl | omega | exact e _ _ (by dsimp only; omega)

/-- Its columns. -/
theorem wpad_apply (w : FVec Ideal S1024x2280 .f32) (k : Fin 1024) (n : Fin 2432) : wpad w (ix2 k n) = wcol w k n.val := by
  unfold wcol
  pointwise [wpad]
  exact col_cases (fun q => w (ix2 k q)) _ zero_pad n.val n.isLt

variable (m : (ℓ : Loc nD τ sig) → Buf (Elt Ideal) ℓ) (c : Dev nD)

/-- An argument of the launch, as an array. -/
abbrev arg (b : Ref sig .tc) : Buf (Elt Ideal) ((c : Thread nD τ).loc b) := m ((c : Thread nD τ).loc b)

/-- The batch row of a grid point. -/
def ptB (t : Fin cfg0.N) : Nat := t.val / 4
/-- The point's tile of the sequence. -/
def ptI (t : Fin cfg0.N) : Nat := t.val % 4

/-- A batch row's number is below 8. -/
theorem ptB_lt (t : Fin cfg0.N) : ptB t < 8 := by
  have h : t.val < 32 := lt_of_lt_of_eq t.isLt N_0
  unfold ptB; omega

/-- A tile's number is below 4. -/
theorem ptI_lt (t : Fin cfg0.N) : ptI t < 4 := Nat.mod_lt _ (by decide)

/-- Where the windows stand. -/
theorem index_facts : ∀ t : Fin grid0.N,
    (win0_0.index t 0 = t.val / 4 ∧ win0_0.index t 1 = t.val % 4 ∧ win0_0.index t 2 = 0)
    ∧ (win0_1.index t 0 = t.val / 4 ∧ win0_1.index t 1 = 0 ∧ win0_1.index t 2 = 0)
    ∧ (win0_2.index t 0 = 0 ∧ win0_2.index t 1 = 0) ∧ (win0_3.index t 0 = 0 ∧ win0_3.index t 1 = 0)
    ∧ (win0_4.index t 0 = t.val / 4 ∧ win0_4.index t 1 = t.val % 4 ∧ win0_4.index t 2 = 0)
    ∧ (win0_5.index t 0 = t.val / 4 ∧ win0_5.index t 1 = t.val % 4 ∧ win0_5.index t 2 = 0) := by decide +kernel

/-- The input rows of the point's tile. -/
theorem blk0 (t : Fin cfg0.N) (r : Fin 1024) (l : Fin 1024) :
    (iblk m c 0 t : FVec Ideal S1x1024x1024 .f32) (ix3 0 r l)
      = (arg m c main_arg0 : FVec Ideal S8x4096x1024 .f32) (ix3 ⟨ptB t, ptB_lt t⟩ ⟨1024 * ptI t + r.val, by have := ptI_lt t; omega⟩ l) := by
  have hi := (index_facts t).1
  unfold iblk
  rw [View.read_apply]
  show V m c main_arg0 _ = _
  rw [V_main_arg0]
  exact congrArg _ (eq3 _ _ _ _ (by show win0_0.index t 0 * 1 + 1 * 0 = t.val / 4; rw [hi.1]; omega)
    (by show win0_0.index t 1 * 1024 + 1 * r.val = 1024 * (t.val % 4) + r.val; rw [hi.2.1]; omega)
    (by show win0_0.index t 2 * 1024 + 1 * l.val = l.val; rw [hi.2.2]; omega))

/-- A chunk of the batch row's modulation. -/
theorem blk1 (t : Fin cfg0.N) (q : Fin 6) (l : Fin 1024) :
    (iblk m c 1 t : FVec Ideal S1x6x1024 .f32) (ix3 0 q l)
      = (arg m c main_arg1 : FVec Ideal S8x6144 .f32) (ix2 ⟨ptB t, ptB_lt t⟩ ⟨q.val * 1024 + l.val, by omega⟩) := by
  have hi := (index_facts t).2.1
  have hV : (V m c main_v0 : FVec Ideal S8x6x1024 .f32)
      = shapeCast S8x6x1024 (arg m c main_arg1 : FVec Ideal S8x6144 .f32) shapeCasts_S8x6144_S8x6x1024 := by
    unfold V
    simp only [hostOps0, hostOps0_1, hostOps0_2, hostOps0_3, hostOps0_4, List.flatten_cons, List.flatten_nil, List.append_nil,
      List.cons_append, List.nil_append]
    after_results
    rfl
  unfold iblk
  rw [View.read_apply]
  show (V m c main_v0 : FVec Ideal S8x6x1024 .f32) _ = _
  rw [hV]
  refine Eq.trans (congrArg _ (eq3 _ ⟨ptB t, ptB_lt t⟩ q l (by show win0_1.index t 0 * 1 + 1 * 0 = t.val / 4; rw [hi.1]; omega)
    (by show win0_1.index t 1 * 6 + 1 * q.val = q.val; rw [hi.2.1]; omega)
    (by show win0_1.index t 2 * 1024 + 1 * l.val = l.val; rw [hi.2.2]; omega))) ?_
  pointwise

/-- The gain. -/
theorem blk2 (t : Fin cfg0.N) (l : Fin 1024) :
    (iblk m c 2 t : FVec Ideal S1x1024 .f32) (ix2 0 l) = (arg m c main_arg2 : FVec Ideal S1024 .f32) (ix1 l) := by
  have hi := (index_facts t).2.2.1
  have hV : (V m c main_v9 : FVec Ideal S1x1024 .f32)
      = shapeCast S1x1024 (arg m c main_arg2 : FVec Ideal S1024 .f32) shapeCasts_S1024_S1x1024 := by
    unfold V
    simp only [hostOps0, hostOps0_1, hostOps0_2, hostOps0_3, hostOps0_4, List.flatten_cons, List.flatten_nil, List.append_nil,
      List.cons_append, List.nil_append]
    after_results
    rfl
  unfold iblk
  rw [View.read_apply]
  show (V m c main_v9 : FVec Ideal S1x1024 .f32) _ = _
  rw [hV]
  refine Eq.trans (congrArg _ (eq2 _ 0 l (by show win0_2.index t 0 * 1 + 1 * 0 = 0; rw [hi.1])
    (by show win0_2.index t 1 * 1024 + 1 * l.val = l.val; rw [hi.2]; omega))) ?_
  pointwise

/-- The padded matrix. -/
theorem blk3 (t : Fin cfg0.N) (k : Fin 1024) (n : Fin 2432) :
    (iblk m c 3 t : FVec Ideal S1024x2432 .bf16) (ix2 k n)
      = wcol (arg m c main_arg3 : FVec Ideal S1024x2280 .f32) k n.val := by
  have hi := (index_facts t).2.2.2.1
  have hV : (V m c main_v8 : FVec Ideal S1024x2432 .bf16)
      = (truncf .bf16 (wpad (arg m c main_arg3 : FVec Ideal S1024x2280 .f32)) bitsLt_bf16_f32 : FVec Ideal S1024x2432 .bf16) := by
    unfold V
    simp only [hostOps0, hostOps0_1, hostOps0_2, hostOps0_3, hostOps0_4, List.flatten_cons, List.flatten_nil, List.append_nil,
      List.cons_append, List.nil_append]
    after_results
    rfl
  unfold iblk
  rw [View.read_apply]
  show (V m c main_v8 : FVec Ideal S1024x2432 .bf16) _ = _
  rw [hV]
  show wpad (arg m c main_arg3) _ = _
  refine (congrArg _ (eq2 _ k n (by show win0_3.index t 0 * 1024 + 1 * k.val = k.val; rw [hi.1]; omega)
    (by show win0_3.index t 1 * 2432 + 1 * n.val = n.val; rw [hi.2]; omega))).trans (wpad_apply _ k n)

/-- What the products read of a tile's row, over the blocks loaded. -/
theorem in_blk (x0 : FVec Ideal S1x1024x1024 .f32) (x1 : FVec Ideal S1x6x1024 .f32) (x2 : FVec Ideal S1x1024 .f32)
    (x3 : FVec Ideal S1024x2432 .bf16) (r l : Fin 1024) :
    Cert.Kernel3Ideal.Gen.k0_pay9 (F := Ideal) x0 x1 x2 x3 (ix2 r l) = hid (fun k => x0 (ix3 0 r k)) (fun l => x2 (ix2 0 l)) (fun l => x1 (ix3 0 1 l))
      (fun l => x1 (ix3 0 0 l)) l := by
  unfold hid rms eps width
  pointwise [k0_pay9, k0_pay2]

/-- A tile's row times columns of the matrix. -/
theorem dot_blk (h : FVec Ideal S1024x1024 .bf16) (w : FVec Ideal S1024x384 .bf16) (r : Fin 1024) (n : Fin 384) :
    k0_pay4 (F := Ideal) h w (ix3 0 r n) = ∑ k : Fin 1024, h (ix2 r k) * w (ix2 k n) := by
  pointwise [k0_pay4]

/-- The rows of a tile times the padded matrix from column 512 on. -/
def rest (X : FVec Ideal S1024x2432 .bf16) (h : FVec Ideal S1024x1024 .bf16) : FVec Ideal S1x1024x1920 .f32 :=
  fun y => ∑ k : Fin 1024, h (ix2 (y 1) k) * X (ix2 k ⟨512 + (y 2).val, by have : (y 2).val < 1920 := (y 2).isLt; omega⟩)

/-- A piece of 384 columns of it. -/
theorem rest_piece (X : FVec Ideal S1024x2432 .bf16) (h : FVec Ideal S1024x1024 .bf16) (o : Nat) (inb inb')
    (y : S1x1024x384.Idx) :
    k0_pay4 (F := Ideal) h (View.ld (Val := Elt Ideal) (e' := .bf16) X (Rect.unit (s := S1024x2432) ![0, 512 + o] ![1024, 384] inb)) y
      = rest X h ((Rect.unit (s := S1x1024x1920) ![0, 0, o] ![1, 1024, 384] inb').emb y) := by
  obtain ⟨r, n, rfl⟩ : ∃ (r : Fin 1024) (n : Fin 384), y = ix3 0 r n := ⟨y 1, y 2, by
    funext a; match a with | ⟨0, _⟩ => exact Subsingleton.elim (α := Fin 1) _ _ | ⟨1, _⟩ => rfl | ⟨2, _⟩ => rfl⟩
  refine (dot_blk ..).trans ?_
  refine Finset.sum_congr rfl fun k _ => congrArg₂ (· * ·) (congrArg (fun q => h (ix2 q k)) (Fin.ext ?_)) (congrArg X (eq2 _ _ _ ?_ ?_))
  · show r.val = 0 + 1 * r.val; omega
  · show 0 + 1 * k.val = k.val; omega
  · show 512 + o + 1 * n.val = 512 + (o + 1 * n.val); omega

/-- The block stored for the recurrence. -/
theorem out5 (x0 : FVec Ideal S1x1024x1024 .f32) (x1 : FVec Ideal S1x6x1024 .f32) (x2 : FVec Ideal S1x1024 .f32)
    (x3 : FVec Ideal S1024x2432 .bf16) : out0_5 (F := Ideal) x0 x1 x2 x3 = rest x3 (Cert.Kernel3Ideal.Gen.k0_pay9 x0 x1 x2 x3) := by
  unfold out0_5
  funext y
  refine View.canon_apply_of_pieces (Val := Elt Ideal) (S := S1x1024x1920) (e := .f32) (rest x3 (Cert.Kernel3Ideal.Gen.k0_pay9 x0 x1 x2 x3)) _ ?_ y
    (cover0_5 (y := y) ..)
  simp only [List.forall_mem_cons]
  refine ⟨fun z => ?_, fun z => ?_, fun z => ?_, fun z => ?_, fun z => ?_, by simp⟩
  · exact rest_piece x3 _ 1536 _ _ z
  · exact rest_piece x3 _ 1152 _ _ z
  · exact rest_piece x3 _ 768 _ _ z
  · exact rest_piece x3 _ 384 _ _ z
  · exact rest_piece x3 _ 0 _ _ z

/-- The block stored for the attention. -/
theorem out4 (x0 : FVec Ideal S1x1024x1024 .f32) (x1 : FVec Ideal S1x6x1024 .f32) (x2 : FVec Ideal S1x1024 .f32)
    (x3 : FVec Ideal S1024x2432 .bf16) (r : Fin 1024) (n : Fin 512) :
    out0_4 (F := Ideal) x0 x1 x2 x3 (ix3 0 r n)
      = ∑ k : Fin 1024, Cert.Kernel3Ideal.Gen.k0_pay9 (F := Ideal) x0 x1 x2 x3 (ix2 r k) * x3 (ix2 k ⟨n.val, by omega⟩) := by
  have hz3 : (![0, 0, 0] : Fin 3 → Nat) = fun _ => 0 := funext fun a => by fin_cases a <;> rfl
  unfold out0_4
  rw [View.canon_unit_zero hz3]
  have e : k0_pay3 (F := Ideal) (View.ld (Val := Elt Ideal) (e' := .f32) x1 r0_0) (View.ld (Val := Elt Ideal) (e' := .f32) x1 r0_1)
        (View.ld (Val := Elt Ideal) (e' := .f32) x0 r0_2) (View.ld (Val := Elt Ideal) (e' := .f32) x2 r0_3)
        (View.ld (Val := Elt Ideal) (e' := .bf16) x3 r0_4) (ix3 0 r n)
      = ∑ k : Fin 1024, Cert.Kernel3Ideal.Gen.k0_pay9 (F := Ideal) x0 x1 x2 x3 (ix2 r k) * (View.ld (Val := Elt Ideal) (e' := .bf16) x3 r0_4 : FVec Ideal S1024x512 .bf16) (ix2 k n) := by
    pointwise [k0_pay3]
    rfl
  refine e.trans (Finset.sum_congr rfl fun k _ => congrArg₂ (· * ·) rfl (congrArg x3 (eq2 _ _ _ ?_ ?_)))
  · show 0 + 1 * k.val = k.val; omega
  · show 0 + 1 * n.val = n.val; omega

/-- What the products read of a tile's row is the token's. -/
theorem tile_in (t : Fin cfg0.N) (r l : Fin 1024) :
    Cert.Kernel3Ideal.Gen.k0_pay9 (F := Ideal) (iblk m c 0 t) (iblk m c 1 t) (iblk m c 2 t) (iblk m c 3 t) (ix2 r l)
      = rowIn (arg m c main_arg0) (arg m c main_arg1) (arg m c main_arg2) ⟨ptB t, ptB_lt t⟩
          ⟨1024 * ptI t + r.val, by have := ptI_lt t; omega⟩ l := by
  refine (in_blk ..).trans ?_
  unfold rowIn
  simp only [blk0, blk1, blk2]
  congr 1
  funext l
  congr 2
  exact Fin.ext (by show 0 * 1024 + l.val = l.val; omega)

/-- The array for the attention after the run. -/
theorem att_arr : (dats m 0 c).arrAt 4 cfg0.N
    = (fun i => rowProj (arg m c main_arg0) (arg m c main_arg1) (arg m c main_arg2) (arg m c main_arg3) (i 0) (i 1) (i 2).val
      : FVec Ideal S8x4096x512 .f32) := by
  refine (dats m 0 c).arrAt_eq_of_covers 4 _ (by decide +kernel) fun t hf y => ?_
  blk_simp
  rw [after0_4]
  have hi := (index_facts t).2.2.2.2.1
  obtain ⟨r, n, rfl⟩ : ∃ (r : Fin 1024) (n : Fin 512), y = (ix3 0 r n : S1x1024x512.Idx) := ⟨y 1, y 2, by
    funext a; match a with | ⟨0, _⟩ => exact Subsingleton.elim (α := Fin 1) _ _ | ⟨1, _⟩ => rfl | ⟨2, _⟩ => rfl⟩
  have eb : (win0_4.blk t).view.emb (ix3 0 r n : S1x1024x512.Idx) 0 = (⟨ptB t, ptB_lt t⟩ : Fin 8) :=
    Fin.ext (by show win0_4.index t 0 * 1 + 1 * 0 = t.val / 4; rw [hi.1]; omega)
  have es : (win0_4.blk t).view.emb (ix3 0 r n : S1x1024x512.Idx) 1 = (⟨1024 * ptI t + r.val, by have := ptI_lt t; omega⟩ : Fin 4096) :=
    Fin.ext (by show win0_4.index t 1 * 1024 + 1 * r.val = 1024 * (t.val % 4) + r.val; rw [hi.2.1]; omega)
  rw [eb, es, hi.2.2]
  refine (out4 ..).trans ?_
  unfold rowProj
  refine Finset.sum_congr rfl fun k _ => congrArg₂ (· * ·) (tile_in m c t r k) ((blk3 m c t k ⟨n.val, by omega⟩).trans ?_)
  exact congrArg (wcol _ k) (by show n.val = 0 * 512 + n.val; omega)

/-- The array for the recurrence after the run. -/
theorem rw_arr : (dats m 0 c).arrAt 5 cfg0.N
    = (fun i => rowProj (arg m c main_arg0) (arg m c main_arg1) (arg m c main_arg2) (arg m c main_arg3) (i 0) (i 1) (512 + (i 2).val)
      : FVec Ideal S8x4096x1920 .f32) := by
  refine (dats m 0 c).arrAt_eq_of_covers 5 _ (by decide +kernel) fun t hf y => ?_
  blk_simp
  rw [after0_5, out5]
  have hi := (index_facts t).2.2.2.2.2
  obtain ⟨r, n, rfl⟩ : ∃ (r : Fin 1024) (n : Fin 1920), y = (ix3 0 r n : S1x1024x1920.Idx) := ⟨y 1, y 2, by
    funext a; match a with | ⟨0, _⟩ => exact Subsingleton.elim (α := Fin 1) _ _ | ⟨1, _⟩ => rfl | ⟨2, _⟩ => rfl⟩
  have eb : (win0_5.blk t).view.emb (ix3 0 r n : S1x1024x1920.Idx) 0 = (⟨ptB t, ptB_lt t⟩ : Fin 8) :=
    Fin.ext (by show win0_5.index t 0 * 1 + 1 * 0 = t.val / 4; rw [hi.1]; omega)
  have es : (win0_5.blk t).view.emb (ix3 0 r n : S1x1024x1920.Idx) 1 = (⟨1024 * ptI t + r.val, by have := ptI_lt t; omega⟩ : Fin 4096) :=
    Fin.ext (by show win0_5.index t 1 * 1024 + 1 * r.val = 1024 * (t.val % 4) + r.val; rw [hi.2.1]; omega)
  rw [eb, es, hi.2.2]
  show (∑ k : Fin 1024, _ : EReal) = _
  unfold rowProj
  refine Finset.sum_congr rfl fun k _ => congrArg₂ (· * ·) (tile_in m c t r k) ((blk3 m c t k ⟨512 + n.val, by omega⟩).trans ?_)
  exact congrArg (wcol _ k) (by show 512 + n.val = 512 + (0 * 1920 + n.val); omega)

end Cert.Inp

end
-- ==== Proof.InpClaim.lean ====
/-
  The value claim of the input projection: run from equal arguments, the kernel's two arrays and the reference's are equal
  element by element over the extended reals, both being the row function at the arguments.
-/
module

public import proofs.«01_k».proof.Defs
public import proofs.«01_k».proof.Proof.InpValue
public import proofs.«01_k».proof.Proof.Gen.Reference3Ideal.Run
public import Idealize.ShloMosaic.Lib.Claim

@[expose] public section

set_option maxRecDepth 16384

noncomputable section

namespace Cert.Inp

open Idealize.ShloMosaic Idealize.ShloMosaic.TcCoe Idealize.SL.Sem

/-- The input projection's kernel computes its reference, over the extended reals and for every input. -/
theorem algebraic : Cert.algebraic_Kernel3Ideal_Reference3Ideal := by
  pair_intro
  · run_from Cert.Kernel3Ideal.Value.run_blocks (F := Ideal) m g
  · run_from Cert.Reference3Ideal.Value.run (F := Ideal) m' g'
    · rw [Cert.Reference3Ideal.Read.val_main_v34_eq]
      obtain ⟨e0, e1, e2, e3⟩ := hagree c
      refine Eq.trans ?_ (att_arr m c).symm
      funext i
      obtain ⟨b, s, n, rfl⟩ : ∃ (b : Fin 8) (s : Fin 4096) (n : Fin 512), i = ix3 b s n := ⟨i 0, i 1, i 2, eq3 _ _ _ _ rfl rfl rfl⟩
      exact att_ref ..
    · rw [Cert.Reference3Ideal.Read.val_main_v35_eq]
      obtain ⟨e0, e1, e2, e3⟩ := hagree c
      refine Eq.trans ?_ (rw_arr m c).symm
      funext i
      obtain ⟨b, s, n, rfl⟩ : ∃ (b : Fin 8) (s : Fin 4096) (n : Fin 1920), i = ix3 b s n := ⟨i 0, i 1, i 2, eq3 _ _ _ _ rfl rfl rfl⟩
      exact rw_ref ..

end Cert.Inp

end
-- ==== Proof.RwPair.lean ====
/-
  What the recurrence's kernel does for one pair of heads in one chunk of 64 tokens, as one function of the pair's columns
  of the chunk's arrays. The body writes it out sixteen times, for four sequences of four pairs.
-/
module

public import proofs.«01_k».proof.Proof.Gen.KernelIdeal.Skeleton
public import Idealize.ShloMosaic.Lib.Pointwise

@[expose] public section

noncomputable section

namespace Cert.Rw

open Cert.KernelIdeal Cert.KernelIdeal.Gen Idealize.ShloMosaic Idealize.ShloMosaic.TcCoe

/-- Tokens of a chunk by the columns of two heads. -/
abbrev Tile := FVec Ideal S64x128 .f32
/-- The same as an operand of a product. -/
abbrev Tile16 := FVec Ideal S64x128 .bf16

/-- Zeros. -/
def zeroT : Tile := broadcast S64x128 (Scalar.ofBits .f32 0x00000000#32)
/-- Zeros as an operand. -/
def zeroT16 : Tile16 := broadcast S64x128 (Scalar.ofBits .bf16 0x0000#16)

/-- A row's sum over all columns, at every column. -/
def rowSum (x : Tile) : Tile :=
  broadcastTo S64x128 (shapeCast S64x1 (shapeCast S64x1 (multiReduction .add [1] S64 x 0x00000000#32 reduces_S64x128_S64 (.inl rfl) rfl)
    shapeCasts_S64_S64x1) shapeCasts_S64x1_S64x1) broadcasts_S64x1_S64x128

/-- Each head's sum of a row, at the head's columns. -/
def perHead (x : Tile) : Tile :=
  select k0_pay29 (rowSum (select k0_pay29 x zeroT)) (rowSum (select k0_pay29 zeroT x))

/-- The two heads' squares on the diagonal of a matrix twice as large. -/
def diag2 (x : Tile16) : FVec Ideal S128x128 .bf16 :=
  concatenate S128x128 0 [⟨S64x128, select k0_pay29 x zeroT16⟩, ⟨S64x128, select k0_pay29 zeroT16 x⟩] concatenates_S64x128_S64x128_S128x128_d0

/-- One array above the other. -/
def stack (x y : Tile16) : FVec Ideal S128x128 .bf16 :=
  concatenate S128x128 0 [⟨S64x128, x⟩, ⟨S64x128, y⟩] concatenates_S64x128_S64x128_S128x128_d0

/-- One square above the other. -/
def stack2 (x y : FVec Ideal S128x128 .bf16) : FVec Ideal S256x128 .bf16 :=
  concatenate S256x128 0 [⟨S128x128, x⟩, ⟨S128x128, y⟩] concatenates_S128x128_S128x128_S256x128_d0

/-- A product's operand. -/
def cast16 (x : Tile) : Tile16 := truncf .bf16 x bitsLt_bf16_f32

/-- The normed key of each token and head. -/
def normed (x : Tile) : Tile := divf x (maximumf (sqrt (perHead (mulf x x))) (broadcast S64x128 (Scalar.ofBits .f32 0x2B8CBCCC#32)))

/-- The key with its sign changed, times the decay before the token. -/
def atOf (kk gin : Tile) : Tile16 := cast16 (mulf (subf zeroT kk) gin)

/-- The four squares of inner products of a pair. -/
def gram (at_ rt bt kt : Tile16) : FVec Ideal S128x256 .f32 :=
  matmul dot_S128x128_S256x128_S128x256_1_1_0_0_n_n none (stack at_ rt) (stack2 (diag2 bt) (diag2 kt)) (constant S128x256 .f32 0x00000000#32)

/-- The first square below the diagonal. -/
def aAb (g : FVec Ideal S128x256 .f32) : Tile := select k0_pay31 (extractStridedSlice S64x128 ![0, 0] g slices_S128x256_o0_0_S64x128) zeroT
/-- The second square below the diagonal. -/
def aAk (g : FVec Ideal S128x256 .f32) : Tile16 :=
  cast16 (select k0_pay31 (extractStridedSlice S64x128 ![0, 128] g slices_S128x256_o0_128_S64x128) zeroT)
/-- The third square up to the diagonal. -/
def aRb (g : FVec Ideal S128x256 .f32) : Tile16 :=
  cast16 (select k0_pay32 (extractStridedSlice S64x128 ![64, 0] g slices_S128x256_o64_0_S64x128) zeroT)
/-- The fourth square up to the diagonal. -/
def aRk (g : FVec Ideal S128x256 .f32) : Tile16 :=
  cast16 (select k0_pay32 (extractStridedSlice S64x128 ![64, 128] g slices_S128x256_o64_128_S64x128) zeroT)

/-- Two unit squares. -/
def unit2 : Tile := select k0_pay33 (broadcast S64x128 (Scalar.ofBits .f32 0x3F800000#32)) zeroT

/-- The power and the sum so far, times the power, per head. -/
def both (pw ti : Tile) : FVec Ideal S128x128 .f32 :=
  matmul dot_S128x128_S128x128_S128x128_1_0_0_1_n_n none (stack (cast16 pw) (cast16 ti)) (diag2 (cast16 pw)) (constant S128x128 .f32 0x00000000#32)

/-- The power squared. -/
def nextPw (pw ti : Tile) : Tile := extractStridedSlice S64x128 ![0, 0] (both pw ti) slices_S128x128_o0_0_S64x128
/-- The sum with twice as many terms. -/
def nextTi (pw ti : Tile) : Tile := addf ti (extractStridedSlice S64x128 ![64, 0] (both pw ti) slices_S128x128_o64_0_S64x128)

/-- A product per head. -/
def headDot (x : Tile16) (y : Tile16) : Tile :=
  matmul dot_S64x128_S128x128_S64x128_1_0_0_1_n_n none x (diag2 y) (constant S64x128 .f32 0x00000000#32)

/-- The power and the sum of powers after `n` doublings. -/
def doubled (A : Tile) : ℕ → Tile × Tile
  | 0 => (A, unit2)
  | n + 1 => (nextPw (doubled A n).1 (doubled A n).2, nextTi (doubled A n).1 (doubled A n).2)

/-- The sum of the first 64 powers. -/
def tinv (A : Tile) : Tile :=
  addf (doubled A 5).2 (headDot (cast16 (doubled A 5).2) (cast16 (doubled A 5).1))

/-- What the unknowns' system has on its right. -/
def rhs (at_ ak hb vb : Tile16) : Tile :=
  matmul dot_S64x256_S256x128_S64x128_1_0_0_1_n_n none
    (concatenate S64x256 1 [⟨S64x128, at_⟩, ⟨S64x128, ak⟩] concatenates_S64x128_S64x128_S64x256_d1)
    (stack2 (diag2 hb) (diag2 vb)) (constant S64x128 .f32 0x00000000#32)

/-- The output before its norm. -/
def outOf (rt rb rk hb ub vb : Tile16) : Tile :=
  matmul dot_S64x384_S384x128_S64x128_1_0_0_1_n_n none
    (concatenate S64x384 1 [⟨S64x128, rt⟩, ⟨S64x128, rb⟩, ⟨S64x128, rk⟩] concatenates_S64x128_S64x128_S64x128_S64x384_d1)
    (concatenate S384x128 0 [⟨S128x128, diag2 hb⟩, ⟨S128x128, diag2 ub⟩, ⟨S128x128, diag2 vb⟩] concatenates_S128x128_S128x128_S128x128_S384x128_d0)
    (constant S64x128 .f32 0x00000000#32)

/-- The lanes' numbers. -/
def laneNo : IVec S64x128 32 := iota .tc S64x128 32 [1] iota_S64x128_d1_w32
/-- The rows' numbers. -/
def rowNo : IVec S64x128 32 := iota .tc S64x128 32 [0] iota_S64x128_d0_w32

/-- The chunk's whole decay of a key column, at the column's row. -/
def colOf (ga : Tile) : Tile :=
  select k0_pay29 (rowSum (select (cmpi .eq rowNo laneNo) ga zeroT))
    (rowSum (select (cmpi .eq rowNo (subi laneNo (broadcast S64x128 64#32))) ga zeroT))

/-- The state after the chunk. -/
def stateOf (ga h : Tile) (bh kh ub vb : Tile16) : Tile :=
  addf (mulf (colOf ga) h)
    (select k0_pay29
      (extractStridedSlice S64x128 ![0, 0] (matmul dot_S128x128_S128x128_S128x128_0_0_1_1_n_n none (stack bh kh) (stack ub vb)
        (constant S128x128 .f32 0x00000000#32)) slices_S128x128_o0_0_S64x128)
      (extractStridedSlice S64x128 ![64, 0] (matmul dot_S128x128_S128x128_S128x128_0_0_1_1_n_n none (stack bh kh) (stack ub vb)
        (constant S128x128 .f32 0x00000000#32)) slices_S128x128_o64_0_S64x128))

/-- A pair's columns of the chunk's arrays: the key for the norm, the key, the learning rate, the decay before the token, the
    receptance, the decay with the token, its inverse, the decay from the token to the chunk's end, the value and the whole
    decay of the chunk. -/
structure Cols where
  (kkf kmod a gin r gt ginv gend v gall : Tile)

namespace Cols

/-- The normed key. -/
def kk (C : Cols) : Tile := normed C.kkf
/-- The normed key times the learning rate. -/
def b (C : Cols) : Tile := mulf C.kk C.a
/-- The first rows. -/
def at_ (C : Cols) : Tile16 := atOf C.kk C.gin
/-- The second rows. -/
def rt (C : Cols) : Tile16 := cast16 (mulf C.r C.gt)
/-- The inner products. -/
def g4 (C : Cols) : FVec Ideal S128x256 .f32 := gram C.at_ C.rt (cast16 (mulf C.b C.ginv)) (cast16 (mulf C.kmod C.ginv))
/-- The unknowns of the chunk's system. -/
def u (C : Cols) (h : Tile) : Tile16 :=
  cast16 (headDot (cast16 (tinv (aAb C.g4))) (cast16 (rhs C.at_ (aAk C.g4) (cast16 h) (cast16 C.v))))
/-- The outputs of the chunk. -/
def y (C : Cols) (h : Tile) : Tile := outOf C.rt (aRb C.g4) (aRk C.g4) (cast16 h) (C.u h) (cast16 C.v)
/-- The state after the chunk. -/
def next (C : Cols) (h : Tile) : Tile :=
  stateOf C.gall h (cast16 (mulf C.b C.gend)) (cast16 (mulf C.kmod C.gend)) (C.u h) (cast16 C.v)

end Cols

/-- The constant by which a head's sum is divided. -/
def invN : Tile := broadcast S64x128 (Scalar.ofBits .f32 0x3C800000#32)

/-- The output less its head's mean. -/
def centred (y : Tile) : Tile := subf y (mulf (perHead y) invN)

/-- The normed output of each head. -/
def outNorm (y : Tile) : Tile :=
  mulf (centred y) (rsqrt (addf (mulf (perHead (mulf (centred y) (centred y))) invN) (broadcast S64x128 (Scalar.ofBits .f32 0x3A27C5AC#32))))

/-- What is stored of a pair's outputs. -/
def outFin (y lng lnb rkr v g : Tile) : Tile :=
  mulf (addf (addf (mulf (outNorm y) lng) lnb) (mulf (perHead rkr) v)) g

/-- A row of 128 numbers at every token. -/
def rowsOf (x : Vec Ideal S1x128 .f32) : Tile := broadcastTo S64x128 (shapeCast S1x128 x shapeCasts_S1x128_S1x128) broadcasts_S1x128_S64x128

/-- What a chunk's body reads of its blocks. -/
structure Lds where
  (p : Vec Ideal S4x64x1920 .f32)
  (q0 q1 q2 q3 : Vec Ideal S1x1x1920 .f32)
  (mu : Vec Ideal S1x1920 .f32)
  (w0 : Vec Ideal S1x512 .f32)
  (wdec : Vec Ideal S64x512 .bf16)
  (a0 : Vec Ideal S1x512 .f32)
  (waaa : Vec Ideal S64x512 .bf16)
  (wgate : Vec Ideal S256x512 .bf16)
  (kk ka rk : Vec Ideal S1x512 .f32)

/-- The tokens by the columns of all heads. -/
abbrev Wide := FVec Ideal S256x512 .f32

namespace Lds
variable (L : Lds) (i : grid0.Coords)

/-- The chunk's number in its sequence, as a word. -/
def no : BitVec 32 := BitVec.ofNat 32 (i 1).val
/-- The shifted rows of the first two sequences. -/
def sh2 : FVec Ideal S256x1920 .f32 := k0_pay4 (F := Ideal) i L.p L.q0 L.q1
/-- The token rows' numbers. -/
def rid : IVec S256x1 32 := iota .tc S256x1 32 [0] iota_S256x1_d0_w32
/-- Whether the chunk is not its sequence's first. -/
def later : BitVec 1 := Scalar.cmpi .sgt (no i) 0#32
/-- The mixed input rows. -/
def mix : FVec Ideal S256x1920 .f32 :=
  k0_pay6 (F := Ideal) (no i) (k0_pay3 L.p) rid (L.sh2 i) k0_pay5 (later i) L.q2 L.q3 L.mu
/-- The receptance. -/
def r : Wide := extractStridedSlice S256x512 ![0, 0] (L.mix i) slices_S256x1920_o0_0_S256x512
/-- The key. -/
def k : Wide := extractStridedSlice S256x512 ![0, 512] (L.mix i) slices_S256x1920_o0_512_S256x512
/-- The value. -/
def v : Wide := extractStridedSlice S256x512 ![0, 1024] (L.mix i) slices_S256x1920_o0_1024_S256x512
/-- The logarithm of the decay. -/
def logw : Wide := k0_pay13 (F := Ideal) (k0_pay12 (no i) (k0_pay3 L.p) rid (L.sh2 i) k0_pay5 (later i) L.q2 L.q3 L.mu L.w0 L.wdec)
/-- The learning rate. -/
def a : Wide := k0_pay14 (F := Ideal) (k0_pay10 (no i) (k0_pay3 L.p) rid (L.sh2 i) k0_pay5 (later i) L.q2 L.q3 L.mu) L.a0 L.waaa
/-- The gate. -/
def g : Wide := k0_pay15 (F := Ideal) (k0_pay11 (no i) (k0_pay3 L.p) rid (L.sh2 i) k0_pay5 (later i) L.q2 L.q3 L.mu) L.wgate
/-- The step of the remainder. -/
def step : BitVec 32 := Scalar.select (Scalar.cmpi .eq 64#32 0#32) 1#32 64#32
/-- The decays' logarithms summed up to each token of the chunk. -/
def cum : Wide := k0_pay19 (F := Ideal) (L.logw i) k0_pay16 k0_pay17 step k0_pay18 0#32
/-- The chunk's whole sums. -/
def cumLast : Wide := k0_pay20 (F := Ideal) rid (L.logw i) k0_pay16 k0_pay17 step k0_pay18 0#32
/-- The decay before the token. -/
def gin : Wide := exp (subf (L.cum i) (L.logw i))
/-- The decay with the token. -/
def gt : Wide := exp (L.cum i)
/-- Its inverse. -/
def ginv : Wide := exp (subf (broadcast S256x512 (Scalar.ofBits .f32 0x00000000#32)) (L.cum i))
/-- The decay from the token to the chunk's end. -/
def gend : Wide := exp (subf (L.cumLast i) (L.cum i))
/-- The chunk's whole decay. -/
def gall : Wide := exp (L.cumLast i)
/-- The key for the norm. -/
def kkf : Wide := k0_pay26 (F := Ideal) (L.k i) L.kk
/-- The key with the learning rate. -/
def kmod : Wide := k0_pay27 (F := Ideal) (L.k i) (L.a i) L.ka
/-- The bonus's terms. -/
def rkr : Wide := k0_pay28 (F := Ideal) (L.r i) (L.k i) (L.a i) L.ka L.rk

/-- A pair's columns of an array, from the row and the column at which they start. -/
abbrev cut (X : Wide) (o : Fin 2 → ℕ) (h : S256x512.Slices o S64x128) : Tile := extractStridedSlice S64x128 o X h

/-- A pair's columns of the arrays. -/
def cols (o : Fin 2 → ℕ) (h : S256x512.Slices o S64x128) : Cols :=
  ⟨cut (L.kkf i) o h, cut (L.kmod i) o h, cut (L.a i) o h, cut (L.gin i) o h, cut (L.r i) o h, cut (L.gt i) o h, cut (L.ginv i) o h,
    cut (L.gend i) o h, cut (L.v i) o h, cut (L.gall i) o h⟩

/-- A pair's part of the state. -/
def tileOf (h : Vec Ideal S1x64x128 .f32) : Tile := shapeCast S64x128 h shapeCasts_S1x64x128_S64x128

/-- What is stored of the state. -/
def pieceH (o : Fin 2 → ℕ) (hs : S256x512.Slices o S64x128) (h : Vec Ideal S1x64x128 .f32) : FVec Ideal S1x64x128 .f32 :=
  shapeCast S1x64x128 ((L.cols i o hs).next (tileOf h)) shapeCasts_S64x128_S1x64x128

/-- What is stored of the outputs. -/
def pieceY (o : Fin 2 → ℕ) (hs : S256x512.Slices o S64x128) (h : Vec Ideal S1x64x128 .f32) (lng lnb : Vec Ideal S1x128 .f32) :
    FVec Ideal S1x64x128 .f32 :=
  shapeCast S1x64x128 (outFin ((L.cols i o hs).y (tileOf h)) (rowsOf lng) (rowsOf lnb) (cut (L.rkr i) o hs) (cut (L.v i) o hs)
    (cut (L.g i) o hs)) shapeCasts_S64x128_S1x64x128

end Lds

end Cert.Rw

end
-- ==== Proof.RwChunk.lean ====
/-
  The recurrence over the reals: what a chunk of tokens makes of a state, in closed form.
-/
module

public import Mathlib.Analysis.SpecialFunctions.Exp
public import Mathlib.LinearAlgebra.Matrix.Notation
public import Mathlib.Data.Matrix.Mul

@[expose] public section

noncomputable section

namespace Cert.Rw

open Finset

/-- One head's inputs: the decay's logarithm, the removal key, the write key, the key, the receptance by token and key column; the value by
    token and value column. -/
structure Head where
  (lw a b k r v : ℕ → Fin 64 → ℝ)

namespace Head
variable (D : Head)

/-- One token's change of the state, by value and key column. -/
def stepS (t : ℕ) (S : Fin 64 → Fin 64 → ℝ) : Fin 64 → Fin 64 → ℝ := fun i j =>
  S i j * Real.exp (D.lw t j) + (∑ j', S i j' * D.a t j') * D.b t j + D.v t i * D.k t j

/-- The state after `n` tokens. -/
def scan (S : Fin 64 → Fin 64 → ℝ) : ℕ → Fin 64 → Fin 64 → ℝ
  | 0 => S
  | n + 1 => D.stepS n (scan S n)

/-- What a token puts out, from the state after it. -/
def out (t : ℕ) (S : Fin 64 → Fin 64 → ℝ) (i : Fin 64) : ℝ := ∑ j, S i j * D.r t j

/-- The inputs from token `n` on. -/
def from_ (n : ℕ) : Head := ⟨fun t => D.lw (n + t), fun t => D.a (n + t), fun t => D.b (n + t), fun t => D.k (n + t), fun t => D.r (n + t), fun t => D.v (n + t)⟩

/-- The scan goes on from where it stands. -/
theorem scan_add (S : Fin 64 → Fin 64 → ℝ) (n : ℕ) : ∀ t, D.scan S (n + t) = (D.from_ n).scan (D.scan S n) t
  | 0 => rfl
  | t + 1 => by
    show D.stepS (n + t) (D.scan S (n + t)) = _
    rw [scan_add S n t]
    rfl

/-- The decay before token `t` of a chunk. -/
def E (t : ℕ) (j : Fin 64) : ℝ := Real.exp (∑ s ∈ range t, D.lw s j)

theorem E_succ (t : ℕ) (j : Fin 64) : D.E (t + 1) j = D.E t j * Real.exp (D.lw t j) := by
  unfold E
  rw [sum_range_succ, Real.exp_add]

theorem E_ne (t : ℕ) (j : Fin 64) : D.E t j ≠ 0 := (Real.exp_pos _).ne'

/-- What the system of a chunk says of its unknowns `u`. -/
def Solves (S u : ℕ → Fin 64 → ℝ) (h : Fin 64 → Fin 64 → ℝ) (t : ℕ) : Prop := ∀ i, u t i =
  ∑ j, D.a t j * D.E t j * h i j + ∑ s ∈ range t, ((∑ j, D.a t j * D.E t j * (D.b s j * (D.E (s + 1) j)⁻¹)) * u s i
    + (∑ j, D.a t j * D.E t j * (D.k s j * (D.E (s + 1) j)⁻¹)) * S s i)

/-- The state within a chunk, from the unknowns. -/
theorem scan_closed (h : Fin 64 → Fin 64 → ℝ) (u : ℕ → Fin 64 → ℝ) (N : ℕ) (hu : ∀ t < N, D.Solves D.v u h t) :
    ∀ t ≤ N, ∀ i j, D.scan h t i j =
      D.E t j * (h i j + ∑ s ∈ range t, (D.b s j * (D.E (s + 1) j)⁻¹ * u s i + D.k s j * (D.E (s + 1) j)⁻¹ * D.v s i)) := by
  intro t
  induction t with
  | zero =>
    intro _ i j
    simp [scan, E]
  | succ t ih =>
    intro ht i j
    have ih' := ih (by omega)
    have hs : ∑ j', D.scan h t i j' * D.a t j' = u t i := by
      rw [hu t (by omega) i]
      simp_rw [sum_mul, ← sum_add_distrib, fun j' => ih' i j']
      rw [sum_comm, ← sum_add_distrib]
      refine sum_congr rfl fun j' _ => ?_
      rw [mul_add, add_mul, mul_sum, sum_mul]
      congr 1
      · ring
      · refine sum_congr rfl fun s _ => ?_
        ring
    show D.stepS t (D.scan h t) i j = _
    unfold stepS
    rw [hs, ih' i j, E_succ, sum_range_succ]
    have hE := D.E_ne (t + 1) j
    rw [E_succ] at hE
    have h1 := D.E_ne t j
    have h2 := (Real.exp_pos (D.lw t j)).ne'
    rw [E_succ]
    field_simp
    ring

/-- What a token of a chunk puts out. -/
theorem out_closed (h : Fin 64 → Fin 64 → ℝ) (u : ℕ → Fin 64 → ℝ) (N : ℕ) (hu : ∀ t < N, D.Solves D.v u h t) (t : ℕ) (ht : t < N) (i : Fin 64) :
    D.out t (D.scan h (t + 1)) i =
      ∑ j, D.r t j * D.E (t + 1) j * h i j + ∑ s ∈ range (t + 1), ((∑ j, D.r t j * D.E (t + 1) j * (D.b s j * (D.E (s + 1) j)⁻¹)) * u s i
        + (∑ j, D.r t j * D.E (t + 1) j * (D.k s j * (D.E (s + 1) j)⁻¹)) * D.v s i) := by
  unfold out
  simp_rw [sum_mul, ← sum_add_distrib, fun j' => D.scan_closed h u N hu (t + 1) (by omega) i j']
  rw [sum_comm, ← sum_add_distrib]
  refine sum_congr rfl fun j' _ => ?_
  rw [mul_add, add_mul, mul_sum, sum_mul]
  congr 1
  · ring
  · refine sum_congr rfl fun s _ => ?_
    ring

end Head

/-- The power and the sum of powers after `n` doublings. -/
def powers (A : Matrix (Fin 64) (Fin 64) ℝ) : ℕ → Matrix (Fin 64) (Fin 64) ℝ × Matrix (Fin 64) (Fin 64) ℝ
  | 0 => (A, 1)
  | n + 1 => ((powers A n).1 * (powers A n).1, (powers A n).2 + (powers A n).2 * (powers A n).1)

/-- The sum of powers is an inverse up to the power. -/
theorem powers_spec (A : Matrix (Fin 64) (Fin 64) ℝ) : ∀ n, (powers A n).1 = A ^ 2 ^ n ∧ (1 - A) * (powers A n).2 = 1 - A ^ 2 ^ n
  | 0 => by simp [powers]
  | n + 1 => by
    obtain ⟨h1, h2⟩ := powers_spec A n
    have e : A ^ 2 ^ (n + 1) = A ^ 2 ^ n * A ^ 2 ^ n := by rw [pow_succ, mul_two, pow_add]
    refine ⟨by rw [e, ← h1]; rfl, ?_⟩
    show (1 - A) * ((powers A n).2 + (powers A n).2 * (powers A n).1) = _
    rw [mul_add, ← mul_assoc, h2, h1, e]
    noncomm_ring

/-- A matrix below the diagonal vanishes at its 64th power. -/
theorem lower_pow (A : Matrix (Fin 64) (Fin 64) ℝ) (hA : ∀ t s, ¬ s.val < t.val → A t s = 0) :
    ∀ n (t s : Fin 64), ¬ s.val + n ≤ t.val → (A ^ n) t s = 0
  | 0, t, s, h => by
    rw [pow_zero, Matrix.one_apply_ne]
    rintro rfl
    omega
  | n + 1, t, s, h => by
    rw [pow_succ, Matrix.mul_apply]
    refine sum_eq_zero fun q _ => ?_
    by_cases hq : q.val + n ≤ t.val
    · rw [hA q s (by omega), mul_zero]
    · rw [lower_pow A hA n t q hq, zero_mul]

/-- The unknowns that the sum of powers gives solve the system. -/
theorem powers_solve (A : Matrix (Fin 64) (Fin 64) ℝ) (hA : ∀ t s, ¬ s.val < t.val → A t s = 0) (x : Matrix (Fin 64) (Fin 64) ℝ) :
    (powers A 6).2 * x = x + A * ((powers A 6).2 * x) := by
  have h := (powers_spec A 6).2
  have h0 : A ^ 2 ^ 6 = 0 := by
    ext t s
    exact lower_pow A hA _ t s (by have := t.isLt; omega)
  rw [h0, sub_zero, sub_mul, one_mul] at h
  have h' : (powers A 6).2 = 1 + A * (powers A 6).2 := by
    rw [← h]; abel
  rw [← Matrix.mul_assoc]
  conv_lhs => rw [h']
  rw [Matrix.add_mul, Matrix.one_mul]

end Cert.Rw

end
-- ==== Proof.RwReal.lean ====
/-
  One pair of heads in one chunk, over real entries: each stage of the kernel's function read at an element.
-/
module

public import proofs.«01_k».proof.Proof.RwPair
public import proofs.«01_k».proof.Proof.RwChunk

@[expose] public section

noncomputable section

namespace Cert.Rw

open Cert.KernelIdeal Cert.KernelIdeal.Gen Idealize.ShloMosaic Idealize.ShloMosaic.TcCoe

/-- The column of a head's column. -/
def lane (u : Fin 2) (i : Fin 64) : Fin 128 := ⟨64 * u.val + i.val, by omega⟩

/-- A sum over the columns, head by head. -/
theorem sum_lanes {M : Type} [AddCommMonoid M] (f : Fin 128 → M) : ∑ l, f l = ∑ u, ∑ i, f (lane u i) := by
  rw [← Fintype.sum_prod_type' (f := fun u i => f (lane u i))]
  refine (Fintype.sum_equiv (finProdFinEquiv (m := 2) (n := 64)) _ _ fun q => ?_).symm
  congr 1
  apply Fin.ext
  simp [lane, finProdFinEquiv]
  omega

/-- A sum of reals among the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The array has these real entries, by token, head and column. -/
def Is {e : FTy} (X : FVec Ideal S64x128 e) (x : Fin 64 → Fin 2 → Fin 64 → ℝ) : Prop := ∀ t u i, X (ix2 t (lane u i)) = ((x t u i : ℝ) : EReal)

/-- The first head's mask. -/
theorem mask_head (t : Fin 64) (u : Fin 2) (i : Fin 64) : k0_pay29 (ix2 t (lane u i)) = if u = 0 then 1#1 else 0#1 := by
  have h : k0_pay29 (ix2 t (lane u i)) = IntOp.cmpi CmpIPredicate.slt (BitVec.ofNat 32 (lane u i).val) 64#32 := by
    unfold k0_pay29
    pointwise
  rw [h]
  clear h
  revert u i
  decide

/-- A column's number within its head. -/
theorem word_col (t : Fin 64) (u : Fin 2) (i : Fin 64) : k0_pay30 (ix2 t (lane u i)) = BitVec.ofNat 32 i.val := by
  have h : k0_pay30 (ix2 t (lane u i)) =
      Scalar.select (k0_pay29 (ix2 t (lane u i))) (BitVec.ofNat 32 (lane u i).val) (IntOp.subi (BitVec.ofNat 32 (lane u i).val) 64#32) := by
    unfold k0_pay30
    pointwise
  rw [h, mask_head]
  clear h
  revert u i
  decide

/-- Small numbers compare as words as they do as numbers. -/
theorem word_cmp (t i : Fin 64) : IntOp.cmpi CmpIPredicate.sgt (BitVec.ofNat 32 t.val) (BitVec.ofNat 32 i.val) = (if i.val < t.val then 1#1 else 0#1) ∧
    IntOp.cmpi CmpIPredicate.sge (BitVec.ofNat 32 t.val) (BitVec.ofNat 32 i.val) = (if i.val ≤ t.val then 1#1 else 0#1) ∧
    IntOp.cmpi CmpIPredicate.eq (BitVec.ofNat 32 t.val) (BitVec.ofNat 32 i.val) = (if t = i then 1#1 else 0#1) := by
  revert t i
  decide +kernel

/-- The mask below the diagonal. -/
theorem mask_lt (t : Fin 64) (u : Fin 2) (i : Fin 64) : k0_pay31 (ix2 t (lane u i)) = if i.val < t.val then 1#1 else 0#1 := by
  have h : k0_pay31 (ix2 t (lane u i)) = IntOp.cmpi CmpIPredicate.sgt (BitVec.ofNat 32 t.val) (k0_pay30 (ix2 t (lane u i))) := by
    unfold k0_pay31
    pointwise
  rw [h, word_col, (word_cmp t i).1]

/-- The mask up to the diagonal. -/
theorem mask_le (t : Fin 64) (u : Fin 2) (i : Fin 64) : k0_pay32 (ix2 t (lane u i)) = if i.val ≤ t.val then 1#1 else 0#1 := by
  have h : k0_pay32 (ix2 t (lane u i)) = IntOp.cmpi CmpIPredicate.sge (BitVec.ofNat 32 t.val) (k0_pay30 (ix2 t (lane u i))) := by
    unfold k0_pay32
    pointwise
  rw [h, word_col, (word_cmp t i).2.1]

/-- The mask on the diagonal. -/
theorem mask_eq (t : Fin 64) (u : Fin 2) (i : Fin 64) : k0_pay33 (ix2 t (lane u i)) = if t = i then 1#1 else 0#1 := by
  have h : k0_pay33 (ix2 t (lane u i)) = IntOp.cmpi CmpIPredicate.eq (BitVec.ofNat 32 t.val) (k0_pay30 (ix2 t (lane u i))) := by
    unfold k0_pay33
    pointwise
  rw [h, word_col, (word_cmp t i).2.2]

/-- A choice by a condition. -/
theorem select_if {α : Type} (P : Prop) [Decidable P] (x y : α) : Scalar.select (if P then 1#1 else 0#1) x y = if P then x else y := by
  split_ifs <;> rfl

theorem zeroT_apply (r : Fin 64) (l : Fin 128) : zeroT (ix2 r l) = 0 := by
  unfold zeroT
  pointwise

theorem zeroT16_apply (r : Fin 64) (l : Fin 128) : zeroT16 (ix2 r l) = 0 := by
  unfold zeroT16
  pointwise

theorem is_zero : Is zeroT fun _ _ _ => 0 := fun t u i => by rw [zeroT_apply]; rfl

theorem cast16_apply (x : Tile) (r : Fin 64) (l : Fin 128) : cast16 x (ix2 r l) = x (ix2 r l) := by
  unfold cast16
  pointwise

theorem Is.cast {X : Tile} {x} (h : Is X x) : Is (cast16 X) x := fun t u i => by rw [cast16_apply, h]

theorem Is.mul {X Y : Tile} {x y} (h : Is X x) (h' : Is Y y) : Is (mulf X Y) fun t u i => x t u i * y t u i := fun t u i => by
  have e : mulf X Y (ix2 t (lane u i)) = X (ix2 t (lane u i)) * Y (ix2 t (lane u i)) := by pointwise
  rw [e, h, h', EReal.coe_mul]

theorem Is.add {X Y : Tile} {x y} (h : Is X x) (h' : Is Y y) : Is (addf X Y) fun t u i => x t u i + y t u i := fun t u i => by
  have e : addf X Y (ix2 t (lane u i)) = X (ix2 t (lane u i)) + Y (ix2 t (lane u i)) := by pointwise
  rw [e, h, h', EReal.coe_add]

theorem Is.sub {X Y : Tile} {x y} (h : Is X x) (h' : Is Y y) : Is (subf X Y) fun t u i => x t u i - y t u i := fun t u i => by
  have e : subf X Y (ix2 t (lane u i)) = X (ix2 t (lane u i)) - Y (ix2 t (lane u i)) := by pointwise
  rw [e, h, h', EReal.coe_sub]

theorem rowSum_apply (x : Tile) (t : Fin 64) (l : Fin 128) : rowSum x (ix2 t l) = ∑ u, ∑ i, x (ix2 t (lane u i)) := by
  rw [← sum_lanes fun q => x (ix2 t q)]
  unfold rowSum
  pointwise

/-- A head's sum, whatever the entries. -/
theorem perHead_apply (x : Tile) (t : Fin 64) (u : Fin 2) (i : Fin 64) : perHead x (ix2 t (lane u i)) = ∑ j, x (ix2 t (lane u j)) := by
  have h : perHead x (ix2 t (lane u i)) = Scalar.select (k0_pay29 (ix2 t (lane u i))) (rowSum (select k0_pay29 x zeroT) (ix2 t (lane u i)))
      (rowSum (select k0_pay29 zeroT x) (ix2 t (lane u i))) := by
    unfold perHead
    pointwise
  have h1 : ∀ (y z : Tile) (u : Fin 2) (j : Fin 64), select k0_pay29 y z (ix2 t (lane u j)) = if u = 0 then y (ix2 t (lane u j)) else z (ix2 t (lane u j)) := by
    intro y z u j
    have e : select k0_pay29 y z (ix2 t (lane u j)) = Scalar.select (k0_pay29 (ix2 t (lane u j))) (y (ix2 t (lane u j))) (z (ix2 t (lane u j))) := by
      pointwise
    rw [e, mask_head, select_if]
  rw [h, mask_head, select_if, rowSum_apply, rowSum_apply]
  simp only [h1, zeroT_apply, Fin.sum_univ_two]
  fin_cases u <;> simp

/-- Twice a head's columns on the diagonal. -/
theorem diag2_apply (x : Tile16) (u u' : Fin 2) (s i : Fin 64) : diag2 x (ix2 (lane u s) (lane u' i)) = if u = u' then x (ix2 s (lane u' i)) else 0 := by
  have h : ∀ (r l : Fin 128), diag2 x (ix2 r l) = if h : r.val < 64 then Scalar.select (k0_pay29 (ix2 ⟨r.val, h⟩ l)) (x (ix2 ⟨r.val, h⟩ l)) (zeroT16 (ix2 ⟨r.val, h⟩ l))
      else Scalar.select (k0_pay29 (ix2 ⟨r.val - 64, by omega⟩ l)) (zeroT16 (ix2 ⟨r.val - 64, by omega⟩ l)) (x (ix2 ⟨r.val - 64, by omega⟩ l)) := by
    intro r l
    unfold diag2
    pointwise
  rw [h]
  have e0 : ∀ s : Fin 64, (lane 0 s).val = s.val := fun s => by simp [lane]
  have e1 : ∀ s : Fin 64, (lane 1 s).val = 64 + s.val := fun s => by simp [lane]
  fin_cases u
  · have hs : (lane 0 s).val < 64 := by rw [e0]; exact s.isLt
    have es : (⟨(lane 0 s).val, hs⟩ : Fin 64) = s := Fin.ext (e0 s)
    simp only [Fin.zero_eta]
    rw [dif_pos hs, es, mask_head, select_if, zeroT16_apply]
    fin_cases u' <;> simp
  · have hs : ¬ (lane 1 s).val < 64 := by rw [e1]; omega
    have es : ∀ h, (⟨(lane 1 s).val - 64, h⟩ : Fin 64) = s := fun h => Fin.ext (by simp [e1])
    simp only [Fin.mk_one]
    rw [dif_neg hs, es, mask_head, select_if, zeroT16_apply]
    fin_cases u' <;> simp

theorem stack_lo (a b : Tile16) (t : Fin 64) (h) (l : Fin 128) : stack a b (ix2 ⟨t.val, h⟩ l) = a (ix2 t l) := by
  have e : ∀ r : Fin 128, stack a b (ix2 r l) = if h : r.val < 64 then a (ix2 ⟨r.val, h⟩ l) else b (ix2 ⟨r.val - 64, by omega⟩ l) := by
    intro r
    unfold stack
    pointwise
  rw [e, dif_pos t.isLt]

theorem stack_hi (a b : Tile16) (t : Fin 64) (h) (l : Fin 128) : stack a b (ix2 ⟨64 + t.val, h⟩ l) = b (ix2 t l) := by
  have e : ∀ r : Fin 128, stack a b (ix2 r l) = if h : r.val < 64 then a (ix2 ⟨r.val, h⟩ l) else b (ix2 ⟨r.val - 64, by omega⟩ l) := by
    intro r
    unfold stack
    pointwise
  rw [e, dif_neg (by simp)]
  congr 2
  exact Fin.ext (by simp)

theorem stack2_lo (a b : FVec Ideal S128x128 .bf16) (t : Fin 128) (h) (l : Fin 128) : stack2 a b (ix2 ⟨t.val, h⟩ l) = a (ix2 t l) := by
  have e : ∀ r : Fin 256, stack2 a b (ix2 r l) = if h : r.val < 128 then a (ix2 ⟨r.val, h⟩ l) else b (ix2 ⟨r.val - 128, by omega⟩ l) := by
    intro r
    unfold stack2
    pointwise
  rw [e, dif_pos t.isLt]

theorem stack2_hi (a b : FVec Ideal S128x128 .bf16) (t : Fin 128) (h) (l : Fin 128) : stack2 a b (ix2 ⟨128 + t.val, h⟩ l) = b (ix2 t l) := by
  have e : ∀ r : Fin 256, stack2 a b (ix2 r l) = if h : r.val < 128 then a (ix2 ⟨r.val, h⟩ l) else b (ix2 ⟨r.val - 128, by omega⟩ l) := by
    intro r
    unfold stack2
    pointwise
  rw [e, dif_neg (by simp)]
  congr 2
  exact Fin.ext (by simp)

/-- A row times the two heads' squares, by columns. -/
theorem sum_diag {X Y : Tile16} {x y} (hX : Is X x) (hY : Is Y y) (t : Fin 64) (u : Fin 2) (i : Fin 64) :
    ∑ q : Fin 128, X (ix2 t q) * diag2 Y (ix2 q (lane u i)) = ((∑ s, x t u s * y s u i : ℝ) : EReal) := by
  rw [sum_lanes, coe_sum]
  simp only [diag2_apply, hX t, Fin.sum_univ_two]
  fin_cases u <;> simp [hY _ _ _, EReal.coe_mul]

/-- A row times the two heads' squares, by rows. -/
theorem sum_diag' {X Y : Tile16} {x y} (hX : Is X x) (hY : Is Y y) (t : Fin 64) (u : Fin 2) (s : Fin 64) :
    ∑ q : Fin 128, X (ix2 t q) * diag2 Y (ix2 (lane u s) q) = ((∑ i, x t u i * y s u i : ℝ) : EReal) := by
  rw [sum_lanes, coe_sum]
  simp only [diag2_apply, hX t, Fin.sum_univ_two]
  fin_cases u <;> simp [hY _ _ _, EReal.coe_mul]

/-- What a pair's columns are over the reals: the data of its two heads in the chunk. -/
structure IsChunk (C : Cols) (D : Fin 2 → Head) : Prop where
  kk : Is (normed C.kkf) fun t u i => -(D u).a t i
  b : Is (mulf (normed C.kkf) C.a) fun t u i => (D u).b t i
  k : Is C.kmod fun t u i => (D u).k t i
  gin : Is C.gin fun t u i => (D u).E t i
  r : Is C.r fun t u i => (D u).r t i
  gt : Is C.gt fun t u i => (D u).E (t + 1) i
  ginv : Is C.ginv fun t u i => ((D u).E (t + 1) i)⁻¹
  gend : Is C.gend fun t u i => (D u).E 64 i * ((D u).E (t + 1) i)⁻¹
  v : Is C.v fun t u i => (D u).v t i
  gall : Is C.gall fun _ u i => (D u).E 64 i

theorem gram_apply (a r b k : Tile16) (t : Fin 128) (l : Fin 256) :
    gram a r b k (ix2 t l) = ∑ q : Fin 128, stack a r (ix2 t q) * stack2 (diag2 b) (diag2 k) (ix2 l q) := by
  unfold gram
  pointwise

/-- The first square below the diagonal. -/
theorem is_aAb {a r b k : Tile16} {x y} (ha : Is a x) (hb : Is b y) :
    Is (aAb (gram a r b k)) fun t u s => if s.val < t.val then ∑ j, x t u j * y s u j else 0 := fun t u s => by
  have h : aAb (gram a r b k) (ix2 t (lane u s)) = Scalar.select (k0_pay31 (ix2 t (lane u s)))
      (gram a r b k (ix2 ⟨t.val, by omega⟩ ⟨(lane u s).val, by omega⟩)) (zeroT (ix2 t (lane u s))) := by
    unfold aAb
    pointwise
  rw [h, mask_lt, select_if, zeroT_apply, gram_apply]
  simp only [stack_lo, stack2_lo, sum_diag' ha hb]
  split_ifs <;> rfl

/-- The second square below the diagonal. -/
theorem is_aAk {a r b k : Tile16} {x y} (ha : Is a x) (hb : Is k y) :
    Is (aAk (gram a r b k)) fun t u s => if s.val < t.val then ∑ j, x t u j * y s u j else 0 := fun t u s => by
  have h : aAk (gram a r b k) (ix2 t (lane u s)) = Scalar.select (k0_pay31 (ix2 t (lane u s)))
      (gram a r b k (ix2 ⟨t.val, by omega⟩ ⟨128 + (lane u s).val, by omega⟩)) (zeroT (ix2 t (lane u s))) := by
    unfold aAk cast16
    pointwise
  rw [h, mask_lt, select_if, zeroT_apply, gram_apply]
  simp only [stack_lo, stack2_hi, sum_diag' ha hb]
  split_ifs <;> rfl

/-- The third square up to the diagonal. -/
theorem is_aRb {a r b k : Tile16} {x y} (ha : Is r x) (hb : Is b y) :
    Is (aRb (gram a r b k)) fun t u s => if s.val ≤ t.val then ∑ j, x t u j * y s u j else 0 := fun t u s => by
  have h : aRb (gram a r b k) (ix2 t (lane u s)) = Scalar.select (k0_pay32 (ix2 t (lane u s)))
      (gram a r b k (ix2 ⟨64 + t.val, by omega⟩ ⟨(lane u s).val, by omega⟩)) (zeroT (ix2 t (lane u s))) := by
    unfold aRb cast16
    pointwise
  rw [h, mask_le, select_if, zeroT_apply, gram_apply]
  simp only [stack_hi, stack2_lo, sum_diag' ha hb]
  split_ifs <;> rfl

/-- The fourth square up to the diagonal. -/
theorem is_aRk {a r b k : Tile16} {x y} (ha : Is r x) (hb : Is k y) :
    Is (aRk (gram a r b k)) fun t u s => if s.val ≤ t.val then ∑ j, x t u j * y s u j else 0 := fun t u s => by
  have h : aRk (gram a r b k) (ix2 t (lane u s)) = Scalar.select (k0_pay32 (ix2 t (lane u s)))
      (gram a r b k (ix2 ⟨64 + t.val, by omega⟩ ⟨128 + (lane u s).val, by omega⟩)) (zeroT (ix2 t (lane u s))) := by
    unfold aRk cast16
    pointwise
  rw [h, mask_le, select_if, zeroT_apply, gram_apply]
  simp only [stack_hi, stack2_hi, sum_diag' ha hb]
  split_ifs <;> rfl

/-- A product per head. -/
theorem is_headDot {X Y : Tile16} {x y} (hX : Is X x) (hY : Is Y y) : Is (headDot X Y) fun t u i => ∑ s, x t u s * y s u i := fun t u i => by
  rw [← sum_diag hX hY]
  unfold headDot
  pointwise

theorem is_unit : Is unit2 fun t _ s => (1 : Matrix (Fin 64) (Fin 64) ℝ) t s := fun t u s => by
  have h : unit2 (ix2 t (lane u s)) = Scalar.select (k0_pay33 (ix2 t (lane u s))) (1 : EReal) (zeroT (ix2 t (lane u s))) := by
    unfold unit2
    pointwise
  show _ = (((1 : Matrix (Fin 64) (Fin 64) ℝ) t s : ℝ) : EReal)
  rw [h, mask_eq, select_if, zeroT_apply, Matrix.one_apply]
  split_ifs <;> rfl

theorem both_apply (pw ti : Tile) (t l : Fin 128) :
    both pw ti (ix2 t l) = ∑ q : Fin 128, stack (cast16 pw) (cast16 ti) (ix2 t q) * diag2 (cast16 pw) (ix2 q l) := by
  unfold both
  pointwise

theorem is_nextPw {P T : Tile} {p : Fin 2 → Matrix (Fin 64) (Fin 64) ℝ} (hP : Is P fun t u s => p u t s) :
    Is (nextPw P T) fun t u s => (p u * p u) t s := fun t u s => by
  have h : nextPw P T (ix2 t (lane u s)) = both P T (ix2 ⟨t.val, by omega⟩ (lane u s)) := by
    unfold nextPw
    pointwise
  rw [h, both_apply]
  simp only [stack_lo, sum_diag hP.cast hP.cast]
  rfl

theorem is_nextTi {P T : Tile} {p q : Fin 2 → Matrix (Fin 64) (Fin 64) ℝ} (hP : Is P fun t u s => p u t s) (hT : Is T fun t u s => q u t s) :
    Is (nextTi P T) fun t u s => (q u + q u * p u) t s := fun t u s => by
  have h : nextTi P T (ix2 t (lane u s)) = T (ix2 t (lane u s)) + both P T (ix2 ⟨64 + t.val, by omega⟩ (lane u s)) := by
    unfold nextTi
    pointwise
  rw [h, both_apply, hT]
  simp only [stack_hi, sum_diag hT.cast hP.cast]
  rw [← EReal.coe_add]
  rfl

theorem is_doubled {A : Tile} {a : Fin 2 → Matrix (Fin 64) (Fin 64) ℝ} (hA : Is A fun t u s => a u t s) :
    ∀ n, Is (doubled A n).1 (fun t u s => (powers (a u) n).1 t s) ∧ Is (doubled A n).2 (fun t u s => (powers (a u) n).2 t s)
  | 0 => ⟨hA, is_unit⟩
  | n + 1 => by
    obtain ⟨h1, h2⟩ := is_doubled hA n
    exact ⟨is_nextPw (p := fun u => (powers (a u) n).1) h1, is_nextTi (p := fun u => (powers (a u) n).1) (q := fun u => (powers (a u) n).2) h1 h2⟩

theorem is_tinv {A : Tile} {a : Fin 2 → Matrix (Fin 64) (Fin 64) ℝ} (hA : Is A fun t u s => a u t s) :
    Is (tinv A) fun t u s => (powers (a u) 6).2 t s := by
  obtain ⟨h1, h2⟩ := is_doubled hA 5
  exact h2.add (is_headDot h2.cast h1.cast)

theorem is_rhs {a k h v : Tile16} {xa xk xh xv} (ha : Is a xa) (hk : Is k xk) (hh : Is h xh) (hv : Is v xv) :
    Is (rhs a k h v) fun t u i => ∑ s, xa t u s * xh s u i + ∑ s, xk t u s * xv s u i := fun t u i => by
  have e : rhs a k h v (ix2 t (lane u i)) = ∑ q : Fin 128, a (ix2 t q) * stack2 (diag2 h) (diag2 v) (ix2 ⟨q.val, by omega⟩ (lane u i))
      + ∑ q : Fin 128, k (ix2 t q) * stack2 (diag2 h) (diag2 v) (ix2 ⟨128 + q.val, by omega⟩ (lane u i)) := by
    unfold rhs
    pointwise
  rw [e]
  simp only [stack2_lo, stack2_hi]
  rw [sum_diag ha hh, sum_diag hk hv, EReal.coe_add]

/-- A sum in three stretches. -/
theorem sum_three (f : Fin 384 → EReal) :
    ∑ x, f x = (∑ x : Fin 128, f ⟨x.val, by omega⟩ + ∑ x : Fin 128, f ⟨128 + x.val, by omega⟩) + ∑ x : Fin 128, f ⟨256 + x.val, by omega⟩ := by
  rw [Fin.sum_univ_add (a := 256) (b := 128) f, Fin.sum_univ_add (a := 128) (b := 128)]
  rfl

theorem is_outOf {r b k h w v : Tile16} {xr xb xk xh xw xv} (hr : Is r xr) (hb : Is b xb) (hk : Is k xk) (hh : Is h xh) (hw : Is w xw) (hv : Is v xv) :
    Is (outOf r b k h w v) fun t u i => ∑ s, xr t u s * xh s u i + ∑ s, xb t u s * xw s u i + ∑ s, xk t u s * xv s u i := fun t u i => by
  have e : ∀ l, outOf r b k h w v (ix2 t l) = ∑ x : Fin 384,
      (if h : x.val < 128 then r (ix2 t ⟨x.val, h⟩)
        else if h : x.val - 128 < 128 then b (ix2 t ⟨x.val - 128, h⟩) else k (ix2 t ⟨x.val - 128 - 128, by omega⟩)) *
        if h_1 : x.val < 128 then diag2 h (ix2 ⟨x.val, h_1⟩ l)
        else if h_2 : x.val - 128 < 128 then diag2 w (ix2 ⟨x.val - 128, h_2⟩ l) else diag2 v (ix2 ⟨x.val - 128 - 128, by omega⟩ l) := by
    intro l
    unfold outOf
    pointwise
  rw [e, sum_three]
  have h1 : ∀ x : Fin 128, x.val < 128 := fun x => x.isLt
  have h2 : ∀ x : Fin 128, ¬ 128 + x.val < 128 := fun x => by omega
  have h3 : ∀ x : Fin 128, ¬ 256 + x.val < 128 := fun x => by omega
  have h4 : ∀ x : Fin 128, 128 + x.val - 128 = x.val := fun x => by omega
  have h5 : ∀ x : Fin 128, ¬ 256 + x.val - 128 < 128 := fun x => by omega
  have h6 : ∀ x : Fin 128, 256 + x.val - 128 - 128 = x.val := fun x => by omega
  simp only [h1, h2, h3, h4, h5, h6, dif_pos, dif_neg, not_false_eq_true, ↓reduceDIte]
  rw [sum_diag hr hh, sum_diag hb hw, sum_diag hk hv, EReal.coe_add, EReal.coe_add]

/-- The two masks that pick a key column's row. -/
theorem word_diag (j : Fin 64) (u : Fin 2) (i : Fin 64) :
    IntOp.cmpi CmpIPredicate.eq (BitVec.ofNat 32 j.val) (BitVec.ofNat 32 (lane u i).val) = (if u = 0 ∧ i = j then 1#1 else 0#1) ∧
    IntOp.cmpi CmpIPredicate.eq (BitVec.ofNat 32 j.val) (IntOp.subi (BitVec.ofNat 32 (lane u i).val) 64#32) = (if u = 1 ∧ i = j then 1#1 else 0#1) := by
  revert j u i
  decide +kernel

theorem is_colOf {G : Tile} {g : Fin 2 → Fin 64 → ℝ} (hG : Is G fun _ u j => g u j) : Is (colOf G) fun j u _ => g u j := fun j u i => by
  have h : colOf G (ix2 j (lane u i)) = Scalar.select (k0_pay29 (ix2 j (lane u i)))
      (rowSum (select (cmpi .eq rowNo laneNo) G zeroT) (ix2 j (lane u i)))
      (rowSum (select (cmpi .eq rowNo (subi laneNo (broadcast S64x128 64#32))) G zeroT) (ix2 j (lane u i))) := by
    unfold colOf
    pointwise
  have h1 : ∀ u i, select (cmpi .eq rowNo laneNo) G zeroT (ix2 j (lane u i)) = if u = 0 ∧ i = j then G (ix2 j (lane u i)) else 0 := by
    intro u i
    have e : select (cmpi .eq rowNo laneNo) G zeroT (ix2 j (lane u i)) =
        Scalar.select (IntOp.cmpi CmpIPredicate.eq (BitVec.ofNat 32 j.val) (BitVec.ofNat 32 (lane u i).val)) (G (ix2 j (lane u i))) (zeroT (ix2 j (lane u i))) := by
      unfold rowNo laneNo
      pointwise
    rw [e, (word_diag j u i).1, select_if, zeroT_apply]
  have h2 : ∀ u i, select (cmpi .eq rowNo (subi laneNo (broadcast S64x128 64#32))) G zeroT (ix2 j (lane u i)) = if u = 1 ∧ i = j then G (ix2 j (lane u i)) else 0 := by
    intro u i
    have e : select (cmpi .eq rowNo (subi laneNo (broadcast S64x128 64#32))) G zeroT (ix2 j (lane u i)) =
        Scalar.select (IntOp.cmpi CmpIPredicate.eq (BitVec.ofNat 32 j.val) (IntOp.subi (BitVec.ofNat 32 (lane u i).val) 64#32)) (G (ix2 j (lane u i))) (zeroT (ix2 j (lane u i))) := by
      unfold rowNo laneNo
      pointwise
    rw [e, (word_diag j u i).2, select_if, zeroT_apply]
  rw [h, mask_head, select_if, rowSum_apply, rowSum_apply]
  simp only [h1, h2, Fin.sum_univ_two, hG j]
  fin_cases u <;> simp

theorem is_stateOf {G H : Tile} {b k w v : Tile16} {g : Fin 2 → Fin 64 → ℝ} {xh xb xk xw xv} (hG : Is G fun _ u j => g u j) (hH : Is H xh)
    (hb : Is b xb) (hk : Is k xk) (hw : Is w xw) (hv : Is v xv) :
    Is (stateOf G H b k w v) fun j u i => g u j * xh j u i + (∑ s, xb s u j * xw s u i + ∑ s, xk s u j * xv s u i) := fun j u i => by
  have e : ∀ l, stateOf G H b k w v (ix2 j l) =
    colOf G (ix2 j l) * H (ix2 j l) + Scalar.select (k0_pay29 (ix2 j l)) (∑ x, stack b k (ix2 x ⟨j.val, by omega⟩) * stack w v (ix2 x l))
        (∑ x, stack b k (ix2 x ⟨64 + j.val, by omega⟩) * stack w v (ix2 x l)) := by
    intro l
    unfold stateOf
    pointwise
  have l0 : ∀ s : Fin 64, lane 0 s = ⟨s.val, by omega⟩ := fun s => Fin.ext (by simp [lane])
  have l1 : ∀ s : Fin 64, lane 1 s = ⟨64 + s.val, by omega⟩ := fun s => Fin.ext (by simp [lane])
  have key : ∀ u' : Fin 2, ∑ x, stack b k (ix2 x (lane u' j)) * stack w v (ix2 x (lane u i)) =
      ((∑ s, xb s u' j * xw s u i + ∑ s, xk s u' j * xv s u i : ℝ) : EReal) := by
    intro u'
    rw [sum_lanes, Fin.sum_univ_two, EReal.coe_add, coe_sum, coe_sum]
    have e0 : ∀ (y z : Tile16) s l, stack y z (ix2 (lane 0 s) l) = y (ix2 s l) := fun y z s l => by rw [l0, stack_lo]
    have e1 : ∀ (y z : Tile16) s l, stack y z (ix2 (lane 1 s) l) = z (ix2 s l) := fun y z s l => by rw [l1, stack_hi]
    simp only [e0, e1, hb _ _ _, hk _ _ _, hw _ _ _, hv _ _ _, EReal.coe_mul]
  rw [e, is_colOf hG, hH, ← l0, ← l1, key, key, mask_head, select_if]
  beta_reduce
  refine Eq.trans ?_ (EReal.coe_add _ _).symm
  rw [EReal.coe_mul]
  fin_cases u <;> rfl

namespace IsChunk
variable {C : Cols} {D : Fin 2 → Head} (hC : IsChunk C D)
include hC

theorem at_ : Is C.at_ fun t u i => (D u).a t i * (D u).E t i := by
  have h := ((is_zero.sub hC.kk).mul hC.gin).cast
  intro t u i
  have := h t u i
  simp only [zero_sub, neg_neg] at this
  exact this

theorem rt : Is C.rt fun t u i => (D u).r t i * (D u).E (t + 1) i := (hC.r.mul hC.gt).cast

theorem bt : Is (cast16 (mulf C.b C.ginv)) fun t u i => (D u).b t i * ((D u).E (t + 1) i)⁻¹ := (hC.b.mul hC.ginv).cast

theorem kt : Is (cast16 (mulf C.kmod C.ginv)) fun t u i => (D u).k t i * ((D u).E (t + 1) i)⁻¹ := (hC.k.mul hC.ginv).cast

end IsChunk

/-- The chunk's system's matrix. -/
def sysA (D : Head) : Matrix (Fin 64) (Fin 64) ℝ := fun t s => if s.val < t.val then ∑ j, D.a t j * D.E t j * (D.b s j * (D.E (s + 1) j)⁻¹) else 0

/-- What the chunk's system has on its right. -/
def sysX (D : Head) (S : Fin 64 → Fin 64 → ℝ) : Matrix (Fin 64) (Fin 64) ℝ := fun t i =>
  ∑ j, D.a t j * D.E t j * S i j + ∑ s : Fin 64, (if s.val < t.val then ∑ j, D.a t j * D.E t j * (D.k s j * (D.E (s + 1) j)⁻¹) else 0) * D.v s i

/-- The chunk's unknowns. -/
def sysU (D : Head) (S : Fin 64 → Fin 64 → ℝ) : ℕ → Fin 64 → ℝ := fun t i => if h : t < 64 then ((powers (sysA D) 6).2 * sysX D S) ⟨t, h⟩ i else 0

/-- A masked sum over a chunk as a sum of the first terms. -/
theorem sum_masked (f : ℕ → ℝ) (n : ℕ) (hn : n ≤ 64) : ∑ s : Fin 64, (if s.val < n then f s else 0) = ∑ s ∈ Finset.range n, f s := by
  rw [Fin.sum_univ_eq_sum_range (fun s => if s < n then f s else 0) 64, ← Finset.sum_filter]
  congr 1
  ext s
  simp only [Finset.mem_filter, Finset.mem_range]
  omega

theorem sysU_solves (D : Head) (S : Fin 64 → Fin 64 → ℝ) (t : ℕ) (ht : t < 64) : D.Solves D.v (sysU D S) S t := by
  intro i
  have h := congrFun (congrFun (powers_solve (sysA D) (fun t s h => if_neg h) (sysX D S)) ⟨t, ht⟩) i
  have hu : ∀ s : Fin 64, ((powers (sysA D) 6).2 * sysX D S) s i = sysU D S s.val i := fun s => by
    unfold sysU
    rw [dif_pos s.isLt]
  rw [hu, Matrix.add_apply, Matrix.mul_apply] at h
  simp only [hu] at h
  rw [h]
  unfold sysA sysX
  simp only
  rw [add_assoc, ← Finset.sum_add_distrib, ← sum_masked _ t ht.le]
  congr 1
  refine Finset.sum_congr rfl fun s _ => ?_
  split_ifs <;> ring

namespace IsChunk
variable {C : Cols} {D : Fin 2 → Head} (hC : IsChunk C D) {H : Tile} {S : Fin 2 → Fin 64 → Fin 64 → ℝ} (hH : Is H fun j u i => S u i j)
include hC hH

theorem u : Is (C.u H) fun t u i => sysU (D u) (S u) t.val i := by
  have hA : Is (aAb C.g4) fun t u s => sysA (D u) t s := is_aAb hC.at_ hC.bt
  have hT := is_tinv (a := fun u => sysA (D u)) hA
  have hX : Is (rhs C.at_ (aAk C.g4) (cast16 H) (cast16 C.v)) fun t u i => sysX (D u) (S u) t i :=
    is_rhs hC.at_ (is_aAk hC.at_ hC.kt) hH.cast hC.v.cast
  have h := (is_headDot hT.cast hX.cast).cast
  intro t u i
  refine (h t u i).trans (congrArg _ ?_)
  beta_reduce
  unfold sysU
  rw [dif_pos t.isLt, Matrix.mul_apply]

/-- The chunk's outputs. -/
theorem y : Is (C.y H) fun t u i => (D u).out t ((D u).scan (S u) (t + 1)) i := by
  have h := is_outOf hC.rt (is_aRb (a := C.at_) (k := cast16 (mulf C.kmod C.ginv)) hC.rt hC.bt)
    (is_aRk (a := C.at_) (b := cast16 (mulf C.b C.ginv)) hC.rt hC.kt) hH.cast (hC.u hH) hC.v.cast
  intro t u i
  refine (h t u i).trans (congrArg _ ?_)
  beta_reduce
  rw [(D u).out_closed (S u) (sysU (D u) (S u)) 64 (sysU_solves (D u) (S u)) t t.isLt i, ← sum_masked _ _ t.isLt, add_assoc, ← Finset.sum_add_distrib]
  congr 1
  refine Finset.sum_congr rfl fun s _ => ?_
  by_cases hs : s.val ≤ t.val
  · rw [if_pos hs, if_pos hs, if_pos (by omega)]
  · rw [if_neg hs, if_neg hs, if_neg (by omega)]
    ring

/-- The state after the chunk. -/
theorem next : Is (C.next H) fun j u i => (D u).scan (S u) 64 i j := by
  have h := is_stateOf hC.gall hH (hC.b.mul hC.gend).cast (hC.k.mul hC.gend).cast (hC.u hH) hC.v.cast
  intro j u i
  refine (h j u i).trans (congrArg _ ?_)
  beta_reduce
  rw [(D u).scan_closed (S u) (sysU (D u) (S u)) 64 (sysU_solves (D u) (S u)) 64 le_rfl i j, ← sum_masked _ _ le_rfl, mul_add, Finset.mul_sum,
    ← Finset.sum_add_distrib]
  congr 1
  refine Finset.sum_congr rfl fun s _ => ?_
  rw [if_pos s.isLt]
  ring

end IsChunk

end Cert.Rw

end
-- ==== Proof.RwSpec.lean ====
/-
  What the recurrence's inputs are at an element: the token shift, the decay, the gates, the keys and the bonus, over the
  extended reals, in the reference's words.
-/
module

public import proofs.«01_k».proof.Proof.RwReal

@[expose] public section

set_option maxRecDepth 16384

noncomputable section

namespace Cert.Rw

open Idealize.ShloMosaic

/-- The call's arguments as functions of their indices. -/
structure Inp where
  (p : Fin 8 → Fin 4096 → Fin 1824 → EReal)
  (mu : Fin 1824 → EReal)
  (w0 : Fin 512 → EReal)
  (wdec : Fin 64 → Fin 512 → EReal)
  (a0 : Fin 512 → EReal)
  (waaa : Fin 64 → Fin 512 → EReal)
  (wgate : Fin 160 → Fin 512 → EReal)
  (kk ka : Fin 512 → EReal)
  (rk : Fin 8 → Fin 64 → EReal)
  (gain bias : Fin 512 → EReal)

/-- The column of a head's lane. -/
def col (h : Fin 8) (j : Fin 64) : Fin 512 := ⟨h.val * 64 + j.val, by have := h.isLt; have := j.isLt; omega⟩

/-- `1 / (1 + exp (- x))`. -/
def lgst (x : EReal) : EReal := Ideal.div 1 (1 + Ideal.exp (-x))

/-- `log (1 + exp x)`, as printed. -/
def sp (x : EReal) : EReal := max x 0 + Ideal.log1p (Ideal.exp (-FloatOps.absf (F := Ideal) (φ := .f32) x))

namespace Inp
variable (I : Inp) (b : Fin 8) (t : Fin 4096)

/-- The projection one row up, zero before the first row. -/
def shift (n : Fin 1824) : EReal :=
  if h : (1 ≤ t.val ∧ t.val - 1 < 4096) ∧ n.val < 1824 then I.p b ⟨t.val - 1, h.1.2⟩ ⟨n.val, h.2⟩
  else FloatOps.sitofp (F := Ideal) .f32 (0#32)

/-- The mixed projection. -/
def mix (n : Fin 1824) : EReal := I.p b t n + I.mu n * (I.shift b t n - I.p b t n)

def r (n : Fin 512) : EReal := I.mix b t ⟨n.val, by omega⟩
def k (n : Fin 512) : EReal := I.mix b t ⟨512 + n.val, by omega⟩
def v (n : Fin 512) : EReal := I.mix b t ⟨1024 + n.val, by omega⟩

/-- The decay before its softplus. -/
def wpre (n : Fin 512) : EReal := I.w0 n + ∑ x : Fin 64, Ideal.tanh (I.mix b t ⟨1536 + x.val, by omega⟩) * I.wdec x n

/-- The logarithm of the decay. -/
def logw (n : Fin 512) : EReal :=
  -Ideal.exp (-sp (-I.wpre b t n) - Ideal.ofBits .f32 0x3f000000#32)

/-- The learning rate. -/
def a (n : Fin 512) : EReal := lgst (I.a0 n + ∑ x : Fin 64, I.mix b t ⟨1600 + x.val, by omega⟩ * I.waaa x n)

/-- The output gate. -/
def g (n : Fin 512) : EReal := ∑ x : Fin 160, lgst (I.mix b t ⟨1664 + x.val, by omega⟩) * I.wgate x n

/-- The removal key before its norm. -/
def kkf (n : Fin 512) : EReal := I.k b t n * I.kk n

/-- The removal key. -/
def kkn (h : Fin 8) (j : Fin 64) : EReal :=
  Ideal.div (I.kkf b t (col h j))
    (max (Ideal.sqrt (∑ x, I.kkf b t (col h x) * I.kkf b t (col h x))) (Ideal.ofBits .f32 730643660#32))

/-- The key put in. -/
def kmod (n : Fin 512) : EReal := I.k b t n * (1 + (I.a b t n - 1) * I.ka n)

/-- The bonus: the receptance against the key, weighted, by head. -/
def bonus (h : Fin 8) : EReal := ∑ j, I.r b t (col h j) * I.kmod b t (col h j) * I.rk h j

/-- The call's result from the outputs `y` of the recurrence. -/
def fin (y : Fin 64 → EReal) (h : Fin 8) (j : Fin 64) : EReal :=
  let mean := Ideal.div (∑ x, y x) (Ideal.ofBits .f32 0x42800000#32)
  let var := Ideal.div (∑ x, (y x - mean) * (y x - mean)) (Ideal.ofBits .f32 0x42800000#32)
  ((y j - mean) * Ideal.rsqrt (var + Ideal.ofBits .f32 0x3a27c5ac#32) * I.gain (col h j) + I.bias (col h j)
    + I.bonus b t h * I.v b t (col h j)) * I.g b t (col h j)

end Inp

/-! ## Which of these are real -/

/-- A real among the extended reals. -/
def IsReal (x : EReal) : Prop := ∃ r : ℝ, x = (r : EReal)

namespace IsReal

theorem coe {x : EReal} (h : IsReal x) : x = ((x.toReal : ℝ) : EReal) := by obtain ⟨r, rfl⟩ := h; rfl

theorem add {x y : EReal} (hx : IsReal x) (hy : IsReal y) : IsReal (x + y) := by
  obtain ⟨r, rfl⟩ := hx; obtain ⟨s, rfl⟩ := hy; exact ⟨r + s, (EReal.coe_add r s).symm⟩

theorem sub {x y : EReal} (hx : IsReal x) (hy : IsReal y) : IsReal (x - y) := by
  obtain ⟨r, rfl⟩ := hx; obtain ⟨s, rfl⟩ := hy; exact ⟨r - s, (EReal.coe_sub r s).symm⟩

theorem mul {x y : EReal} (hx : IsReal x) (hy : IsReal y) : IsReal (x * y) := by
  obtain ⟨r, rfl⟩ := hx; obtain ⟨s, rfl⟩ := hy; exact ⟨r * s, (EReal.coe_mul r s).symm⟩

theorem neg {x : EReal} (hx : IsReal x) : IsReal (-x) := by
  obtain ⟨r, rfl⟩ := hx; exact ⟨-r, (EReal.coe_neg r).symm⟩

theorem one : IsReal 1 := ⟨1, rfl⟩

end IsReal

/-- The exponential is real below `⊤`. -/
theorem isReal_exp {x : EReal} (h : x ≠ ⊤) : IsReal (Ideal.exp x) := by
  induction x with
  | bot => exact ⟨0, by simp⟩
  | coe r => exact ⟨Real.exp r, rfl⟩
  | top => exact absurd rfl h

/-- `log (1 + exp y)` is never `⊥`. -/
theorem log1p_exp_ne_bot (y : EReal) : Ideal.log1p (Ideal.exp y) ≠ ⊥ := by
  have key : ∀ r : ℝ, 0 ≤ r → Ideal.log1p (r : EReal) ≠ ⊥ := by
    intro r hr
    unfold Ideal.log1p
    rw [← EReal.coe_one, ← EReal.coe_add, Ideal.log_coe, if_neg (by linarith)]
    exact EReal.coe_ne_bot _
  induction y with
  | bot => simpa using key 0 le_rfl
  | coe r => exact key _ (Real.exp_pos r).le
  | top =>
    unfold Ideal.log1p
    rw [Ideal.exp_top, EReal.add_top_of_ne_bot (show (1 : EReal) ≠ ⊥ from EReal.coe_ne_bot 1), Ideal.log_top]
    simp

theorem sp_ne_bot (x : EReal) : sp x ≠ ⊥ := by
  unfold sp
  rw [Ne, EReal.add_eq_bot_iff, not_or]
  refine ⟨?_, log1p_exp_ne_bot _⟩
  intro h
  have : (0 : EReal) ≤ ⊥ := h ▸ le_max_right x 0
  simp at this

/-- `0.5`. -/
theorem isReal_half : IsReal (Ideal.ofBits .f32 0x3f000000#32) :=
  ⟨1 / 2, by simp [Ideal.ofBits, Ideal.ieee, -EReal.coe_mul]; norm_num⟩

/-- The floor of the removal key's norm. -/
theorem eps_kk : ∃ e : ℝ, 0 < e ∧ Ideal.ofBits .f32 730643660#32 = (e : EReal) :=
  ⟨9223372 * (2 : ℝ) ^ (-63 : ℤ), by positivity, by simp [Ideal.ofBits, Ideal.ieee, -EReal.coe_mul]⟩

theorem isReal_lgst (x : EReal) : IsReal (lgst x) := by
  change IsReal (Ideal.logistic x)
  induction x with
  | bot => exact ⟨0, by simp⟩
  | coe r => exact ⟨_, Ideal.logistic_coe r⟩
  | top => exact ⟨1, by simp⟩

namespace Inp

/-- The projection, the mix and the key's weight are real. -/
structure Nice (I : Inp) : Prop where
  p : ∀ b t n, IsReal (I.p b t n)
  mu : ∀ n, IsReal (I.mu n)
  ka : ∀ n, IsReal (I.ka n)

variable {I : Inp} (b : Fin 8) (t : Fin 4096)

theorem Nice.mix (hI : I.Nice) (n : Fin 1824) : IsReal (I.mix b t n) := by
  have hs : IsReal (I.shift b t n) := by
    unfold Inp.shift
    split
    · exact hI.p _ _ _
    · exact ⟨_, rfl⟩
  exact (hI.p b t n).add ((hI.mu n).mul (hs.sub (hI.p b t n)))

variable (I) in
theorem isReal_logw (n : Fin 512) : IsReal (I.logw b t n) := by
  refine (isReal_exp ?_).neg
  obtain ⟨e, he⟩ := isReal_half
  rw [he]
  have := sp_ne_bot (-I.wpre b t n)
  generalize sp (-I.wpre b t n) = z at this
  induction z with
  | bot => exact absurd rfl this
  | coe r => rw [← EReal.coe_neg, ← EReal.coe_sub]; exact EReal.coe_ne_top _
  | top => simp

variable (I) in
theorem isReal_a (n : Fin 512) : IsReal (I.a b t n) := isReal_lgst _

theorem Nice.kmod (hI : I.Nice) (n : Fin 512) : IsReal (I.kmod b t n) :=
  (hI.mix b t _).mul (IsReal.one.add (((isReal_lgst _).sub IsReal.one).mul (hI.ka n)))

/-- A square is not below zero. -/
theorem sq_nonneg' (x : EReal) : 0 ≤ x * x := by
  induction x with
  | bot => simp
  | coe r => rw [← EReal.coe_mul]; exact EReal.coe_nonneg.mpr (mul_self_nonneg r)
  | top => simp

/-- A square that is real is a real number's. -/
theorem isReal_of_sq {x : EReal} (h : x * x ≠ ⊤) : IsReal x := by
  induction x with
  | bot => simp at h
  | coe r => exact ⟨r, rfl⟩
  | top => simp at h

variable (I) in
/-- The normed key is real: where the norm is not, the quotient is zero. -/
theorem isReal_kkn (h : Fin 8) (j : Fin 64) : IsReal (I.kkn b t h j) := by
  unfold Inp.kkn
  obtain ⟨e, hpos, he⟩ := eps_kk
  generalize I.kkf b t = f
  by_cases hr : ∀ x, IsReal (f (col h x))
  · have hs : (∑ x, f (col h x) * f (col h x)) = ((∑ x, (f (col h x)).toReal * (f (col h x)).toReal : ℝ) : EReal) := by
      rw [coe_sum]
      refine Finset.sum_congr rfl fun x _ => ?_
      rw [EReal.coe_mul, ← (hr x).coe]
    have h0 : 0 ≤ ∑ x, (f (col h x)).toReal * (f (col h x)).toReal := Finset.sum_nonneg fun x _ => mul_self_nonneg _
    rw [hs, he, Ideal.sqrt_coe, if_neg (not_lt.mpr h0), ← EReal.coe_strictMono.monotone.map_max, Ideal.div_coe (lt_max_of_lt_right hpos).ne']
    exact (hr j).mul ⟨_, rfl⟩
  · push Not at hr
    obtain ⟨x, hx⟩ := hr
    have hx2 : f (col h x) * f (col h x) = ⊤ := by
      by_contra hne
      exact hx (isReal_of_sq hne)
    have hs : (∑ x, f (col h x) * f (col h x)) = ⊤ :=
      top_le_iff.mp (hx2.symm.le.trans (Finset.single_le_sum (f := fun x => f (col h x) * f (col h x)) (fun y _ => sq_nonneg' _) (Finset.mem_univ x)))
    refine ⟨0, ?_⟩
    rw [hs, Ideal.sqrt_top, max_eq_left le_top]
    unfold Ideal.div
    simp

/-- A row's number as a row. -/
def row (t : ℕ) : Fin 4096 := ⟨t % 4096, Nat.mod_lt _ (by norm_num)⟩

theorem row_val (t : Fin 4096) : row t.val = t := Fin.ext (Nat.mod_eq_of_lt t.isLt)

variable (I) in
/-- A head's inputs as reals. -/
def head (b h : Fin 8) : Head where
  lw t j := (I.logw b (row t) (col h j)).toReal
  a t j := -(I.kkn b (row t) h j).toReal
  b t j := (I.kkn b (row t) h j).toReal * (I.a b (row t) (col h j)).toReal
  k t j := (I.kmod b (row t) (col h j)).toReal
  r t j := (I.r b (row t) (col h j)).toReal
  v t j := (I.v b (row t) (col h j)).toReal

variable (I) in
/-- The outputs of the recurrence, from the zero state. -/
def y (b : Fin 8) (t : Fin 4096) (h : Fin 8) (j : Fin 64) : EReal :=
  (((I.head b h).out t ((I.head b h).scan (fun _ _ => 0) (t + 1)) j : ℝ) : EReal)

end Inp

end Cert.Rw
-- ==== Proof.RwBase.lean ====
/-
  What a chunk's body makes of the blocks it reads: the mixed rows, the decay, the gates and the keys are those of the
  reference at the chunk's rows, and the decays summed along the chunk are those that the chunk's algebra asks for.
-/
module

public import proofs.«01_k».proof.Proof.RwSpec

@[expose] public section

set_option maxRecDepth 16384

noncomputable section

namespace Cert.Rw

open Cert.KernelIdeal Cert.KernelIdeal.Gen Idealize.ShloMosaic

/-- Row `t` of the chunk's sequence `s` among the chunk's rows. -/
def tok (s : Fin 4) (t : Fin 64) : Fin 256 := ⟨64 * s.val + t.val, by omega⟩

/-- A head of a pair. -/
def hd (q : Fin 4) (u : Fin 2) : Fin 8 := ⟨2 * q.val + u.val, by omega⟩

/-- A sum over the chunk's rows, sequence by sequence. -/
theorem sum_tok {M : Type} [AddCommMonoid M] (f : Fin 256 → M) : ∑ x, f x = ∑ s, ∑ t, f (tok s t) := by
  rw [← Fintype.sum_prod_type', ← (finProdFinEquiv (m := 4) (n := 64)).sum_comp f]
  refine Fintype.sum_congr _ _ fun q => congrArg f (Fin.ext ?_)
  simp only [finProdFinEquiv_apply_val, tok]
  omega

/-- The rows at which a sequence starts in the chunk. -/
theorem word_first (s : Fin 4) (t : Fin 64) :
    IntOp.cmpi CmpIPredicate.eq (BitVec.ofNat 32 (tok s t).val) 0#32 = (if s = 0 ∧ t = 0 then 1#1 else 0#1) ∧
    IntOp.cmpi CmpIPredicate.eq (BitVec.ofNat 32 (tok s t).val) 64#32 = (if s = 1 ∧ t = 0 then 1#1 else 0#1) ∧
    IntOp.cmpi CmpIPredicate.eq (BitVec.ofNat 32 (tok s t).val) 128#32 = (if s = 2 ∧ t = 0 then 1#1 else 0#1) ∧
    IntOp.cmpi CmpIPredicate.eq (BitVec.ofNat 32 (tok s t).val) 192#32 = (if s = 3 ∧ t = 0 then 1#1 else 0#1) := by
  revert s t
  decide +kernel

/-- The chunk's number against zero. -/
theorem word_later (n : Fin 64) : Scalar.cmpi CmpIPredicate.sgt (BitVec.ofNat 32 n.val) 0#32 = (if 0 < n.val then 1#1 else 0#1) := by
  revert n
  decide +kernel

/-- The sequences' stretches of the chunk. -/
theorem word_seq (s : Fin 4) (t : Fin 64) :
    IntOp.cmpi CmpIPredicate.sge (BitVec.ofNat 32 (tok s t).val) 192#32 = (if s = 3 then 1#1 else 0#1) ∧
    IntOp.cmpi CmpIPredicate.sge (BitVec.ofNat 32 (tok s t).val) 128#32 = (if 2 ≤ s.val then 1#1 else 0#1) ∧
    IntOp.cmpi CmpIPredicate.sge (BitVec.ofNat 32 (tok s t).val) 64#32 = (if 1 ≤ s.val then 1#1 else 0#1) := by
  revert s t
  decide +kernel

/-- A row's number in its sequence's stretch, as the body computes it. -/
abbrev remWord (ρ : BitVec 32) : BitVec 32 :=
  Scalar.select
    (IntOp.andi
      (IntOp.xori
        (IntOp.cmpi CmpIPredicate.slt
          (IntOp.remsi ArithUnit.vector ρ (Scalar.select (Scalar.cmpi CmpIPredicate.eq 64#32 0#32) 1#32 64#32)) 0#32)
        (Scalar.cmpi CmpIPredicate.slt (Scalar.select (Scalar.cmpi CmpIPredicate.eq 64#32 0#32) 1#32 64#32) 0#32))
      (IntOp.cmpi CmpIPredicate.ne
        (IntOp.remsi ArithUnit.vector ρ (Scalar.select (Scalar.cmpi CmpIPredicate.eq 64#32 0#32) 1#32 64#32)) 0#32))
    (IntOp.addi
      (IntOp.remsi ArithUnit.vector ρ (Scalar.select (Scalar.cmpi CmpIPredicate.eq 64#32 0#32) 1#32 64#32))
      (Scalar.select (Scalar.cmpi CmpIPredicate.eq 64#32 0#32) 1#32 64#32))
    (IntOp.remsi ArithUnit.vector ρ (Scalar.select (Scalar.cmpi CmpIPredicate.eq 64#32 0#32) 1#32 64#32))

theorem word_rem (s : Fin 4) (t : Fin 64) : remWord (BitVec.ofNat 32 (tok s t).val) = BitVec.ofNat 32 t.val := by
  revert s t
  decide +kernel

/-- A small number read as a signed word. -/
theorem word_int (x : ℕ) (hx : x < 2 ^ 16) : (BitVec.ofNat 32 x).toInt = (x : ℤ) := by
  rw [BitVec.toInt_eq_toNat_of_lt] <;> simp only [BitVec.toNat_ofNat] <;> omega

/-- Small numbers compare as words as they do as numbers. -/
theorem word_le (x y : ℕ) (hx : x < 2 ^ 16) (hy : y < 2 ^ 16) :
    IntOp.cmpi CmpIPredicate.sle (BitVec.ofNat 32 x) (BitVec.ofNat 32 y) = (if x ≤ y then 1#1 else 0#1) := by
  show BitVec.ofBool ((BitVec.ofNat 32 x).sle (BitVec.ofNat 32 y)) = _
  unfold BitVec.sle
  rw [word_int x hx, word_int y hy]
  by_cases h : x ≤ y
  · rw [if_pos h, decide_eq_true (by exact_mod_cast h)]; rfl
  · rw [if_neg h, decide_eq_false (by exact_mod_cast h)]; rfl

/-- The rows of the same sequence up to a row. -/
theorem word_upto (s : Fin 4) (t : Fin 64) (s' : Fin 4) (t' : Fin 64) :
    IntOp.andi (IntOp.cmpi CmpIPredicate.sge (BitVec.ofNat 32 (tok s t).val) (BitVec.ofNat 32 (tok s' t').val))
      (IntOp.cmpi CmpIPredicate.sle (IntOp.subi (BitVec.ofNat 32 (tok s t).val) (BitVec.ofNat 32 (tok s' t').val))
        (BitVec.ofNat 32 t.val)) = (if s' = s ∧ t'.val ≤ t.val then 1#1 else 0#1) := by
  have b1 := (tok s t).isLt
  have b2 := (tok s' t').isLt
  have e1 : (tok s t).val = 64 * s.val + t.val := rfl
  have e2 : (tok s' t').val = 64 * s'.val + t'.val := rfl
  have b3 := t.isLt
  have b4 := t'.isLt
  have hge : IntOp.cmpi CmpIPredicate.sge (BitVec.ofNat 32 (tok s t).val) (BitVec.ofNat 32 (tok s' t').val)
      = (if (tok s' t').val ≤ (tok s t).val then 1#1 else 0#1) :=
    word_le _ _ (by omega) (by omega)
  rw [hge]
  by_cases h : (tok s' t').val ≤ (tok s t).val
  · have hsub : IntOp.subi (BitVec.ofNat 32 (tok s t).val) (BitVec.ofNat 32 (tok s' t').val)
        = BitVec.ofNat 32 ((tok s t).val - (tok s' t').val) := by
      apply BitVec.eq_of_toNat_eq
      show (BitVec.ofNat 32 (tok s t).val - BitVec.ofNat 32 (tok s' t').val).toNat = _
      simp only [BitVec.toNat_sub, BitVec.toNat_ofNat]
      omega
    rw [hsub, word_le _ _ (by omega) (by omega), if_pos h]
    have : ((tok s t).val - (tok s' t').val ≤ t.val) ↔ (s' = s ∧ t'.val ≤ t.val) := by
      rw [Fin.ext_iff]
      omega
    simp only [this]
    by_cases h' : s' = s ∧ t'.val ≤ t.val
    · rw [if_pos h']; rfl
    · rw [if_neg h']; rfl
  · have h' : ¬ (s' = s ∧ t'.val ≤ t.val) := by
      rw [Fin.ext_iff]
      omega
    rw [if_neg h, if_neg h']
    show 0#1 &&& _ = 0#1
    exact BitVec.zero_and

end Cert.Rw
-- ==== Proof.RwReads.lean ====
/-
  The arrays of a chunk's body at an element, from blocks that hold the arguments: the reference's at the chunk's rows. From
  them, the tiles of every pair of heads are the chunk's algebra's.
-/
module

public import proofs.«01_k».proof.Proof.RwBase

@[expose] public section

set_option maxRecDepth 16384

noncomputable section

namespace Cert.Rw

open Cert.KernelIdeal Cert.KernelIdeal.Gen Idealize.ShloMosaic

/-- The projection padded with zero columns. -/
def Inp.padP (I : Inp) (b : Fin 8) (t : Fin 4096) (n : Fin 1920) : EReal := if h : n.val < 1824 then I.p b t ⟨n.val, h⟩ else 0

/-- The mix padded with zero columns. -/
def Inp.padMu (I : Inp) (n : Fin 1920) : EReal := if h : n.val < 1824 then I.mu ⟨n.val, h⟩ else 0

/-- The gate's matrix padded with zero rows. -/
def Inp.padGate (I : Inp) (x : Fin 256) (n : Fin 512) : EReal := if h : x.val < 160 then I.wgate ⟨x.val, h⟩ n else 0

/-- The blocks hold the arguments, for the chunk `ch` of the sequences `bq`. -/
structure Reads (L : Lds) (i : grid0.Coords) (I : Inp) (bq : Fin 4 → Fin 8) (ch : Fin 64) : Prop where
  no : (i 1).val = ch.val
  p : ∀ s t n, L.p (ix3 s t n) = I.padP (bq s) (Inp.row (64 * ch.val + t.val)) n
  q0 : 0 < ch.val → ∀ n, L.q0 (ix3 0 0 n) = I.padP (bq 0) (Inp.row (64 * ch.val - 1)) n
  q1 : 0 < ch.val → ∀ n, L.q1 (ix3 0 0 n) = I.padP (bq 1) (Inp.row (64 * ch.val - 1)) n
  q2 : 0 < ch.val → ∀ n, L.q2 (ix3 0 0 n) = I.padP (bq 2) (Inp.row (64 * ch.val - 1)) n
  q3 : 0 < ch.val → ∀ n, L.q3 (ix3 0 0 n) = I.padP (bq 3) (Inp.row (64 * ch.val - 1)) n
  mu : ∀ n, L.mu (ix2 0 n) = I.padMu n
  w0 : ∀ n, L.w0 (ix2 0 n) = I.w0 n
  wdec : ∀ x n, L.wdec (ix2 x n) = I.wdec x n
  a0 : ∀ n, L.a0 (ix2 0 n) = I.a0 n
  waaa : ∀ x n, L.waaa (ix2 x n) = I.waaa x n
  wgate : ∀ x n, L.wgate (ix2 x n) = I.padGate x n
  kk : ∀ n, L.kk (ix2 0 n) = I.kk n
  ka : ∀ n, L.ka (ix2 0 n) = I.ka n
  rk : ∀ h j, L.rk (ix2 0 (col h j)) = I.rk h j

namespace Reads

/-- The row before a row: in the block, or the last of the block before, or none. -/
theorem shifted (L : Lds) (i : grid0.Coords) (s : Fin 4) (t : Fin 64) (n : Fin 1920) :
    L.mix i (ix2 (tok s t) n) = L.p (ix3 s t n) + L.mu (ix2 0 n) *
      ((if t = 0 then (if 0 < (i 1).val then ![L.q0, L.q1, L.q2, L.q3] s (ix3 0 0 n) else 0)
        else L.p (ix3 s ⟨t.val - 1, by omega⟩ n)) - L.p (ix3 s t n)) := by
  have hq : (tok s t).val = 64 * s.val + t.val := rfl
  have ht := t.isLt
  have e1 : (tok s t).val / 64 = s.val := by omega
  have e2 : (tok s t).val % 64 = t.val := by omega
  unfold Lds.mix k0_pay6 Lds.sh2 k0_pay4 k0_pay3 k0_pay5 Lds.rid Lds.later Lds.no
  pointwise
  have hl : Scalar.cmpi CmpIPredicate.sgt (BitVec.ofNat 32 (i 1).val) 0#32 = (if 0 < (i 1).val then 1#1 else 0#1) :=
    word_later (i 1)
  obtain ⟨w0, w1, w2, w3⟩ := word_first s t
  rw [w0, w1, w2, w3, hl]
  simp only [select_if, e1, e2, Fin.eta]
  by_cases h0 : t = 0
  · subst h0
    fin_cases s <;> rfl
  · simp only [h0, and_false, if_false]
    have e3 : ((tok s t).val + 256 - 1) % 256 / 64 = s.val := by
      have : t.val ≠ 0 := fun h => h0 (Fin.ext h)
      have := s.isLt
      omega
    have e4 : ((tok s t).val + 256 - 1) % 256 % 64 = t.val - 1 := by
      have : t.val ≠ 0 := fun h => h0 (Fin.ext h)
      have := s.isLt
      omega
    simp only [e3, e4, Fin.eta]

variable {L : Lds} {i : grid0.Coords} {I : Inp} {bq : Fin 4 → Fin 8} {ch : Fin 64}

/-- A row of the chunk among all rows. -/
theorem row_val (ch : Fin 64) (t : Fin 64) : (Inp.row (64 * ch.val + t.val)).val = 64 * ch.val + t.val :=
  Nat.mod_eq_of_lt (by omega)

/-- The mixed rows are the reference's. -/
theorem mix (R : Reads L i I bq ch) (s : Fin 4) (t : Fin 64) (n : Fin 1920) (hn : n.val < 1824) :
    L.mix i (ix2 (tok s t) n) = I.mix (bq s) (Inp.row (64 * ch.val + t.val)) ⟨n.val, hn⟩ := by
  rw [shifted, R.p, R.mu]
  have hv := row_val ch t
  have hb : (if t = 0 then (if 0 < (i 1).val then ![L.q0, L.q1, L.q2, L.q3] s (ix3 0 0 n) else 0)
        else L.p (ix3 s ⟨t.val - 1, by omega⟩ n)) = I.shift (bq s) (Inp.row (64 * ch.val + t.val)) ⟨n.val, hn⟩ := by
    unfold Inp.shift
    by_cases h0 : t = 0
    · subst h0
      rw [if_pos rfl, R.no]
      by_cases hc : 0 < ch.val
      · rw [if_pos hc, dif_pos ⟨⟨by rw [hv]; simp; omega, by omega⟩, hn⟩]
        have hr : Inp.row (64 * ch.val - 1) = ⟨(Inp.row (64 * ch.val + (0 : Fin 64).val)).val - 1, by omega⟩ := by
          apply Fin.ext
          show (64 * ch.val - 1) % 4096 = (Inp.row (64 * ch.val + (0 : Fin 64).val)).val - 1
          rw [hv]
          simp
          omega
        have key : ![L.q0, L.q1, L.q2, L.q3] s (ix3 0 0 n) = I.padP (bq s) (Inp.row (64 * ch.val - 1)) n := by
          fin_cases s
          · exact R.q0 hc n
          · exact R.q1 hc n
          · exact R.q2 hc n
          · exact R.q3 hc n
        rw [key, hr]
        unfold Inp.padP
        rw [dif_pos hn]
      · rw [if_neg hc, dif_neg (by rw [hv]; rintro ⟨⟨h, _⟩, _⟩; simp at h; omega)]
        show (0 : EReal) = (((0#32 : BitVec 32).toInt : ℝ) : EReal)
        simp
    · have h1 : t.val ≠ 0 := fun h => h0 (Fin.ext h)
      rw [if_neg h0, dif_pos ⟨⟨by rw [hv]; omega, by omega⟩, hn⟩, R.p]
      have hr : Inp.row (64 * ch.val + (⟨t.val - 1, by omega⟩ : Fin 64).val)
          = ⟨(Inp.row (64 * ch.val + t.val)).val - 1, by omega⟩ := by
        apply Fin.ext
        show _ = (Inp.row (64 * ch.val + t.val)).val - 1
        rw [row_val, hv]
        show 64 * ch.val + (t.val - 1) = _
        omega
      rw [hr]
      unfold Inp.padP
      rw [dif_pos hn]
  rw [hb]
  unfold Inp.mix Inp.padP Inp.padMu
  rw [dif_pos hn, dif_pos hn]

/-- The receptance, the key and the value. -/
theorem r (R : Reads L i I bq ch) (s : Fin 4) (t : Fin 64) (n : Fin 512) :
    L.r i (ix2 (tok s t) n) = I.r (bq s) (Inp.row (64 * ch.val + t.val)) n := by
  have e : L.r i (ix2 (tok s t) n) = L.mix i (ix2 (tok s t) ⟨n.val, by omega⟩) := by unfold Lds.r; pointwise
  rw [e, R.mix s t _ (by dsimp only; omega)]; rfl

theorem k (R : Reads L i I bq ch) (s : Fin 4) (t : Fin 64) (n : Fin 512) :
    L.k i (ix2 (tok s t) n) = I.k (bq s) (Inp.row (64 * ch.val + t.val)) n := by
  have e : L.k i (ix2 (tok s t) n) = L.mix i (ix2 (tok s t) ⟨512 + n.val, by omega⟩) := by unfold Lds.k; pointwise
  rw [e, R.mix s t _ (by dsimp only; omega)]; rfl

theorem v (R : Reads L i I bq ch) (s : Fin 4) (t : Fin 64) (n : Fin 512) :
    L.v i (ix2 (tok s t) n) = I.v (bq s) (Inp.row (64 * ch.val + t.val)) n := by
  have e : L.v i (ix2 (tok s t) n) = L.mix i (ix2 (tok s t) ⟨1024 + n.val, by omega⟩) := by unfold Lds.v; pointwise
  rw [e, R.mix s t _ (by dsimp only; omega)]; rfl

/-- The logarithm of the decay. -/
theorem logw (R : Reads L i I bq ch) (s : Fin 4) (t : Fin 64) (n : Fin 512) :
    L.logw i (ix2 (tok s t) n) = I.logw (bq s) (Inp.row (64 * ch.val + t.val)) n := by
  unfold Lds.logw k0_pay13 k0_pay12
  rw [show k0_pay6 (F := Ideal) (Lds.no i) (k0_pay3 L.p) Lds.rid (L.sh2 i) k0_pay5 (Lds.later i) L.q2 L.q3 L.mu = L.mix i from rfl]
  pointwise
  have hm : ∀ x : Fin 64, L.mix i (ix2 (tok s t) ⟨1536 + x.val, by omega⟩) = I.mix (bq s) (Inp.row (64 * ch.val + t.val)) ⟨1536 + x.val, by omega⟩ :=
    fun x => R.mix s t _ (by dsimp only; omega)
  simp only [hm, R.w0, R.wdec, ne_eq, not_true_eq_false, if_false, zero_sub]
  rfl

/-- The learning rate. -/
theorem a (R : Reads L i I bq ch) (s : Fin 4) (t : Fin 64) (n : Fin 512) :
    L.a i (ix2 (tok s t) n) = I.a (bq s) (Inp.row (64 * ch.val + t.val)) n := by
  unfold Lds.a k0_pay14 k0_pay10
  rw [show k0_pay6 (F := Ideal) (Lds.no i) (k0_pay3 L.p) Lds.rid (L.sh2 i) k0_pay5 (Lds.later i) L.q2 L.q3 L.mu = L.mix i from rfl]
  pointwise
  have hm : ∀ x : Fin 64, L.mix i (ix2 (tok s t) ⟨1600 + x.val, by omega⟩) = I.mix (bq s) (Inp.row (64 * ch.val + t.val)) ⟨1600 + x.val, by omega⟩ :=
    fun x => R.mix s t _ (by dsimp only; omega)
  simp only [hm, R.a0, R.waaa]
  rfl

/-- The gate: the padded rows of its matrix add nothing. -/
theorem g (R : Reads L i I bq ch) (s : Fin 4) (t : Fin 64) (n : Fin 512) :
    L.g i (ix2 (tok s t) n) = I.g (bq s) (Inp.row (64 * ch.val + t.val)) n := by
  unfold Lds.g k0_pay15 k0_pay11
  rw [show k0_pay6 (F := Ideal) (Lds.no i) (k0_pay3 L.p) Lds.rid (L.sh2 i) k0_pay5 (Lds.later i) L.q2 L.q3 L.mu = L.mix i from rfl]
  pointwise
  simp only [R.wgate]
  rw [Fin.sum_univ_add (a := 160) (b := 96)]
  have hz : ∀ x : Fin 96, Ideal.logistic (L.mix i (ix2 (tok s t) ⟨1664 + (Fin.natAdd 160 x).val, by have := (Fin.natAdd 160 x).isLt; omega⟩))
      * I.padGate (Fin.natAdd 160 x) n = 0 := by
    intro x
    have : I.padGate (Fin.natAdd 160 x) n = 0 := by
      unfold Inp.padGate
      rw [dif_neg (by simp)]
    rw [this, mul_zero]
  rw [Finset.sum_congr rfl (fun x _ => hz x), Finset.sum_const_zero, add_zero]
  refine Finset.sum_congr rfl fun x _ => ?_
  have hm : L.mix i (ix2 (tok s t) ⟨1664 + (Fin.castAdd 96 x).val, by have := (Fin.castAdd 96 x).isLt; omega⟩)
      = I.mix (bq s) (Inp.row (64 * ch.val + t.val)) ⟨1664 + x.val, by omega⟩ :=
    R.mix s t _ (by have := x.isLt; simp; omega)
  have hg : I.padGate (Fin.castAdd 96 x) n = I.wgate x n := by
    unfold Inp.padGate
    rw [dif_pos (by simp)]
    rfl
  rw [hm, hg]
  rfl

/-- The key for the norm, the key put in, and the bonus's terms. -/
theorem kkf (R : Reads L i I bq ch) (s : Fin 4) (t : Fin 64) (n : Fin 512) :
    L.kkf i (ix2 (tok s t) n) = I.kkf (bq s) (Inp.row (64 * ch.val + t.val)) n := by
  have e : L.kkf i (ix2 (tok s t) n) = L.k i (ix2 (tok s t) n) * L.kk (ix2 0 n) := by unfold Lds.kkf k0_pay26; pointwise
  rw [e, R.k, R.kk]; rfl

theorem kmod (R : Reads L i I bq ch) (s : Fin 4) (t : Fin 64) (n : Fin 512) :
    L.kmod i (ix2 (tok s t) n) = I.kmod (bq s) (Inp.row (64 * ch.val + t.val)) n := by
  have e : L.kmod i (ix2 (tok s t) n) = L.k i (ix2 (tok s t) n) * (1 + (L.a i (ix2 (tok s t) n) - 1) * L.ka (ix2 0 n)) := by
    unfold Lds.kmod k0_pay27; pointwise
  rw [e, R.k, R.a, R.ka]; rfl

theorem rkr (R : Reads L i I bq ch) (s : Fin 4) (t : Fin 64) (h : Fin 8) (j : Fin 64) :
    L.rkr i (ix2 (tok s t) (col h j)) = I.r (bq s) (Inp.row (64 * ch.val + t.val)) (col h j)
      * I.kmod (bq s) (Inp.row (64 * ch.val + t.val)) (col h j) * I.rk h j := by
  have e : ∀ n, L.rkr i (ix2 (tok s t) n) = L.r i (ix2 (tok s t) n) * (L.k i (ix2 (tok s t) n)
      * (1 + (L.a i (ix2 (tok s t) n) - 1) * L.ka (ix2 0 n))) * L.rk (ix2 0 n) := by
    intro n
    unfold Lds.rkr k0_pay28 k0_pay27; pointwise
  rw [e, R.r, R.k, R.a, R.ka, R.rk]; rfl

/-- The decays' logarithms summed up to a row, as reals. -/
theorem cum (R : Reads L i I bq ch) (s : Fin 4) (t : Fin 64) (n : Fin 512) :
    L.cum i (ix2 (tok s t) n)
      = ((∑ x ∈ Finset.range (t.val + 1), (I.logw (bq s) (Inp.row (64 * ch.val + x)) n).toReal : ℝ) : EReal) := by
  have e : L.cum i (ix2 (tok s t) n) = ∑ x : Fin 256, Scalar.select
      (IntOp.andi (IntOp.cmpi CmpIPredicate.sge (BitVec.ofNat 32 (tok s t).val) (BitVec.ofNat 32 x.val))
      (IntOp.cmpi CmpIPredicate.sle (IntOp.subi (BitVec.ofNat 32 (tok s t).val) (BitVec.ofNat 32 x.val))
        (remWord (BitVec.ofNat 32 (tok s t).val)))) (L.logw i (ix2 x n)) 0 := by
    unfold Lds.cum k0_pay19 k0_pay16 k0_pay17 k0_pay18 Lds.step
    generalize L.logw i = W
    pointwise
  rw [e, sum_tok]
  simp only [word_rem, word_upto, select_if, R.logw]
  rw [Finset.sum_eq_single s (fun s' _ hs => Finset.sum_eq_zero fun t' _ => if_neg fun h => hs h.1)
    (fun h => absurd (Finset.mem_univ s) h)]
  simp only [true_and]
  rw [coe_sum, ← Finset.sum_filter]
  refine Finset.sum_bij (fun (x : Fin 64) _ => x.val) ?_ ?_ ?_ ?_
  · intro x hx
    simp only [Finset.mem_filter, Finset.mem_range] at hx ⊢
    omega
  · intro x _ y _ h
    exact Fin.ext h
  · intro x hx
    have hx := Finset.mem_range.mp hx
    exact ⟨⟨x, by omega⟩, by simp only [Finset.mem_filter, Finset.mem_univ, true_and]; omega, rfl⟩
  · intro x _
    exact (Inp.isReal_logw I _ _ _).coe

/-- The whole chunk's sum at every row. -/
theorem cumLast (R : Reads L i I bq ch) (s : Fin 4) (t : Fin 64) (n : Fin 512) :
    L.cumLast i (ix2 (tok s t) n)
      = ((∑ x ∈ Finset.range 64, (I.logw (bq s) (Inp.row (64 * ch.val + x)) n).toReal : ℝ) : EReal) := by
  have e : L.cumLast i (ix2 (tok s t) n) = L.cum i (ix2 (tok s 63) n) := by
    unfold Lds.cumLast k0_pay20 Lds.rid
    rw [show k0_pay19 (F := Ideal) (L.logw i) k0_pay16 k0_pay17 Lds.step k0_pay18 0#32 = L.cum i from rfl]
    generalize L.cum i = W
    pointwise
    obtain ⟨w3, w2, w1⟩ := word_seq s t
    rw [w3, w2, w1]
    simp only [select_if]
    fin_cases s <;> rfl
  rw [e, R.cum]
  rfl

end Reads

end Cert.Rw
-- ==== Proof.RwPieces.lean ====
/-
  What the recurrence's kernel stores in one grid step, piece by piece: every pair of heads of every sequence has its columns of
  the chunk's arrays as in the pair's function.
-/
module

public import proofs.«01_k».proof.Proof.Gen.KernelIdeal.Value
public import Idealize.ShloMosaic.Lib.Tactic.RunNames
public import Idealize.ShloMosaic.Lib.Pipeline.CanonAppend
public import proofs.«01_k».proof.Proof.RwPair

@[expose] public section

set_option maxRecDepth 16384

noncomputable section

namespace Cert.Rw

open Cert.KernelIdeal Cert.KernelIdeal.Gen Cert.KernelIdeal.Value Idealize.ShloMosaic Idealize.ShloMosaic.TcCoe Idealize.ShloMosaic.Tactic Idealize.SL.Sem

variable (m : (ℓ : Loc nD τ sig) → Buf (Elt Ideal) ℓ) (c : Dev nD)

/-- What a grid step reads of its blocks, as the run states it. -/
def rawLds (t : Fin cfg0.N) : Lds where
  p := View.readAt (Elt Ideal) (ms0_0 t).view (Rect.unit (s := S4x64x1920) ![0, 0, 0] S4x64x1920.size inb_S4x64x1920_S4x64x1920_0_0_0).toLoadRect ((hs0_0 t).unread (iblk m c 0 t))
  q0 := View.readAt (Elt Ideal) (ms0_1 t).view (Rect.unit (s := S4x8x1920) ![0, 7, 0] S1x1x1920.size inb_S4x8x1920_S1x1x1920_0_7_0).toLoadRect ((hs0_1 t).unread (iblk m c 1 t))
  q1 := View.readAt (Elt Ideal) (ms0_1 t).view (Rect.unit (s := S4x8x1920) ![1, 7, 0] S1x1x1920.size inb_S4x8x1920_S1x1x1920_1_7_0).toLoadRect ((hs0_1 t).unread (iblk m c 1 t))
  q2 := View.readAt (Elt Ideal) (ms0_1 t).view (Rect.unit (s := S4x8x1920) ![2, 7, 0] S1x1x1920.size inb_S4x8x1920_S1x1x1920_2_7_0).toLoadRect ((hs0_1 t).unread (iblk m c 1 t))
  q3 := View.readAt (Elt Ideal) (ms0_1 t).view (Rect.unit (s := S4x8x1920) ![3, 7, 0] S1x1x1920.size inb_S4x8x1920_S1x1x1920_3_7_0).toLoadRect ((hs0_1 t).unread (iblk m c 1 t))
  mu := View.readAt (Elt Ideal) (ms0_2 t).view (Rect.unit (s := S1x1920) ![0, 0] S1x1920.size inb_S1x1920_S1x1920_0_0).toLoadRect ((hs0_2 t).unread (iblk m c 2 t))
  w0 := View.readAt (Elt Ideal) (ms0_3 t).view (Rect.unit (s := S1x512) ![0, 0] S1x512.size inb_S1x512_S1x512_0_0).toLoadRect ((hs0_3 t).unread (iblk m c 3 t))
  wdec := View.readAt (Elt Ideal) (ms0_4 t).view (Rect.unit (s := S64x512) ![0, 0] S64x512.size inb_S64x512_S64x512_0_0).toLoadRect ((hs0_4 t).unread (iblk m c 4 t))
  a0 := View.readAt (Elt Ideal) (ms0_5 t).view (Rect.unit (s := S1x512) ![0, 0] S1x512.size inb_S1x512_S1x512_0_0).toLoadRect ((hs0_5 t).unread (iblk m c 5 t))
  waaa := View.readAt (Elt Ideal) (ms0_6 t).view (Rect.unit (s := S64x512) ![0, 0] S64x512.size inb_S64x512_S64x512_0_0).toLoadRect ((hs0_6 t).unread (iblk m c 6 t))
  wgate := View.readAt (Elt Ideal) (ms0_7 t).view (Rect.unit (s := S256x512) ![0, 0] S256x512.size inb_S256x512_S256x512_0_0).toLoadRect ((hs0_7 t).unread (iblk m c 7 t))
  kk := View.readAt (Elt Ideal) (ms0_8 t).view (Rect.unit (s := S1x512) ![0, 0] S1x512.size inb_S1x512_S1x512_0_0).toLoadRect ((hs0_8 t).unread (iblk m c 8 t))
  ka := View.readAt (Elt Ideal) (ms0_9 t).view (Rect.unit (s := S1x512) ![0, 0] S1x512.size inb_S1x512_S1x512_0_0).toLoadRect ((hs0_9 t).unread (iblk m c 9 t))
  rk := View.readAt (Elt Ideal) (ms0_10 t).view (Rect.unit (s := S1x512) ![0, 0] S1x512.size inb_S1x512_S1x512_0_0).toLoadRect ((hs0_10 t).unread (iblk m c 10 t))

/-- Where a pair's columns start: the pairs of the first sequence come first. -/
def offs (p : ℕ) : Fin 2 → ℕ := ![64 * (p / 4), 128 * (p % 4)]

/-- They lie within the chunk's arrays. -/
theorem offs_ok (p : ℕ) (hp : p < 16) : S256x512.Slices (offs p) S64x128 := by
  revert p
  decide

/-- A tile of the state lies within it. -/
theorem tile_ok (p : ℕ) (hp : p < 16) : ∀ a, (![p, 0, 0] : Fin 3 → Nat) a + S1x64x128.size a ≤ S16x64x128.size a := by
  intro a
  fin_cases a <;> simp [Shape.size] <;> omega

/-- A stretch of a row lies within it. -/
theorem lane_ok (p : ℕ) (hp : p < 16) : ∀ a, (![0, 128 * (p % 4)] : Fin 2 → Nat) a + S1x128.size a ≤ S1x512.size a := by
  intro a
  fin_cases a <;> simp [Shape.size] <;> omega

/-- A tile of the scratch's state as the run reads it. -/
def rawH (xs : Vec Ideal S16x64x128 .f32) (p : ℕ) (hp : p < 16) : Vec Ideal S1x64x128 .f32 :=
  View.readAt (Elt Ideal) scM0_0.view (Rect.unit (s := S16x64x128) ![p, 0, 0] S1x64x128.size (tile_ok p hp)).toLoadRect ((Memref.isWhole_whole _).unread xs)

/-- A stretch of the gain, as the run reads it. -/
def rawGain (t : Fin cfg0.N) (p : ℕ) (hp : p < 16) : Vec Ideal S1x128 .f32 :=
  View.readAt (Elt Ideal) (ms0_11 t).view (Rect.unit (s := S1x512) ![0, 128 * (p % 4)] S1x128.size (lane_ok p hp)).toLoadRect ((hs0_11 t).unread (iblk m c 11 t))

/-- A stretch of the bias, as the run reads it. -/
def rawBias (t : Fin cfg0.N) (p : ℕ) (hp : p < 16) : Vec Ideal S1x128 .f32 :=
  View.readAt (Elt Ideal) (ms0_12 t).view (Rect.unit (s := S1x512) ![0, 128 * (p % 4)] S1x128.size (lane_ok p hp)).toLoadRect ((hs0_12 t).unread (iblk m c 12 t))

/-- The state after a grid step, from the tiles before it. -/
def stateAfter (L : Lds) (i : grid0.Coords) (h : (p : ℕ) → p < 16 → Vec Ideal S1x64x128 .f32) : Vec Ideal S16x64x128 .f32 := fun z =>
  L.pieceH i (offs (z 0).val) (offs_ok _ (z 0).isLt) (h (z 0).val (z 0).isLt) (ix3 0 (z 1) (z 2))

/-- At a tile's elements. -/
theorem stateAfter_emb (L : Lds) (i : grid0.Coords) (h : (p : ℕ) → p < 16 → Vec Ideal S1x64x128 .f32) (p : ℕ) (inb) (hp : p < 16)
    (x : S1x64x128.Idx) :
    stateAfter L i h ((Rect.unit (s := S16x64x128) ![p, 0, 0] ![1, 64, 128] inb).emb x) = L.pieceH i (offs p) (offs_ok p hp) (h p hp) x := by
  have e0 : (((Rect.unit (s := S16x64x128) ![p, 0, 0] ![1, 64, 128] inb).emb x) 0).val = p := by
    have h0 : (x 0).val < 1 := (x 0).isLt
    show p + 1 * (x 0).val = p
    omega
  have e1 : ((Rect.unit (s := S16x64x128) ![p, 0, 0] ![1, 64, 128] inb).emb x) 1 = x 1 := by
    apply Fin.ext; simp [Rect.emb, Rect.unit]
  have e2 : ((Rect.unit (s := S16x64x128) ![p, 0, 0] ![1, 64, 128] inb).emb x) 2 = x 2 := by
    apply Fin.ext; simp [Rect.emb, Rect.unit]
  have ex : (ix3 0 (x 1) (x 2) : S1x64x128.Idx) = x := by
    funext a
    match a with
    | 0 => exact Subsingleton.elim (α := Fin 1) _ _
    | 1 => rfl
    | 2 => rfl
  have key : ∀ (q : ℕ) (hq : q < 16) (z : S1x64x128.Idx), q = p → z = x →
      L.pieceH i (offs q) (offs_ok q hq) (h q hq) z = L.pieceH i (offs p) (offs_ok p hp) (h p hp) x := by
    intro q hq z e e'
    subst e e'
    rfl
  exact key _ _ _ e0 ((congrArg₂ (fun a b => (ix3 0 a b : S1x64x128.Idx)) e1 e2).trans ex)

/-- The outputs of a grid step, from the state's tiles before it. -/
def outAfter (L : Lds) (i : grid0.Coords) (h : (p : ℕ) → p < 16 → Vec Ideal S1x64x128 .f32) (ga bi : (p : ℕ) → p < 16 → Vec Ideal S1x128 .f32) :
    Vec Ideal S4x64x512 .f32 := fun z =>
  have hp : 4 * (z 0).val + (z 2).val / 128 < 16 := by
    have h0 : (z 0).val < 4 := (z 0).isLt
    have h2 : (z 2).val < 512 := (z 2).isLt
    omega
  L.pieceY i (offs (4 * (z 0).val + (z 2).val / 128)) (offs_ok _ hp) (h _ hp) (ga _ hp) (bi _ hp)
    (ix3 0 (z 1) ⟨(z 2).val % 128, Nat.mod_lt _ (by norm_num)⟩)

/-- At a tile's elements. -/
theorem outAfter_emb (L : Lds) (i : grid0.Coords) (h : (p : ℕ) → p < 16 → Vec Ideal S1x64x128 .f32) (ga bi : (p : ℕ) → p < 16 → Vec Ideal S1x128 .f32)
    (s l : ℕ) (inb) (hl : l % 128 = 0) (hp : 4 * s + l / 128 < 16) (hl' : l < 512) (x : S1x64x128.Idx) :
    outAfter L i h ga bi ((Rect.unit (s := S4x64x512) ![s, 0, l] ![1, 64, 128] inb).emb x) =
      L.pieceY i (offs (4 * s + l / 128)) (offs_ok _ hp) (h _ hp) (ga _ hp) (bi _ hp) x := by
  have e0 : (((Rect.unit (s := S4x64x512) ![s, 0, l] ![1, 64, 128] inb).emb x) 0).val = s := by
    have h0 : (x 0).val < 1 := (x 0).isLt
    show s + 1 * (x 0).val = s
    omega
  have e1 : ((Rect.unit (s := S4x64x512) ![s, 0, l] ![1, 64, 128] inb).emb x) 1 = x 1 := by
    apply Fin.ext; simp [Rect.emb, Rect.unit]
  have e2 : (((Rect.unit (s := S4x64x512) ![s, 0, l] ![1, 64, 128] inb).emb x) 2).val = l + (x 2).val := by
    simp [Rect.emb, Rect.unit]
  have hx : (x 2).val < 128 := (x 2).isLt
  have ep : (l + (x 2).val) / 128 = l / 128 := by omega
  have el : (l + (x 2).val) % 128 = (x 2).val := by omega
  have ex : (ix3 0 (x 1) (x 2) : S1x64x128.Idx) = x := by
    funext a
    match a with
    | 0 => exact Subsingleton.elim (α := Fin 1) _ _
    | 1 => rfl
    | 2 => rfl
  have key : ∀ (q : ℕ) (hq : q < 16) (z : S1x64x128.Idx), q = 4 * s + l / 128 → z = x →
      L.pieceY i (offs q) (offs_ok q hq) (h q hq) (ga q hq) (bi q hq) z =
        L.pieceY i (offs (4 * s + l / 128)) (offs_ok _ hp) (h _ hp) (ga _ hp) (bi _ hp) x := by
    intro q hq z e e'
    subst e e'
    rfl
  exact key _ _ _ (by rw [e0, e2, ep]) ((congrArg₂ (fun a b => (ix3 0 a b : S1x64x128.Idx)) e1 (Fin.ext ((congrArg (· % 128) e2).trans el))).trans ex)

/-- A later grid step's state. -/
theorem state_later (t : Fin cfg0.N) (ht : ¬ t.val % 64 = 0) (acc : Vec Ideal S4x64x512 .f32 × Vec Ideal S16x64x128 .f32) :
    (stAt0 m c t.val t.isLt acc).2 = stateAfter (rawLds m c t) (grid0.coords t) (rawH acc.2) := by
  rw [stAt0_B m c t acc ht]
  dsimp only
  unfold sout0_B_0
  rw [View.read_writes_eq_canon _ _ _ (fun y => scover0_B_0 (y := y) ..)]
  funext y
  refine View.canon_apply_of_pieces (Val := Elt Ideal) (S := S16x64x128) (e := .f32) (stateAfter (rawLds m c t) (grid0.coords t) (rawH acc.2)) _ ?_ y
    (scover0_B_0 (y := y) ..)
  unfold kernelRun0_B
  dsimp only
  simp only [List.forall_mem_cons]
  refine ⟨?_, ?_, ?_, ?_, ?_, ?_, ?_, ?_, ?_, ?_, ?_, ?_, ?_, ?_, ?_, ?_, fun _ hx => absurd hx List.not_mem_nil⟩ <;> intro x <;>
    refine Eq.trans ?_ (stateAfter_emb _ _ _ _ _ (by decide) x).symm <;> sl_kernel_rfl

/-- A later grid step's outputs. -/
theorem out_later (t : Fin cfg0.N) (ht : ¬ t.val % 64 = 0) (acc : Vec Ideal S4x64x512 .f32 × Vec Ideal S16x64x128 .f32) :
    (stAt0 m c t.val t.isLt acc).1 = outAfter (rawLds m c t) (grid0.coords t) (rawH acc.2) (rawGain m c t) (rawBias m c t) := by
  rw [stAt0_B m c t acc ht]
  dsimp only
  unfold out0_B_13
  rw [View.read_writes_eq_canon _ _ _ (fun y => cover0_B_13 (y := y) ..)]
  funext y
  refine View.canon_apply_of_pieces (Val := Elt Ideal) (S := S4x64x512) (e := .f32)
    (outAfter (rawLds m c t) (grid0.coords t) (rawH acc.2) (rawGain m c t) (rawBias m c t)) _ ?_ y (cover0_B_13 (y := y) ..)
  unfold kernelRun0_B
  dsimp only
  simp only [List.forall_mem_cons]
  refine ⟨?_, ?_, ?_, ?_, ?_, ?_, ?_, ?_, ?_, ?_, ?_, ?_, ?_, ?_, ?_, ?_, fun _ hx => absurd hx List.not_mem_nil⟩ <;> intro x <;>
    refine Eq.trans ?_ (outAfter_emb _ _ _ _ _ _ _ _ (by decide) (by decide) (by decide) x).symm <;> sl_kernel_rfl

/-- Where the last stores cover a buffer, what was stored before them does not matter. -/
theorem canon_take (G : S16x64x128.Idx → Elt Ideal .f32) (n : ℕ) (L : List (View.Piece (Elt Ideal) S16x64x128 .f32))
    (h : ∀ p ∈ L.take n, ∀ x : p.1.shape.Idx, p.2 x = G (p.1.emb x)) (y : S16x64x128.Idx) (hy : ∃ p ∈ L.take n, y ∈ p.1.set) :
    View.canon L y = G y := by
  conv_lhs => rw [← List.take_append_drop n L]
  exact View.canon_append_of_pieces G _ _ h y hy

/-- A tile of the scratch's state as the run reads it where a sequence begins. -/
def rawZ (p : ℕ) (hp : p < 16) : Vec Ideal S1x64x128 .f32 :=
  View.readCov (Val := Elt Ideal) scM0_0.view kernelRun0_A.sl.HS0_1 (Rect.unit (s := S16x64x128) ![p, 0, 0] S1x64x128.size (tile_ok p hp)).toLoadRect

/-- A sequence's first grid step's state. -/
theorem state_first (t : Fin cfg0.N) (ht : t.val % 64 = 0) (acc : Vec Ideal S4x64x512 .f32 × Vec Ideal S16x64x128 .f32) :
    (stAt0 m c t.val t.isLt acc).2 = stateAfter (rawLds m c t) (grid0.coords t) (rawZ) := by
  rw [stAt0_A m c t acc ht]
  dsimp only
  unfold sout0_A_0
  rw [View.read_writes_eq_canon _ _ _ (fun y => scover0_A_0 (y := y) ..)]
  funext y
  refine canon_take (stateAfter (rawLds m c t) (grid0.coords t) rawZ) 16 _ ?_ y (View.cover_of_tiledL (s := S16x64x128) _ S1x64x128.size (by sl_kernel_rfl) y)
  unfold kernelRun0_A
  dsimp only
  simp only [List.take_succ_cons, List.take_zero, List.forall_mem_cons]
  refine ⟨?_, ?_, ?_, ?_, ?_, ?_, ?_, ?_, ?_, ?_, ?_, ?_, ?_, ?_, ?_, ?_, fun _ hx => absurd hx List.not_mem_nil⟩ <;> intro x <;>
    refine Eq.trans ?_ (stateAfter_emb _ _ _ _ _ (by decide) x).symm <;> sl_kernel_rfl

/-- A sequence's first grid step's outputs. -/
theorem out_first (t : Fin cfg0.N) (ht : t.val % 64 = 0) (acc : Vec Ideal S4x64x512 .f32 × Vec Ideal S16x64x128 .f32) :
    (stAt0 m c t.val t.isLt acc).1 = outAfter (rawLds m c t) (grid0.coords t) (rawZ) (rawGain m c t) (rawBias m c t) := by
  rw [stAt0_A m c t acc ht]
  dsimp only
  unfold out0_A_13
  rw [View.read_writes_eq_canon _ _ _ (fun y => cover0_A_13 (y := y) ..)]
  funext y
  refine View.canon_apply_of_pieces (Val := Elt Ideal) (S := S4x64x512) (e := .f32)
    (outAfter (rawLds m c t) (grid0.coords t) (rawZ) (rawGain m c t) (rawBias m c t)) _ ?_ y (cover0_A_13 (y := y) ..)
  unfold kernelRun0_A
  dsimp only
  simp only [List.forall_mem_cons]
  refine ⟨?_, ?_, ?_, ?_, ?_, ?_, ?_, ?_, ?_, ?_, ?_, ?_, ?_, ?_, ?_, ?_, fun _ hx => absurd hx List.not_mem_nil⟩ <;> intro x <;>
    refine Eq.trans ?_ (outAfter_emb _ _ _ _ _ _ _ _ (by decide) (by decide) (by decide) x).symm <;> sl_kernel_rfl

end Cert.Rw

end
-- ==== Proof.RwTiles.lean ====
/-
  A chunk of the kernel over the arguments: every pair's columns are its two heads' data in the chunk, the state's tiles go on
  with the heads' scans, and what is stored is the reference's result of the scan's outputs.
-/
module

public import proofs.«01_k».proof.Proof.RwReads
public import proofs.«01_k».proof.Proof.RwPieces

@[expose] public section

set_option maxRecDepth 16384

noncomputable section

namespace Cert.Rw

open Cert.KernelIdeal Cert.KernelIdeal.Gen Idealize.ShloMosaic

/-- The pair of a sequence and a quarter of the columns. -/
theorem pair_ok (s q : Fin 4) : 4 * s.val + q.val < 16 := by omega

/-- A pair's columns at an element. -/
theorem cut_apply (X : Wide) (s q : Fin 4) (h : S256x512.Slices (offs (4 * s.val + q.val)) S64x128) (t : Fin 64) (u : Fin 2) (i : Fin 64) :
    Lds.cut X (offs (4 * s.val + q.val)) h (ix2 t (lane u i)) = X (ix2 (tok s t) (col (hd q u) i)) := by
  have e1 : (4 * s.val + q.val) / 4 = s.val := by omega
  have e2 : (4 * s.val + q.val) % 4 = q.val := by omega
  refine congrArg X (funext fun a => ?_)
  match a with
  | 0 =>
    apply Fin.ext
    show 64 * ((4 * s.val + q.val) / 4) + t.val = 64 * s.val + t.val
    rw [e1]
  | 1 =>
    apply Fin.ext
    show 128 * ((4 * s.val + q.val) % 4) + (64 * u.val + i.val) = (2 * q.val + u.val) * 64 + i.val
    rw [e2]
    ring

variable {L : Lds} {i : grid0.Coords} {I : Inp} {bq : Fin 4 → Fin 8} {ch : Fin 64}

/-- The cut of an array that is the reference's. -/
theorem Is.cut {X : Wide} (s q : Fin 4) (h) {f : Fin 64 → Fin 512 → ℝ} (hX : ∀ t n, X (ix2 (tok s t) n) = ((f t n : ℝ) : EReal)) :
    Is (Lds.cut X (offs (4 * s.val + q.val)) h) fun t u j => f t (col (hd q u) j) := fun t u j => by
  rw [cut_apply, hX]

/-- A pair's normed key is the reference's of its heads. -/
theorem normed_cut (R : Reads L i I bq ch) (s q : Fin 4) (h) (t : Fin 64) (u : Fin 2) (j : Fin 64) :
    normed (Lds.cut (L.kkf i) (offs (4 * s.val + q.val)) h) (ix2 t (lane u j))
      = I.kkn (bq s) (Inp.row (64 * ch.val + t.val)) (hd q u) j := by
  generalize hX : Lds.cut (L.kkf i) (offs (4 * s.val + q.val)) h = X
  have hx : ∀ j, X (ix2 t (lane u j)) = I.kkf (bq s) (Inp.row (64 * ch.val + t.val)) (col (hd q u) j) := fun j => by
    rw [← hX, cut_apply, R.kkf]
  have e : normed X (ix2 t (lane u j)) = Ideal.div (X (ix2 t (lane u j)))
      (max (Ideal.sqrt (perHead (mulf X X) (ix2 t (lane u j)))) (Ideal.ofBits .f32 730643660#32)) := by
    unfold normed
    generalize perHead (mulf X X) = Y
    pointwise
  have e2 : perHead (mulf X X) (ix2 t (lane u j)) = ∑ x, X (ix2 t (lane u x)) * X (ix2 t (lane u x)) := perHead_apply ..
  rw [e, e2]
  simp only [hx]
  rfl

/-- The data of a head in the chunk. -/
abbrev dataOf (I : Inp) (bq : Fin 4 → Fin 8) (ch : Fin 64) (s q : Fin 4) (u : Fin 2) : Head :=
  (I.head (bq s) (hd q u)).from_ (64 * ch.val)

theorem isChunk (R : Reads L i I bq ch) (hI : I.Nice) (s q : Fin 4) (h) :
    IsChunk (L.cols i (offs (4 * s.val + q.val)) h) (dataOf I bq ch s q) := by
  have lw : ∀ (t : Fin 64) n, L.logw i (ix2 (tok s t) n) = (((I.logw (bq s) (Inp.row (64 * ch.val + t.val)) n).toReal : ℝ) : EReal) :=
    fun t n => (R.logw s t n).trans (Inp.isReal_logw I _ _ _).coe
  have hkk : Is (normed (Lds.cut (L.kkf i) (offs (4 * s.val + q.val)) h)) fun t u j =>
      (I.kkn (bq s) (Inp.row (64 * ch.val + t.val)) (hd q u) j).toReal := fun t u j =>
    (normed_cut R s q h t u j).trans (Inp.isReal_kkn I _ _ _ _).coe
  have ha : Is (Lds.cut (L.a i) (offs (4 * s.val + q.val)) h) fun t u j =>
      (I.a (bq s) (Inp.row (64 * ch.val + t.val)) (col (hd q u) j)).toReal :=
    Is.cut s q h fun t n => (R.a s t n).trans (Inp.isReal_a I _ _ _).coe
  refine ⟨?_, hkk.mul ha, ?_, ?_, ?_, ?_, ?_, ?_, ?_, ?_⟩
  · intro t u j
    refine (hkk t u j).trans ?_
    show _ = ((-(-_) : ℝ) : EReal)
    rw [neg_neg]
  · exact Is.cut s q h fun t n => (R.kmod s t n).trans (hI.kmod _ _ _).coe
  · intro t u j
    refine (cut_apply (L.gin i) s q h t u j).trans ?_
    show Ideal.exp (L.cum i _ - L.logw i _) = _
    rw [R.cum, lw, ← EReal.coe_sub, Finset.sum_range_succ, add_sub_cancel_right]
    rfl
  · exact Is.cut s q h fun t n => (R.r s t n).trans (hI.mix _ _ _).coe
  · intro t u j
    refine (cut_apply (L.gt i) s q h t u j).trans ?_
    show Ideal.exp (L.cum i _) = _
    rw [R.cum]
    rfl
  · intro t u j
    refine (cut_apply (L.ginv i) s q h t u j).trans ?_
    show Ideal.exp (Ideal.ofBits .f32 0x00000000#32 - L.cum i _) = _
    rw [R.cum, show Ideal.ofBits .f32 0x00000000#32 = ((0 : ℝ) : EReal) by simp [Ideal.ofBits, Ideal.ieee], ← EReal.coe_sub, zero_sub]
    show ((Real.exp (-_) : ℝ) : EReal) = _
    rw [Real.exp_neg]
    rfl
  · intro t u j
    refine (cut_apply (L.gend i) s q h t u j).trans ?_
    show Ideal.exp (L.cumLast i _ - L.cum i _) = _
    rw [R.cum, R.cumLast, ← EReal.coe_sub]
    show ((Real.exp (_ - _) : ℝ) : EReal) = _
    rw [Real.exp_sub, div_eq_mul_inv]
    rfl
  · exact Is.cut s q h fun t n => (R.v s t n).trans (hI.mix _ _ _).coe
  · intro t u j
    refine (cut_apply (L.gall i) s q h t u j).trans ?_
    show Ideal.exp (L.cumLast i _) = _
    rw [R.cumLast]
    rfl

/-- A tile's rows as the kernel holds them. -/
theorem tileOf_apply (T : Vec Ideal S1x64x128 .f32) (j : Fin 64) (l : Fin 128) : Lds.tileOf T (ix2 j l) = T (ix3 0 j l) := by
  unfold Lds.tileOf
  pointwise

/-- And back. -/
theorem tileBack_apply (T : Tile) (j : Fin 64) (l : Fin 128) :
    (shapeCast S1x64x128 T shapeCasts_S64x128_S1x64x128 : Vec Ideal S1x64x128 .f32) (ix3 0 j l) = T (ix2 j l) := by
  pointwise

/-- The state's tiles hold the heads' states. -/
def Holds (h : (p : ℕ) → p < 16 → Vec Ideal S1x64x128 .f32) (S : Fin 4 → Fin 8 → Fin 64 → Fin 64 → ℝ) : Prop :=
  ∀ s q j u l, h (4 * s.val + q.val) (pair_ok s q) (ix3 0 j (lane u l)) = ((S s (hd q u) l j : ℝ) : EReal)

variable {h : (p : ℕ) → p < 16 → Vec Ideal S1x64x128 .f32} {S : Fin 4 → Fin 8 → Fin 64 → Fin 64 → ℝ}

theorem Holds.tile (hh : Holds h S) (s q : Fin 4) :
    Is (Lds.tileOf (h (4 * s.val + q.val) (pair_ok s q))) fun j u l => S s (hd q u) l j := fun j u l =>
  (tileOf_apply _ j _).trans (hh s q j u l)

/-- The state after the chunk. -/
theorem stateAfter_scan (R : Reads L i I bq ch) (hI : I.Nice) (hh : Holds h S) (s q : Fin 4) (j : Fin 64) (u : Fin 2) (l : Fin 64) :
    stateAfter L i h (ix3 ⟨4 * s.val + q.val, pair_ok s q⟩ j (lane u l))
      = (((dataOf I bq ch s q u).scan (S s (hd q u)) 64 l j : ℝ) : EReal) :=
  (tileBack_apply _ j _).trans ((isChunk R hI s q _).next (hh.tile s q) j u l)

/-- A division by the head's length. -/
theorem div_len (x : EReal) : Ideal.div x (Ideal.ofBits .f32 0x42800000#32) = x * Ideal.ofBits .f32 0x3C800000#32 := by
  have e1 : Ideal.ofBits .f32 0x42800000#32 = ((64 : ℝ) : EReal) := by
    simp [Ideal.ofBits, Ideal.ieee, -EReal.coe_mul]; norm_num
  have e2 : Ideal.ofBits .f32 0x3C800000#32 = ((1 / 64 : ℝ) : EReal) := by
    simp [Ideal.ofBits, Ideal.ieee, -EReal.coe_mul]; norm_num
  rw [e1, e2]
  exact Ideal.div_coe (by norm_num) x

/-- The normed output of a head. -/
theorem outNorm_apply (y : Tile) (t : Fin 64) (u : Fin 2) (l : Fin 64) (f : Fin 64 → EReal) (hy : ∀ x, y (ix2 t (lane u x)) = f x) :
    outNorm y (ix2 t (lane u l)) = (f l - Ideal.div (∑ x, f x) (Ideal.ofBits .f32 0x42800000#32)) *
      Ideal.rsqrt (Ideal.div (∑ x, (f x - Ideal.div (∑ x, f x) (Ideal.ofBits .f32 0x42800000#32))
        * (f x - Ideal.div (∑ x, f x) (Ideal.ofBits .f32 0x42800000#32))) (Ideal.ofBits .f32 0x42800000#32)
        + Ideal.ofBits .f32 0x3a27c5ac#32) := by
  have hc : ∀ x, centred y (ix2 t (lane u x)) = f x - Ideal.div (∑ x, f x) (Ideal.ofBits .f32 0x42800000#32) := fun x => by
    have e : centred y (ix2 t (lane u x)) = y (ix2 t (lane u x)) - perHead y (ix2 t (lane u x)) * Ideal.ofBits .f32 0x3C800000#32 := rfl
    rw [e, perHead_apply, div_len, hy]
    simp only [hy]
  have e : outNorm y (ix2 t (lane u l)) = centred y (ix2 t (lane u l)) *
      Ideal.rsqrt (perHead (mulf (centred y) (centred y)) (ix2 t (lane u l)) * Ideal.ofBits .f32 0x3C800000#32
        + Ideal.ofBits .f32 0x3a27c5ac#32) := rfl
  have e2 : perHead (mulf (centred y) (centred y)) (ix2 t (lane u l)) = ∑ x, centred y (ix2 t (lane u x)) * centred y (ix2 t (lane u x)) :=
    perHead_apply ..
  rw [e, e2, ← div_len]
  simp only [hc]

/-- A row of 128 numbers at every token. -/
theorem rowsOf_apply (x : Vec Ideal S1x128 .f32) (t : Fin 64) (l : Fin 128) : rowsOf x (ix2 t l) = x (ix2 0 l) := by
  unfold rowsOf
  pointwise

/-- What is stored of the chunk. -/
theorem outAfter_fin (R : Reads L i I bq ch) (hI : I.Nice) (hh : Holds h S) {ga bi : (p : ℕ) → p < 16 → Vec Ideal S1x128 .f32}
    (hga : ∀ s q u l, ga (4 * s.val + q.val) (pair_ok s q) (ix2 0 (lane u l)) = I.gain (col (hd q u) l))
    (hbi : ∀ s q u l, bi (4 * s.val + q.val) (pair_ok s q) (ix2 0 (lane u l)) = I.bias (col (hd q u) l))
    (s q : Fin 4) (t : Fin 64) (u : Fin 2) (l : Fin 64) :
    outAfter L i h ga bi (ix3 s t (col (hd q u) l)) = I.fin (bq s) (Inp.row (64 * ch.val + t.val))
      (fun x => (((dataOf I bq ch s q u).out t ((dataOf I bq ch s q u).scan (S s (hd q u)) (t.val + 1)) x : ℝ) : EReal)) (hd q u) l := by
  have hs := pair_ok s q
  have key : L.pieceY i (offs (4 * s.val + q.val)) (offs_ok _ hs) (h _ hs) (ga _ hs) (bi _ hs) (ix3 0 t (lane u l))
      = I.fin (bq s) (Inp.row (64 * ch.val + t.val))
      (fun x => (((dataOf I bq ch s q u).out t ((dataOf I bq ch s q u).scan (S s (hd q u)) (t.val + 1)) x : ℝ) : EReal)) (hd q u) l := by
    refine (tileBack_apply _ t _).trans ?_
    have hy := fun x => (isChunk R hI s q (offs_ok _ hs)).y (hh.tile s q) t u x
    have e : ∀ y lng lnb rkr v g : Tile, outFin y lng lnb rkr v g (ix2 t (lane u l)) =
      (outNorm y (ix2 t (lane u l)) * lng (ix2 t (lane u l)) + lnb (ix2 t (lane u l)) + perHead rkr (ix2 t (lane u l)) * v (ix2 t (lane u l)))
        * g (ix2 t (lane u l)) := fun _ _ _ _ _ _ => rfl
    rw [e, outNorm_apply _ t u l _ hy, rowsOf_apply, rowsOf_apply, hga, hbi, perHead_apply, cut_apply, cut_apply, R.v, R.g]
    simp only [cut_apply, R.rkr]
    rfl
  have e1 : (4 * s.val + (col (hd q u) l).val / 128) = 4 * s.val + q.val := by
    show 4 * s.val + ((2 * q.val + u.val) * 64 + l.val) / 128 = _
    omega
  have e2 : (col (hd q u) l).val % 128 = (lane u l).val := by
    show ((2 * q.val + u.val) * 64 + l.val) % 128 = 64 * u.val + l.val
    omega
  have go : ∀ (p : ℕ) (hp : p < 16) (z : Fin 128), p = 4 * s.val + q.val → z = lane u l →
      L.pieceY i (offs p) (offs_ok p hp) (h p hp) (ga p hp) (bi p hp) (ix3 0 t z)
        = L.pieceY i (offs (4 * s.val + q.val)) (offs_ok _ hs) (h _ hs) (ga _ hs) (bi _ hs) (ix3 0 t (lane u l)) := by
    intro p hp z e e'
    subst e e'
    rfl
  exact (go _ _ _ e1 (Fin.ext e2)).trans key

end Cert.Rw
-- ==== Proof.RwBlocks.lean ====
/-
  What a grid step of the recurrence's kernel loads: the arguments, padded with zeros, at the step's sequences and chunk.
-/
module

public import proofs.«01_k».proof.Proof.RwTiles
public import Idealize.ShloMosaic.Lib.StableHlo.ReadAt
public import Idealize.ShloMosaic.Lib.Pipeline.ReadBack

@[expose] public section

set_option maxRecDepth 16384

noncomputable section

namespace Cert.Rw

open Cert.KernelIdeal Cert.KernelIdeal.Gen Cert.KernelIdeal.Value Idealize.ShloMosaic Idealize.ShloMosaic.TcCoe Idealize.ShloMosaic.Tactic Idealize.SL.Sem

variable (m : (ℓ : Loc nD τ sig) → Buf (Elt Ideal) ℓ) (c : Dev nD)

/-- An argument of the launch, as an array. -/
abbrev arg (b : Ref sig .tc) : Buf (Elt Ideal) ((c : Thread nD τ).loc b) := m ((c : Thread nD τ).loc b)

/-- The kernel's arguments. -/
def kerInp : Inp where
  p b t n := (arg m c main_arg0 : FVec Ideal S8x4096x1824 .f32) (ix3 b t n)
  mu n := (arg m c main_arg1 : FVec Ideal S1824 .f32) (ix1 n)
  w0 n := (arg m c main_arg2 : FVec Ideal S512 .f32) (ix1 n)
  wdec x n := (arg m c main_arg3 : FVec Ideal S64x512 .f32) (ix2 x n)
  a0 n := (arg m c main_arg4 : FVec Ideal S512 .f32) (ix1 n)
  waaa x n := (arg m c main_arg5 : FVec Ideal S64x512 .f32) (ix2 x n)
  wgate x n := (arg m c main_arg6 : FVec Ideal S160x512 .f32) (ix2 x n)
  kk n := (arg m c main_arg7 : FVec Ideal S512 .f32) (ix1 n)
  ka n := (arg m c main_arg8 : FVec Ideal S512 .f32) (ix1 n)
  rk h j := (arg m c main_arg9 : FVec Ideal S8x64 .f32) (ix2 h j)
  gain n := (arg m c main_arg10 : FVec Ideal S512 .f32) (ix1 n)
  bias n := (arg m c main_arg11 : FVec Ideal S512 .f32) (ix1 n)

/-- The number the padding is made of. -/
theorem pad_zero : FloatOps.sitofp (F := Ideal) .f32 (0#32) = 0 := by
  show (((0#32 : BitVec 32).toInt : ℝ) : EReal) = 0
  simp

/-- The padded projection. -/
theorem V_p (b : Fin 8) (t : Fin 4096) (n : Fin 1920) :
    (V m c main_v0 : FVec Ideal S8x4096x1920 .f32) (ix3 b t n) = (kerInp m c).padP b t n := by
  unfold V
  simp only [hostOps0, hostOps0_1, hostOps0_2, hostOps0_3, hostOps0_4, hostOps0_5, hostOps0_6, List.flatten_cons, List.flatten_nil,
    List.append_nil, List.cons_append, List.nil_append]
  after_reads_at
  simp only [pad_zero]
  rfl

/-- The mix with the zeros that pad it. -/
def muPad (x : FVec Ideal S1824 .f32) : FVec Ideal S1x1920 .f32 :=
  shapeCast S1x1920 (concatenate S1920 0 [⟨S1664, extractStridedSlice S1664 ![0] x slices_S1824_S1664_0⟩,
    ⟨S256, pad S256 ![0] ![96] ![0] (extractStridedSlice S160 ![1664] x slices_S1824_S160_1664)
      (sitofp .f32 (constantI S_ 32 0#32) : FVec Ideal S_ .f32) pads_S160_S256_0960 h_S_⟩] concatenates_S1664_S256_S1920_d0) shapeCasts_S1920_S1x1920

/-- At an element. -/
theorem muPad_apply (x : FVec Ideal S1824 .f32) (n : Fin 1920) :
    muPad x (ix2 0 n) = if h : n.val < 1824 then x (ix1 ⟨n.val, h⟩) else 0 := by
  pointwise [muPad]
  simp only [pad_zero]
  by_cases h1 : n.val < 1664
  · rw [dif_pos h1, dif_pos (by omega)]
  · rw [dif_neg h1]
    by_cases h2 : n.val < 1824
    · rw [dif_pos (by omega), dif_pos h2]
      exact congrArg x (congrArg (fun a => (ix1 a : S1824.Idx)) (Fin.ext (by show 1664 + (n.val - 1664) = n.val; omega)))
    · rw [dif_neg (by omega), dif_neg h2]

/-- The padded mix. -/
theorem V_mu (n : Fin 1920) : (V m c main_v5 : FVec Ideal S1x1920 .f32) (ix2 0 n) = (kerInp m c).padMu n := by
  have hV : (V m c main_v5 : FVec Ideal S1x1920 .f32) = muPad (arg m c main_arg1) := by
    unfold V
    simp only [hostOps0, hostOps0_1, hostOps0_2, hostOps0_3, hostOps0_4, hostOps0_5, hostOps0_6, List.flatten_cons, List.flatten_nil,
      List.append_nil, List.cons_append, List.nil_append]
    after_results
    rfl
  rw [hV, muPad_apply]
  rfl

/-- The padded gate's matrix. -/
theorem V_gate (x : Fin 256) (n : Fin 512) : (V m c main_v7 : FVec Ideal S256x512 .bf16) (ix2 x n) = (kerInp m c).padGate x n := by
  unfold V
  simp only [hostOps0, hostOps0_1, hostOps0_2, hostOps0_3, hostOps0_4, hostOps0_5, hostOps0_6, List.flatten_cons, List.flatten_nil,
    List.append_nil, List.cons_append, List.nil_append]
  after_reads_at
  simp only [pad_zero]
  rfl

/-- The arrays that are not padded. -/
theorem V_rest (x : Fin 64) (n : Fin 512) (h : Fin 8) (j : Fin 64) :
    (V m c main_v8 : FVec Ideal S1x512 .f32) (ix2 0 n) = (kerInp m c).w0 n
    ∧ (V m c main_v9 : FVec Ideal S64x512 .bf16) (ix2 x n) = (kerInp m c).wdec x n
    ∧ (V m c main_v10 : FVec Ideal S1x512 .f32) (ix2 0 n) = (kerInp m c).a0 n
    ∧ (V m c main_v11 : FVec Ideal S64x512 .bf16) (ix2 x n) = (kerInp m c).waaa x n
    ∧ (V m c main_v12 : FVec Ideal S1x512 .f32) (ix2 0 n) = (kerInp m c).kk n
    ∧ (V m c main_v13 : FVec Ideal S1x512 .f32) (ix2 0 n) = (kerInp m c).ka n
    ∧ (V m c main_v14 : FVec Ideal S1x512 .f32) (ix2 0 (col h j)) = (kerInp m c).rk h j
    ∧ (V m c main_v15 : FVec Ideal S1x512 .f32) (ix2 0 n) = (kerInp m c).gain n
    ∧ (V m c main_v16 : FVec Ideal S1x512 .f32) (ix2 0 n) = (kerInp m c).bias n := by
  unfold V
  simp only [hostOps0, hostOps0_1, hostOps0_2, hostOps0_3, hostOps0_4, hostOps0_5, hostOps0_6, List.flatten_cons, List.flatten_nil,
    List.append_nil, List.cons_append, List.nil_append]
  refine ⟨?_, ?_, ?_, ?_, ?_, ?_, ?_, ?_, ?_⟩
  all_goals
    after_reads_at
    try rfl
  exact congrArg (arg m c main_arg9 : FVec Ideal S8x64 .f32) (congrArg₂ (fun a b => (ix2 a b : S8x64.Idx))
    (Fin.ext (by show (h.val * 64 + j.val) / 64 = h.val; omega)) (Fin.ext (by show (h.val * 64 + j.val) % 64 = j.val; omega)))

/-- Which blocks a grid step loads. -/
theorem index_facts : ∀ t : Fin grid0.N,
    ((grid0.coords t) 1).val = t.val % 64
    ∧ (win0_0.index t 0 = t.val / 64 ∧ win0_0.index t 1 = t.val % 64 ∧ win0_0.index t 2 = 0)
    ∧ (win0_1.index t 0 = t.val / 64 ∧ win0_1.index t 1 = 8 * (t.val % 64) - 1 ∧ win0_1.index t 2 = 0)
    ∧ (win0_2.index t 0 = 0 ∧ win0_2.index t 1 = 0) ∧ (win0_3.index t 0 = 0 ∧ win0_3.index t 1 = 0)
    ∧ (win0_4.index t 0 = 0 ∧ win0_4.index t 1 = 0) ∧ (win0_5.index t 0 = 0 ∧ win0_5.index t 1 = 0)
    ∧ (win0_6.index t 0 = 0 ∧ win0_6.index t 1 = 0) ∧ (win0_7.index t 0 = 0 ∧ win0_7.index t 1 = 0)
    ∧ (win0_8.index t 0 = 0 ∧ win0_8.index t 1 = 0) ∧ (win0_9.index t 0 = 0 ∧ win0_9.index t 1 = 0)
    ∧ (win0_10.index t 0 = 0 ∧ win0_10.index t 1 = 0) ∧ (win0_11.index t 0 = 0 ∧ win0_11.index t 1 = 0)
    ∧ (win0_12.index t 0 = 0 ∧ win0_12.index t 1 = 0) := by decide +kernel

/-- An element of a one-row array, at a row and a column that are sums. -/
theorem at_row {n k : ℕ} (i : (⟨2, ![n, k]⟩ : Shape).Idx) (a : Fin n) (b : Fin k) (h0 : (i 0).val = a.val) (h1 : (i 1).val = b.val) :
    i = ix2 a b := by
  funext x
  apply Fin.ext
  match x with
  | ⟨0, _⟩ => exact h0
  | ⟨1, _⟩ => exact h1

theorem at_rows {n k l : ℕ} (i : (⟨3, ![n, k, l]⟩ : Shape).Idx) (a : Fin n) (b : Fin k) (d : Fin l) (h0 : (i 0).val = a.val)
    (h1 : (i 1).val = b.val) (h2 : (i 2).val = d.val) : i = ix3 a b d := by
  funext x
  apply Fin.ext
  match x with
  | ⟨0, _⟩ => exact h0
  | ⟨1, _⟩ => exact h1
  | ⟨2, _⟩ => exact h2

/-- The points of the grid. -/
theorem pt_lt (t : Fin cfg0.N) : t.val < 128 := t.isLt

/-- The sequences of a grid step. -/
def seqs (t : Fin cfg0.N) (s : Fin 4) : Fin 8 := ⟨4 * (t.val / 64) + s.val, by have := pt_lt t; omega⟩

/-- The chunk of a grid step. -/
def chunk (t : Fin cfg0.N) : Fin 64 := ⟨t.val % 64, by omega⟩

/-- The projection's block. -/
theorem read_p (t : Fin cfg0.N) (s : Fin 4) (r : Fin 64) (n : Fin 1920) :
    (rawLds m c t).p (ix3 s r n) = (kerInp m c).padP (seqs t s) (Inp.row (64 * (chunk t).val + r.val)) n := by
  have h := (index_facts t).2.1
  rw [← V_p]
  show View.readAt (Elt Ideal) (ms0_0 t).view _ ((hs0_0 t).unread (iblk m c 0 t)) _ = _
  rw [View.readAt_eq_ld, (hs0_0 t).read_unread]
  exact congrArg (V m c main_v0 : FVec Ideal S8x4096x1920 .f32) (at_rows _ _ _ _
    (by show win0_0.index t 0 * 4 + 1 * (0 + 1 * s.val) = 4 * (t.val / 64) + s.val; rw [h.1]; omega)
    (by rw [Reads.row_val]; show win0_0.index t 1 * 64 + 1 * (0 + 1 * r.val) = 64 * (t.val % 64) + r.val; rw [h.2.1]; omega)
    (by show win0_0.index t 2 * 1920 + 1 * (0 + 1 * n.val) = n.val; rw [h.2.2]; omega))

/-- The row before the chunk, of one sequence. -/
theorem read_q (t : Fin cfg0.N) (ht : 0 < (chunk t).val) (s : Fin 4) (n : Fin 1920) (inb) :
    (View.readAt (Elt Ideal) (ms0_1 t).view (Rect.unit (s := S4x8x1920) ![s.val, 7, 0] S1x1x1920.size inb).toLoadRect
      ((hs0_1 t).unread (iblk m c 1 t)) : Vec Ideal S1x1x1920 .f32) (ix3 0 0 n)
      = (kerInp m c).padP (seqs t s) (Inp.row (64 * (chunk t).val - 1)) n := by
  have h := (index_facts t).2.2.1
  rw [← V_p, View.readAt_eq_ld, (hs0_1 t).read_unread]
  have ht : 0 < t.val % 64 := ht
  exact congrArg (V m c main_v0 : FVec Ideal S8x4096x1920 .f32) (at_rows _ _ _ _
    (by show win0_1.index t 0 * 4 + 1 * (s.val + 1 * 0) = 4 * (t.val / 64) + s.val; rw [h.1]; omega)
    (by show win0_1.index t 1 * 8 + 1 * (7 + 1 * 0) = (64 * (t.val % 64) - 1) % 4096; rw [h.2.1]; omega)
    (by show win0_1.index t 2 * 1920 + 1 * (0 + 1 * n.val) = n.val; rw [h.2.2]; omega))

set_option maxHeartbeats 1000000 in
/-- The blocks that are whole arrays. -/
theorem read_whole (t : Fin cfg0.N) :
    (∀ x n, (rawLds m c t).mu (ix2 x n) = (V m c main_v5 : FVec Ideal S1x1920 .f32) (ix2 x n))
    ∧ (∀ x n, (rawLds m c t).w0 (ix2 x n) = (V m c main_v8 : FVec Ideal S1x512 .f32) (ix2 x n))
    ∧ (∀ x n, (rawLds m c t).wdec (ix2 x n) = (V m c main_v9 : FVec Ideal S64x512 .bf16) (ix2 x n))
    ∧ (∀ x n, (rawLds m c t).a0 (ix2 x n) = (V m c main_v10 : FVec Ideal S1x512 .f32) (ix2 x n))
    ∧ (∀ x n, (rawLds m c t).waaa (ix2 x n) = (V m c main_v11 : FVec Ideal S64x512 .bf16) (ix2 x n))
    ∧ (∀ x n, (rawLds m c t).wgate (ix2 x n) = (V m c main_v7 : FVec Ideal S256x512 .bf16) (ix2 x n))
    ∧ (∀ x n, (rawLds m c t).kk (ix2 x n) = (V m c main_v12 : FVec Ideal S1x512 .f32) (ix2 x n))
    ∧ (∀ x n, (rawLds m c t).ka (ix2 x n) = (V m c main_v13 : FVec Ideal S1x512 .f32) (ix2 x n))
    ∧ (∀ x n, (rawLds m c t).rk (ix2 x n) = (V m c main_v14 : FVec Ideal S1x512 .f32) (ix2 x n)) := by
  obtain ⟨-, -, -, h2, h3, h4, h5, h6, h7, h8, h9, h10, -⟩ := index_facts t
  refine ⟨?_, ?_, ?_, ?_, ?_, ?_, ?_, ?_, ?_⟩ <;> intro x n
  · show View.readAt (Elt Ideal) (ms0_2 t).view _ ((hs0_2 t).unread (iblk m c 2 t)) _ = _
    rw [View.readAt_eq_ld, (hs0_2 t).read_unread]
    exact congrArg (V m c main_v5 : FVec Ideal S1x1920 .f32) (at_row _ _ _ (by show win0_2.index t 0 * 1 + 1 * (0 + 1 * x.val) = x.val; rw [h2.1]; omega)
      (by show win0_2.index t 1 * 1920 + 1 * (0 + 1 * n.val) = n.val; rw [h2.2]; omega))
  · show View.readAt (Elt Ideal) (ms0_3 t).view _ ((hs0_3 t).unread (iblk m c 3 t)) _ = _
    rw [View.readAt_eq_ld, (hs0_3 t).read_unread]
    exact congrArg (V m c main_v8 : FVec Ideal S1x512 .f32) (at_row _ _ _ (by show win0_3.index t 0 * 1 + 1 * (0 + 1 * x.val) = x.val; rw [h3.1]; omega)
      (by show win0_3.index t 1 * 512 + 1 * (0 + 1 * n.val) = n.val; rw [h3.2]; omega))
  · show View.readAt (Elt Ideal) (ms0_4 t).view _ ((hs0_4 t).unread (iblk m c 4 t)) _ = _
    rw [View.readAt_eq_ld, (hs0_4 t).read_unread]
    exact congrArg (V m c main_v9 : FVec Ideal S64x512 .bf16) (at_row _ _ _ (by show win0_4.index t 0 * 64 + 1 * (0 + 1 * x.val) = x.val; rw [h4.1]; omega)
      (by show win0_4.index t 1 * 512 + 1 * (0 + 1 * n.val) = n.val; rw [h4.2]; omega))
  · show View.readAt (Elt Ideal) (ms0_5 t).view _ ((hs0_5 t).unread (iblk m c 5 t)) _ = _
    rw [View.readAt_eq_ld, (hs0_5 t).read_unread]
    exact congrArg (V m c main_v10 : FVec Ideal S1x512 .f32) (at_row _ _ _ (by show win0_5.index t 0 * 1 + 1 * (0 + 1 * x.val) = x.val; rw [h5.1]; omega)
      (by show win0_5.index t 1 * 512 + 1 * (0 + 1 * n.val) = n.val; rw [h5.2]; omega))
  · show View.readAt (Elt Ideal) (ms0_6 t).view _ ((hs0_6 t).unread (iblk m c 6 t)) _ = _
    rw [View.readAt_eq_ld, (hs0_6 t).read_unread]
    exact congrArg (V m c main_v11 : FVec Ideal S64x512 .bf16) (at_row _ _ _ (by show win0_6.index t 0 * 64 + 1 * (0 + 1 * x.val) = x.val; rw [h6.1]; omega)
      (by show win0_6.index t 1 * 512 + 1 * (0 + 1 * n.val) = n.val; rw [h6.2]; omega))
  · show View.readAt (Elt Ideal) (ms0_7 t).view _ ((hs0_7 t).unread (iblk m c 7 t)) _ = _
    rw [View.readAt_eq_ld, (hs0_7 t).read_unread]
    exact congrArg (V m c main_v7 : FVec Ideal S256x512 .bf16) (at_row _ _ _ (by show win0_7.index t 0 * 256 + 1 * (0 + 1 * x.val) = x.val; rw [h7.1]; omega)
      (by show win0_7.index t 1 * 512 + 1 * (0 + 1 * n.val) = n.val; rw [h7.2]; omega))
  · show View.readAt (Elt Ideal) (ms0_8 t).view _ ((hs0_8 t).unread (iblk m c 8 t)) _ = _
    rw [View.readAt_eq_ld, (hs0_8 t).read_unread]
    exact congrArg (V m c main_v12 : FVec Ideal S1x512 .f32) (at_row _ _ _ (by show win0_8.index t 0 * 1 + 1 * (0 + 1 * x.val) = x.val; rw [h8.1]; omega)
      (by show win0_8.index t 1 * 512 + 1 * (0 + 1 * n.val) = n.val; rw [h8.2]; omega))
  · show View.readAt (Elt Ideal) (ms0_9 t).view _ ((hs0_9 t).unread (iblk m c 9 t)) _ = _
    rw [View.readAt_eq_ld, (hs0_9 t).read_unread]
    exact congrArg (V m c main_v13 : FVec Ideal S1x512 .f32) (at_row _ _ _ (by show win0_9.index t 0 * 1 + 1 * (0 + 1 * x.val) = x.val; rw [h9.1]; omega)
      (by show win0_9.index t 1 * 512 + 1 * (0 + 1 * n.val) = n.val; rw [h9.2]; omega))
  · show View.readAt (Elt Ideal) (ms0_10 t).view _ ((hs0_10 t).unread (iblk m c 10 t)) _ = _
    rw [View.readAt_eq_ld, (hs0_10 t).read_unread]
    exact congrArg (V m c main_v14 : FVec Ideal S1x512 .f32) (at_row _ _ _ (by show win0_10.index t 0 * 1 + 1 * (0 + 1 * x.val) = x.val; rw [h10.1]; omega)
      (by show win0_10.index t 1 * 512 + 1 * (0 + 1 * n.val) = n.val; rw [h10.2]; omega))

/-- A grid step's blocks hold the arguments. -/
theorem reads (t : Fin cfg0.N) : Reads (rawLds m c t) (grid0.coords t) (kerInp m c) (seqs t) (chunk t) := by
  obtain ⟨r2, r3, r4, r5, r6, r7, r8, r9, r10⟩ := read_whole m c t
  have v := V_rest m c
  exact {
    no := (index_facts t).1
    p := read_p m c t
    q0 := fun h n => read_q m c t h 0 n _
    q1 := fun h n => read_q m c t h 1 n _
    q2 := fun h n => read_q m c t h 2 n _
    q3 := fun h n => read_q m c t h 3 n _
    mu := fun n => (r2 0 n).trans (V_mu m c n)
    w0 := fun n => (r3 0 n).trans (v 0 n 0 0).1
    wdec := fun x n => (r4 x n).trans (v x n 0 0).2.1
    a0 := fun n => (r5 0 n).trans (v 0 n 0 0).2.2.1
    waaa := fun x n => (r6 x n).trans (v x n 0 0).2.2.2.1
    wgate := fun x n => (r7 x n).trans (V_gate m c x n)
    kk := fun n => (r8 0 n).trans (v 0 n 0 0).2.2.2.2.1
    ka := fun n => (r9 0 n).trans (v 0 n 0 0).2.2.2.2.2.1
    rk := fun h j => (r10 0 _).trans (v 0 0 h j).2.2.2.2.2.2.1 }

/-- A stretch of the gain. -/
theorem read_gain (t : Fin cfg0.N) (s q : Fin 4) (u : Fin 2) (l : Fin 64) :
    rawGain m c t (4 * s.val + q.val) (pair_ok s q) (ix2 0 (lane u l)) = (kerInp m c).gain (col (hd q u) l) := by
  have h := (index_facts t).2.2.2.2.2.2.2.2.2.2.2.2.1
  refine Eq.trans ?_ (V_rest m c 0 (col (hd q u) l) 0 0).2.2.2.2.2.2.2.1
  unfold rawGain
  rw [View.readAt_eq_ld, (hs0_11 t).read_unread]
  exact congrArg (V m c main_v15 : FVec Ideal S1x512 .f32) (at_row _ _ _ (by show win0_11.index t 0 * 1 + 1 * (0 + 1 * 0) = 0; rw [h.1])
    (by show win0_11.index t 1 * 512 + 1 * (128 * ((4 * s.val + q.val) % 4) + 1 * (64 * u.val + l.val)) = (2 * q.val + u.val) * 64 + l.val; rw [h.2]; omega))

/-- A stretch of the bias. -/
theorem read_bias (t : Fin cfg0.N) (s q : Fin 4) (u : Fin 2) (l : Fin 64) :
    rawBias m c t (4 * s.val + q.val) (pair_ok s q) (ix2 0 (lane u l)) = (kerInp m c).bias (col (hd q u) l) := by
  have h := (index_facts t).2.2.2.2.2.2.2.2.2.2.2.2.2
  refine Eq.trans ?_ (V_rest m c 0 (col (hd q u) l) 0 0).2.2.2.2.2.2.2.2
  unfold rawBias
  rw [View.readAt_eq_ld, (hs0_12 t).read_unread]
  exact congrArg (V m c main_v16 : FVec Ideal S1x512 .f32) (at_row _ _ _ (by show win0_12.index t 0 * 1 + 1 * (0 + 1 * 0) = 0; rw [h.1])
    (by show win0_12.index t 1 * 512 + 1 * (128 * ((4 * s.val + q.val) % 4) + 1 * (64 * u.val + l.val)) = (2 * q.val + u.val) * 64 + l.val; rw [h.2]; omega))

/-- A sequence's state starts from zero. -/
theorem holds_zero : Holds rawZ fun _ _ _ _ => 0 := by
  intro s q j u l
  unfold rawZ kernelRun0_A.sl.HS0_1
  rw [View.readCov_fill _ _ _ _ _ (by decide)]
  show Ideal.ofBits .f32 0x00000000#32 = _
  simp [Ideal.ofBits, Ideal.ieee]

/-- A state the scratch holds, read by the next step. -/
theorem holds_raw (X : Vec Ideal S16x64x128 .f32) (S : Fin 4 → Fin 8 → Fin 64 → Fin 64 → ℝ)
    (hX : ∀ (s q : Fin 4) j u l, X (ix3 ⟨4 * s.val + q.val, pair_ok s q⟩ j (lane u l)) = ((S s (hd q u) l j : ℝ) : EReal)) :
    Holds (rawH X) S := by
  intro s q j u l
  refine Eq.trans ?_ (hX s q j u l)
  unfold rawH
  rw [View.readAt_eq_ld, (Memref.isWhole_whole _).read_unread]
  exact congrArg X (at_rows _ _ _ _ (by show 4 * s.val + q.val + 1 * 0 = 4 * s.val + q.val; omega)
    (by show 0 + 1 * j.val = j.val; omega) (by show 0 + 1 * (lane u l).val = (lane u l).val; omega))

end Cert.Rw
-- ==== Proof.RwFold.lean ====
/-
  The grid steps of a group of four sequences, one after another: the state's tiles hold the heads' scans, and the array of the
  results is the reference's at every element.
-/
module

public import proofs.«01_k».proof.Proof.RwBlocks

@[expose] public section

set_option maxRecDepth 16384

noncomputable section

namespace Cert.Rw

open Cert.KernelIdeal Cert.KernelIdeal.Gen Cert.KernelIdeal.Value Idealize.ShloMosaic Idealize.ShloMosaic.TcCoe Idealize.ShloMosaic.Tactic Idealize.SL.Sem

variable (m : (ℓ : Loc nD τ sig) → Buf (Elt Ideal) ℓ) (c : Dev nD)

/-- The state of a head of a group's sequence once `n` rows are scanned. -/
def scanned (t : Fin cfg0.N) (n : ℕ) (s : Fin 4) (h : Fin 8) : Fin 64 → Fin 64 → ℝ :=
  ((kerInp m c).head (seqs t s) h).scan (fun _ _ => 0) n

/-- What a grid step leaves. -/
def Done (t : Fin cfg0.N) (acc : Vec Ideal S4x64x512 .f32 × Vec Ideal S16x64x128 .f32) : Prop :=
  (∀ (s q : Fin 4) j u l, acc.2 (ix3 ⟨4 * s.val + q.val, pair_ok s q⟩ j (lane u l))
    = ((scanned m c t (64 * (chunk t).val + 64) s (hd q u) l j : ℝ) : EReal))
  ∧ ∀ (s q : Fin 4) (r : Fin 64) u l, acc.1 (ix3 s r (col (hd q u) l))
    = (kerInp m c).fin (seqs t s) (Inp.row (64 * (chunk t).val + r.val))
        ((kerInp m c).y (seqs t s) (Inp.row (64 * (chunk t).val + r.val)) (hd q u)) (hd q u) l

variable {m c}

/-- A step whose state's tiles hold the scans up to its chunk leaves what it should. -/
theorem done_of (hI : (kerInp m c).Nice) (t : Fin cfg0.N) {h : (p : ℕ) → p < 16 → Vec Ideal S1x64x128 .f32}
    (hh : Holds h (scanned m c t (64 * (chunk t).val))) :
    Done m c t (outAfter (rawLds m c t) (grid0.coords t) h (rawGain m c t) (rawBias m c t), stateAfter (rawLds m c t) (grid0.coords t) h) := by
  refine ⟨fun s q j u l => ?_, fun s q r u l => ?_⟩
  · refine (stateAfter_scan (reads m c t) hI hh s q j u l).trans ?_
    unfold scanned dataOf
    rw [Head.scan_add]
  · refine (outAfter_fin (reads m c t) hI hh (read_gain m c t) (read_bias m c t) s q r u l).trans ?_
    unfold scanned dataOf Inp.y
    simp only [← Head.scan_add, Reads.row_val]
    rfl

/-- A group's first step does. -/
theorem done_first (hI : (kerInp m c).Nice) (t : Fin cfg0.N) (h0 : t.val % 64 = 0) (acc : Vec Ideal S4x64x512 .f32 × Vec Ideal S16x64x128 .f32) :
    Done m c t (stAt0 m c t.val t.isLt acc) := by
  have hc : (chunk t).val = 0 := h0
  rw [← Prod.mk.eta (p := stAt0 m c t.val t.isLt acc), state_first m c t h0 acc, out_first m c t h0 acc]
  exact done_of hI t (h := rawZ) (by rw [hc]; exact holds_zero)

/-- A later step does, from the scans its group's steps before it leave. -/
theorem done_later (hI : (kerInp m c).Nice) (t : Fin cfg0.N) (h0 : ¬ t.val % 64 = 0) (acc : Vec Ideal S4x64x512 .f32 × Vec Ideal S16x64x128 .f32)
    (h : ∀ (s q : Fin 4) j u l, acc.2 (ix3 ⟨4 * s.val + q.val, pair_ok s q⟩ j (lane u l))
      = ((scanned m c t (64 * (chunk t).val) s (hd q u) l j : ℝ) : EReal)) :
    Done m c t (stAt0 m c t.val t.isLt acc) := by
  rw [← Prod.mk.eta (p := stAt0 m c t.val t.isLt acc), state_later m c t h0 acc, out_later m c t h0 acc]
  exact done_of hI t (h := rawH acc.2) (holds_raw _ _ h)

/-- The scans a step starts from are those the step before it left. -/
theorem scanned_succ (n : ℕ) (hn : n + 1 < cfg0.N) (h0 : ¬ (n + 1) % 64 = 0) :
    scanned m c ⟨n + 1, hn⟩ (64 * (chunk (⟨n + 1, hn⟩ : Fin cfg0.N)).val)
      = scanned m c ⟨n, Nat.lt_of_succ_lt hn⟩ (64 * (chunk (⟨n, Nat.lt_of_succ_lt hn⟩ : Fin cfg0.N)).val + 64) := by
  have hs : seqs (⟨n + 1, hn⟩ : Fin cfg0.N) = seqs (⟨n, Nat.lt_of_succ_lt hn⟩ : Fin cfg0.N) := by
    funext s
    apply Fin.ext
    show 4 * ((n + 1) / 64) + s.val = 4 * (n / 64) + s.val
    omega
  have hc : 64 * (chunk (⟨n + 1, hn⟩ : Fin cfg0.N)).val = 64 * (chunk (⟨n, Nat.lt_of_succ_lt hn⟩ : Fin cfg0.N)).val + 64 := by
    show 64 * ((n + 1) % 64) = 64 * (n % 64) + 64
    omega
  unfold scanned
  rw [hs, hc]

/-- Every grid step does. -/
theorem done (hI : (kerInp m c).Nice) (n : ℕ) : ∀ hn : n < cfg0.N, Done m c ⟨n, hn⟩ (outsAt0 m c n hn) := by
  induction n with
  | zero =>
    intro hn
    rw [outsAt0_zero]
    exact done_first hI ⟨0, hn⟩ rfl junk0
  | succ n ih =>
    intro hn
    rw [outsAt0_succ]
    by_cases h0 : (n + 1) % 64 = 0
    · exact done_first hI ⟨n + 1, hn⟩ h0 _
    · refine done_later hI ⟨n + 1, hn⟩ h0 _ ?_
      rw [scanned_succ n hn h0]
      exact (ih (Nat.lt_of_succ_lt hn)).1

/-- The array of the results at an element. -/
theorem ker_at (hI : (kerInp m c).Nice) (b : Fin 8) (t : Fin 4096) (h : Fin 8) (j : Fin 64) :
    (G13 m c : FVec Ideal S8x4096x512 .f32) (ix3 b t (col h j)) = (kerInp m c).fin b t ((kerInp m c).y b t h) h j := by
  have hr : run13Of (ix3 b t (col h j)) = 64 * (b.val / 4) + t.val / 64 := by
    show 64 * (b.val / 4 - 0) + 1 * (t.val / 64 - 0) + 1 * ((h.val * 64 + j.val) / 512 - 0) = _
    omega
  have hlt : pt13Of (ix3 b t (col h j)) < cfg0.N := by
    show run13Of (ix3 b t (col h j)) < 128
    rw [hr]
    omega
  have hl : loc13Of (ix3 b t (col h j)) = ix3 ⟨b.val % 4, by omega⟩ ⟨t.val % 64, by omega⟩ (col (hd ⟨h.val / 2, by omega⟩ ⟨h.val % 2, by omega⟩) j) :=
    at_rows _ _ _ _ (by show b.val % 4 = _; rfl) (by show t.val % 64 = _; rfl)
      (by show (h.val * 64 + j.val) % 512 = (2 * (h.val / 2) + h.val % 2) * 64 + j.val; omega)
  unfold G13
  rw [dif_pos hlt, ← outsAt0_sweep, hl]
  refine ((done hI _ hlt).2 _ _ _ _ _).trans ?_
  have eb : seqs ⟨pt13Of (ix3 b t (col h j)), hlt⟩ ⟨b.val % 4, by omega⟩ = b := by
    apply Fin.ext
    show 4 * (run13Of (ix3 b t (col h j)) / 64) + b.val % 4 = b.val
    rw [hr]
    omega
  have et : Inp.row (64 * (chunk ⟨pt13Of (ix3 b t (col h j)), hlt⟩).val + t.val % 64) = t := by
    apply Fin.ext
    show (64 * (run13Of (ix3 b t (col h j)) % 64) + t.val % 64) % 4096 = t.val
    rw [hr]
    omega
  have eh : hd ⟨h.val / 2, by omega⟩ ⟨h.val % 2, by omega⟩ = h := Fin.ext (by show 2 * (h.val / 2) + h.val % 2 = h.val; omega)
  rw [eb, et, eh]

end Cert.Rw
-- ==== Proof.RwLoop.lean ====
/-
  The reference's loop over the rows: one trip at an element, and what the state and the outputs are after any number of
  trips.
-/
module

public import proofs.«01_k».proof.Defs
public import proofs.«01_k».proof.Proof.Gen.ReferenceIdeal.Run
public import proofs.«01_k».proof.Proof.RwReal
public import Idealize.ShloMosaic.Lib.Tactic
public import Idealize.ShloMosaic.Lib.Pointwise
public import Idealize.ShloMosaic.Lib.DynamicIndex
public import Idealize.ShloMosaic.Lib.StableHlo.ReadAt

@[expose] public section

set_option maxRecDepth 16384

noncomputable section

namespace Cert.Rw

open Idealize Idealize.ShloMosaic Idealize.ShloMosaic.StableHlo Idealize.ShloMosaic.Tactic
open Cert.ReferenceIdeal Cert.ReferenceIdeal.Value
set_option maxRecDepth 20000

/-- The words a trip of the reference's loop starts its slices at, at trip `k`. -/
theorem starts (c6 : (⟨S_, .i32⟩ : BufTy).Contents (Elt Ideal)) (k : ℕ) (hk : k < 4096)
    (h6 : c6 = fun _ => BitVec.ofNat 32 k) (a : Fin 4) :
    BitVec.toInt ((![c6, constantI S_ 32 0#32, constantI S_ 32 0#32, constantI S_ 32 0#32] :
        Fin 4 → (⟨S_, .i32⟩ : BufTy).Contents (Elt Ideal)) a (Shape.Idx.first Gen.h_S_))
      = (((![k, 0, 0, 0] : Fin 4 → ℕ) a : ℕ) : ℤ) := by
  subst h6
  fin_cases a
  · show BitVec.toInt (BitVec.ofNat 32 k) = (k : ℤ)
    rw [BitVec.toInt_eq_toNat_of_lt] <;> simp only [BitVec.toNat_ofNat] <;> omega
  all_goals rfl

/-- The row a trip slices out of an array over the rows. -/
theorem row_eq (X : FVec Ideal S4096x8x8x64 .f32) (st : Fin 4 → ℤ) (k : Fin 4096)
    (hst : ∀ a, st a = (((![k.val, 0, 0, 0] : Fin 4 → ℕ) a : ℕ) : ℤ)) :
    shapeCast S8x8x64 (Host.dynamicSlice S1x8x8x64 X st Gen.sliceFits_S4096x8x8x64_S1x8x8x64)
        Gen.shapeCasts_S1x8x8x64_S8x8x64
      = fun q => X (ix4 k (q 0) (q 1) (q 2)) := by
  rw [Host.dynamicSlice_eq_extractStridedSlice S1x8x8x64 X st ![k.val, 0, 0, 0] _
    ⟨rfl, fun a => by have := k.isLt; fin_cases a <;> simp <;> omega⟩ hst]
  funext q
  have hq : q = ix3 (q 0) (q 1) (q 2) := by funext a; fin_cases a <;> rfl
  rw [hq]
  pointwise

/-- The arrays of the reference's loop: rows, sequences, heads, lanes. -/
abbrev Rows := FVec Ideal S4096x8x8x64 .f32

/-- The words a trip's slice starts at. -/
abbrev startOf (c6 : (⟨S_, .i32⟩ : BufTy).Contents (Elt Ideal)) : Fin 4 → ℤ := fun q =>
  BitVec.toInt ((![c6, constantI S_ 32 0#32, constantI S_ 32 0#32, constantI S_ 32 0#32] :
        Fin 4 → (⟨S_, .i32⟩ : BufTy).Contents (Elt Ideal)) q (Shape.Idx.first Gen.h_S_))

/-- The row that a trip slices out of an array. -/
abbrev rowAt (X : Rows) (c6 : (⟨S_, .i32⟩ : BufTy).Contents (Elt Ideal)) : FVec Ideal S8x8x64 .f32 :=
  shapeCast S8x8x64 (Host.dynamicSlice S1x8x8x64 X (startOf c6) Gen.sliceFits_S4096x8x8x64_S1x8x8x64)
        Gen.shapeCasts_S1x8x8x64_S8x8x64

/-- A row over the key columns, for every value column. -/
abbrev down (x : FVec Ideal S8x8x64 .f32) : FVec Ideal S8x8x64x64 .f32 :=
  broadcastInDim S8x8x64x64 ![0, 1, 2, 3] Gen.bcast_S8x8x1x64_S8x8x64x64_0_1_2_3
    (broadcastInDim S8x8x1x64 ![0, 1, 3] Gen.bcast_S8x8x64_S8x8x1x64_0_1_3 x)

/-- A row over the value columns, for every key column. -/
abbrev along (x : FVec Ideal S8x8x64 .f32) : FVec Ideal S8x8x64x64 .f32 :=
  broadcastInDim S8x8x64x64 ![0, 1, 2, 3] Gen.bcast_S8x8x64x1_S8x8x64x64_0_1_2_3
    (broadcastInDim S8x8x64x1 ![0, 1, 2] Gen.bcast_S8x8x64_S8x8x64x1_0_1_2 x)

/-- A state against a row over the key columns. -/
abbrev against (S : FVec Ideal S8x8x64x64 .f32) (x : FVec Ideal S8x8x64 .f32) : FVec Ideal S8x8x64 .f32 :=
  Host.dotGeneral dot_S8x8x64x64_S8x8x64_S8x8x64_3_2_2_n_01_01 none S x

/-- One trip's state. -/
def tripS (S : FVec Ideal S8x8x64x64 .f32) (w k v a b : Rows) (c6 : (⟨S_, .i32⟩ : BufTy).Contents (Elt Ideal)) :
    FVec Ideal S8x8x64x64 .f32 :=
  addf (addf (mulf S (down (rowAt w c6))) (mulf (along (against S (rowAt a c6))) (down (rowAt b c6))))
    (mulf (along (rowAt v c6)) (down (rowAt k c6)))

/-- One trip's outputs: the new row written. -/
def tripY (Y : Rows) (S : FVec Ideal S8x8x64x64 .f32) (r : Rows) (c6 : (⟨S_, .i32⟩ : BufTy).Contents (Elt Ideal)) : Rows :=
  Host.dynamicUpdateSlice Y (broadcastInDim S1x8x8x64 ![1, 2, 3] Gen.bcast_S8x8x64_S1x8x8x64_1_2_3
    (against S (rowAt r c6))) (startOf c6) Gen.updateFits_S4096x8x8x64_S1x8x8x64

/-- The printed trip's state is the one above. -/
theorem step7_eq (V : Valuation τ sig (Elt Ideal)) :
    step_main_v75_7 V = tripS (V (Proc.devRef .tc main_v75_7)) (V (Proc.devRef .tc main_v75_1))
      (V (Proc.devRef .tc main_v75_2)) (V (Proc.devRef .tc main_v75_3)) (V (Proc.devRef .tc main_v75_4))
      (V (Proc.devRef .tc main_v75_5)) (V (Proc.devRef .tc main_v75_6)) := by sl_kernel_rfl

/-- The printed trip's outputs are the ones above. -/
theorem step8_eq (V : Valuation τ sig (Elt Ideal)) :
    step_main_v75_8 V = tripY (V (Proc.devRef .tc main_v75_8)) (step_main_v75_7 V) (V (Proc.devRef .tc main_v75_0))
      (V (Proc.devRef .tc main_v75_6)) := by sl_kernel_rfl

/-- A trip's state at an element. -/
theorem tripS_apply (S : FVec Ideal S8x8x64x64 .f32) (w k v a b : Rows) (n : Fin 4096)
    (s h : Fin 8) (i j : Fin 64) :
    tripS S w k v a b (fun _ => BitVec.ofNat 32 n.val) (ix4 s h i j)
      = S (ix4 s h i j) * w (ix4 n s h j) + (∑ x, S (ix4 s h i x) * a (ix4 n s h x)) * b (ix4 n s h j)
        + v (ix4 n s h i) * k (ix4 n s h j) := by
  unfold tripS
  simp only [rowAt, row_eq _ _ n (starts _ n.val n.isLt rfl)]
  unfold down along against
  pointwise

/-- A trip's outputs at an element. -/
theorem tripY_apply (Y : Rows) (S : FVec Ideal S8x8x64x64 .f32) (r : Rows) (n t : Fin 4096) (s h : Fin 8) (i : Fin 64) :
    tripY Y S r (fun _ => BitVec.ofNat 32 n.val) (ix4 t s h i)
      = if t = n then ∑ x, S (ix4 s h i x) * r (ix4 n s h x) else Y (ix4 t s h i) := by
  unfold tripY
  simp only [rowAt, row_eq _ _ n (starts _ n.val n.isLt rfl)]
  rw [Host.dynamicUpdateSlice_apply]
  have hc := fun a => Host.clampedStart_of_le (s := S4096x8x8x64) (t := S1x8x8x64) rfl
    (startOf fun _ => BitVec.ofNat 32 n.val) a _ (starts _ n.val n.isLt rfl a)
     (by have := n.isLt; fin_cases a <;> simp <;> omega)
  by_cases e : t = n
  · subst e
    rw [dif_pos, if_pos rfl]
    · unfold against
      pointwise
      have h1 := hc 1
      have h2 := hc 2
      have h3 := hc 3
      change _ = 0 at h1 h2 h3
      simp only [h1, h2, h3, Nat.sub_zero, Fin.eta]
    · intro a
      rw [hc]
      have := s.isLt
      have := h.isLt
      have := i.isLt
      fin_cases a <;> simp <;> omega
  · rw [dif_neg, if_neg e]
    intro hin
    have := hin 0
    rw [hc] at this
    simp at this
    exact e (Fin.ext (by omega))

/-- The loop's arrays stand for the heads `D`, one for each sequence and head. -/
structure Carries (V : Valuation τ sig (Elt Ideal)) (D : Fin 8 → Fin 8 → Head) : Prop where
  r : ∀ (t : Fin 4096) (s h : Fin 8) (j : Fin 64), (V (Proc.devRef .tc main_v75_0) : Rows) (ix4 t s h j) = (((D s h).r t j : ℝ) : EReal)
  w : ∀ (t : Fin 4096) (s h : Fin 8) (j : Fin 64), (V (Proc.devRef .tc main_v75_1) : Rows) (ix4 t s h j) = ((Real.exp ((D s h).lw t j) : ℝ) : EReal)
  k : ∀ (t : Fin 4096) (s h : Fin 8) (j : Fin 64), (V (Proc.devRef .tc main_v75_2) : Rows) (ix4 t s h j) = (((D s h).k t j : ℝ) : EReal)
  v : ∀ (t : Fin 4096) (s h : Fin 8) (j : Fin 64), (V (Proc.devRef .tc main_v75_3) : Rows) (ix4 t s h j) = (((D s h).v t j : ℝ) : EReal)
  a : ∀ (t : Fin 4096) (s h : Fin 8) (j : Fin 64), (V (Proc.devRef .tc main_v75_4) : Rows) (ix4 t s h j) = (((D s h).a t j : ℝ) : EReal)
  b : ∀ (t : Fin 4096) (s h : Fin 8) (j : Fin 64), (V (Proc.devRef .tc main_v75_5) : Rows) (ix4 t s h j) = (((D s h).b t j : ℝ) : EReal)

/-- Where the loop stands after `n` trips. -/
structure Stands (V : Valuation τ sig (Elt Ideal)) (D : Fin 8 → Fin 8 → Head) (n : ℕ) : Prop where
  carries : Carries V D
  trip : V (Proc.devRef .tc main_v75_6) = fun _ => BitVec.ofNat 32 n
  state : ∀ (s h : Fin 8) (i j : Fin 64), (V (Proc.devRef .tc main_v75_7) : FVec Ideal S8x8x64x64 .f32) (ix4 s h i j)
    = (((D s h).scan (fun _ _ => 0) n i j : ℝ) : EReal)
  outs : ∀ (t : Fin 4096) (s h : Fin 8) (i : Fin 64), t.val < n →
    (V (Proc.devRef .tc main_v75_8) : Rows) (ix4 t s h i)
      = (((D s h).out t ((D s h).scan (fun _ _ => 0) (t + 1)) i : ℝ) : EReal)

/-- One trip on. -/
theorem Stands.step {V : Valuation τ sig (Elt Ideal)} {D : Fin 8 → Fin 8 → Head} {n : ℕ} (hn : n < 4096)
    (H : Stands V D n) : Stands (STEP V) D (n + 1) := by
  have hS : ∀ (s h : Fin 8) (i j : Fin 64), (step_main_v75_7 V : FVec Ideal S8x8x64x64 .f32) (ix4 s h i j)
      = (((D s h).scan (fun _ _ => 0) (n + 1) i j : ℝ) : EReal) := by
    intro s h i j
    rw [step7_eq, H.trip]
    refine (tripS_apply _ _ _ _ _ _ ⟨n, hn⟩ s h i j).trans ?_
    simp only [H.state, H.carries.w, H.carries.k, H.carries.v, H.carries.a, H.carries.b, ← EReal.coe_mul, ← coe_sum,
      ← EReal.coe_add]
    rfl
  refine ⟨⟨?_, ?_, ?_, ?_, ?_, ?_⟩, ?_, ?_, ?_⟩
  · rw [STEP_main_v75_0]; exact H.carries.r
  · rw [STEP_main_v75_1]; exact H.carries.w
  · rw [STEP_main_v75_2]; exact H.carries.k
  · rw [STEP_main_v75_3]; exact H.carries.v
  · rw [STEP_main_v75_4]; exact H.carries.a
  · rw [STEP_main_v75_5]; exact H.carries.b
  · rw [STEP_main_v75_6]
    unfold step_main_v75_6
    rw [H.trip]
    funext _
    exact (BitVec.ofNat_add n 1).symm
  · rw [STEP_main_v75_7]; exact hS
  · rw [STEP_main_v75_8]
    intro t s h i ht
    rw [step8_eq, H.trip]
    refine (tripY_apply _ _ _ ⟨n, hn⟩ t s h i).trans ?_
    by_cases e : t = ⟨n, hn⟩
    · rw [if_pos e, e]
      simp only [hS, H.carries.r, ← EReal.coe_mul, ← coe_sum]
      rfl
    · rw [if_neg e]
      exact H.outs t s h i (by
        have : t.val ≠ n := fun h => e (Fin.ext h)
        omega)

/-- Where the loop stands after all its trips. -/
theorem Stands.iterate {V : Valuation τ sig (Elt Ideal)} {D : Fin 8 → Fin 8 → Head} (H : Stands V D 0) :
    ∀ n, n ≤ 4096 → Stands (STEP^[n] V) D n
  | 0, _ => H
  | n + 1, hn => by
    rw [Function.iterate_succ_apply']
    exact (H.iterate n (by omega)).step (by omega)

end Cert.Rw
-- ==== Proof.RwRead.lean ====
/-
  The arrays that the reference's loop starts from, at an element, and the reference's result from its outputs.
-/
module

public import proofs.«01_k».proof.Defs
public import proofs.«01_k».proof.Proof.RwLoop
public import proofs.«01_k».proof.Proof.RwSpec
public import proofs.«01_k».proof.Proof.RwFrame
public import Idealize.ShloMosaic.Lib.StableHlo.ReadAt

@[expose] public section

set_option maxRecDepth 16384

noncomputable section

namespace Cert.Rw

open Idealize Idealize.ShloMosaic Idealize.ShloMosaic.StableHlo Idealize.ShloMosaic.Tactic
open Cert.ReferenceIdeal Cert.ReferenceIdeal.Value

variable (m : (ℓ : Loc nD τ sig) → Buf (Elt Ideal) ℓ) (c : Dev nD)
set_option maxHeartbeats 2000000

/-- The arguments of the reference's call. -/
def refInp : Inp where
  p b t n := (launchContents m c (Proc.devRef .tc main_arg0) : FVec Ideal S8x4096x1824 .f32) (ix3 b t n)
  mu n := (launchContents m c (Proc.devRef .tc main_arg1) : FVec Ideal S1824 .f32) (ix1 n)
  w0 n := (launchContents m c (Proc.devRef .tc main_arg2) : FVec Ideal S512 .f32) (ix1 n)
  wdec x n := (launchContents m c (Proc.devRef .tc main_arg3) : FVec Ideal S64x512 .f32) (ix2 x n)
  a0 n := (launchContents m c (Proc.devRef .tc main_arg4) : FVec Ideal S512 .f32) (ix1 n)
  waaa x n := (launchContents m c (Proc.devRef .tc main_arg5) : FVec Ideal S64x512 .f32) (ix2 x n)
  wgate x n := (launchContents m c (Proc.devRef .tc main_arg6) : FVec Ideal S160x512 .f32) (ix2 x n)
  kk n := (launchContents m c (Proc.devRef .tc main_arg7) : FVec Ideal S512 .f32) (ix1 n)
  ka n := (launchContents m c (Proc.devRef .tc main_arg8) : FVec Ideal S512 .f32) (ix1 n)
  rk h j := (launchContents m c (Proc.devRef .tc main_arg9) : FVec Ideal S8x64 .f32) (ix2 h j)
  gain n := (launchContents m c (Proc.devRef .tc main_arg10) : FVec Ideal S512 .f32) (ix1 n)
  bias n := (launchContents m c (Proc.devRef .tc main_arg11) : FVec Ideal S512 .f32) (ix1 n)

/-- Rows first: the transposed array at an element. -/
theorem tr (X : FVec Ideal S8x4096x8x64 .f32) (t : Fin 4096) (b h : Fin 8) (j : Fin 64) :
    transpose S4096x8x8x64 [1, 0, 2, 3] X Gen.transposes_S8x4096x8x64_S4096x8x8x64_1_0_2_3 (ix4 t b h j) = X (ix4 b t h j) := by
  pointwise

/-- A buffer's contents where the loop starts, as an array by sequence, row, head and lane. -/
abbrev ent (x : Ref sig .tc) : (Proc.devRef .tc x : DevRef τ sig).ty.Contents (Elt Ideal) := entryContents preI m c (Proc.devRef .tc x)

/-- The loop's arrays are the ones made before it, rows first. -/
theorem carried :
    (ent m c main_v75_0 : Rows) = transpose S4096x8x8x64 [1, 0, 2, 3] (ent m c main_v60 : FVec Ideal S8x4096x8x64 .f32) Gen.transposes_S8x4096x8x64_S4096x8x8x64_1_0_2_3
    ∧ (ent m c main_v75_1 : Rows) = transpose S4096x8x8x64 [1, 0, 2, 3] (ent m c main_v64 : FVec Ideal S8x4096x8x64 .f32) Gen.transposes_S8x4096x8x64_S4096x8x8x64_1_0_2_3
    ∧ (ent m c main_v75_2 : Rows) = transpose S4096x8x8x64 [1, 0, 2, 3] (ent m c main_v61 : FVec Ideal S8x4096x8x64 .f32) Gen.transposes_S8x4096x8x64_S4096x8x8x64_1_0_2_3
    ∧ (ent m c main_v75_3 : Rows) = transpose S4096x8x8x64 [1, 0, 2, 3] (ent m c main_v62 : FVec Ideal S8x4096x8x64 .f32) Gen.transposes_S8x4096x8x64_S4096x8x8x64_1_0_2_3
    ∧ (ent m c main_v75_4 : Rows) = transpose S4096x8x8x64 [1, 0, 2, 3] (ent m c main_v65 : FVec Ideal S8x4096x8x64 .f32) Gen.transposes_S8x4096x8x64_S4096x8x8x64_1_0_2_3
    ∧ (ent m c main_v75_5 : Rows) = transpose S4096x8x8x64 [1, 0, 2, 3] (ent m c main_v66 : FVec Ideal S8x4096x8x64 .f32) Gen.transposes_S8x4096x8x64_S4096x8x8x64_1_0_2_3 := by
  refine ⟨?_, ?_, ?_, ?_, ?_, ?_⟩
  all_goals
    simp only [ent, entryContents, afterL_cons, afterL_nil]
    after_reads_simp
    rfl

/-- The arrays made before the loop, at an element. -/
theorem made (b : Fin 8) (t : Fin 4096) (h : Fin 8) (j : Fin 64) (n : Fin 512) :
    (ent m c main_v60 : FVec Ideal S8x4096x8x64 .f32) (ix4 b t h j) = (refInp m c).r b t (col h j)
    ∧ (ent m c main_v64 : FVec Ideal S8x4096x8x64 .f32) (ix4 b t h j) = Ideal.exp ((refInp m c).logw b t (col h j))
    ∧ (ent m c main_v61 : FVec Ideal S8x4096x8x64 .f32) (ix4 b t h j) = (refInp m c).kmod b t (col h j)
    ∧ (ent m c main_v62 : FVec Ideal S8x4096x8x64 .f32) (ix4 b t h j) = (refInp m c).v b t (col h j)
    ∧ (ent m c main_v65 : FVec Ideal S8x4096x8x64 .f32) (ix4 b t h j) = -(refInp m c).kkn b t h j
    ∧ (ent m c main_v66 : FVec Ideal S8x4096x8x64 .f32) (ix4 b t h j) = (refInp m c).kkn b t h j * (refInp m c).a b t (col h j)
    ∧ (ent m c main_v42 : FVec Ideal S8x4096x512 .f32) (ix3 b t n) = (refInp m c).g b t n := by
  refine ⟨?_, ?_, ?_, ?_, ?_, ?_, ?_⟩
  all_goals
    simp only [ent, entryContents, afterL_cons, afterL_nil]
    after_reads_at
    try simp only [ne_eq, not_true_eq_false, if_false]
    rfl

/-- The state starts from zero. -/
theorem zero_state (s h : Fin 8) (i j : Fin 64) :
    (ent m c main_v75_7 : FVec Ideal S8x8x64x64 .f32) (ix4 s h i j) = (0 : EReal) := by
  simp only [ent, entryContents, afterL_cons, afterL_nil]
  after_reads_simp
  change broadcastInDim S8x8x64x64 ![] Gen.bcast_S_S8x8x64x64 (constant (F := Ideal) S_ FTy.f32 0#32) (ix4 s h i j) = (0 : EReal)
  pointwise

/-- The operations after the loop, at an element. -/
theorem post (V : Valuation τ sig (Elt Ideal)) (b : Fin 8) (t : Fin 4096) (h : Fin 8) (j : Fin 64) (I : Inp)
    (h60 : ∀ h j, (V (Proc.devRef .tc main_v60) : FVec Ideal S8x4096x8x64 .f32) (ix4 b t h j) = I.r b t (col h j))
    (h61 : ∀ h j, (V (Proc.devRef .tc main_v61) : FVec Ideal S8x4096x8x64 .f32) (ix4 b t h j) = I.kmod b t (col h j))
    (h62 : ∀ h j, (V (Proc.devRef .tc main_v62) : FVec Ideal S8x4096x8x64 .f32) (ix4 b t h j) = I.v b t (col h j))
    (h42 : ∀ n, (V (Proc.devRef .tc main_v42) : FVec Ideal S8x4096x512 .f32) (ix3 b t n) = I.g b t n)
    (h9 : ∀ h j, (V (Proc.devRef .tc main_arg9) : FVec Ideal S8x64 .f32) (ix2 h j) = I.rk h j)
    (h10 : ∀ n, (V (Proc.devRef .tc main_arg10) : FVec Ideal S512 .f32) (ix1 n) = I.gain n)
    (h11 : ∀ n, (V (Proc.devRef .tc main_arg11) : FVec Ideal S512 .f32) (ix1 n) = I.bias n)
    (hy : ∀ h j, (V (Proc.devRef .tc main_v75_8) : Rows) (ix4 t b h j) = I.y b t h j) :
    (after Gen.hostOps0_7 V (Proc.devRef .tc main_v112) : FVec Ideal S8x4096x512 .f32) (ix3 b t (col h j))
      = I.fin b t (I.y b t h) h j := by
  after_reads_at
  have e1 : (col h j).val / 64 = h.val := by unfold col; have := j.isLt; dsimp only; omega
  have e2 : (col h j).val % 64 = j.val := by unfold col; have := j.isLt; dsimp only; omega
  simp only [e1, e2, Fin.eta]
  simp only [h60, h61, h62, h42, h9, h10, h11, hy]
  rfl

/-- The head's inputs as the loop carries them. -/
theorem stands (hI : (refInp m c).Nice) : Stands (entryContents preI m c) (fun b h => (refInp m c).head b h) 0 := by
  obtain ⟨c0, c1, c2, c3, c4, c5⟩ := carried m c
  have M := fun b t h j => made m c b t h j 0
  refine ⟨⟨?_, ?_, ?_, ?_, ?_, ?_⟩, ?_, ?_, fun t s h i ht => absurd ht (Nat.not_lt_zero _)⟩
  · intro t b h j
    refine (congrFun c0 _).trans ((tr _ t b h j).trans ((M b t h j).1.trans ?_))
    simp only [Inp.head, Inp.row_val]
    exact (hI.mix b t _).coe
  · intro t b h j
    refine (congrFun c1 _).trans ((tr _ t b h j).trans ((M b t h j).2.1.trans ?_))
    simp only [Inp.head, Inp.row_val]
    rw [(Inp.isReal_logw (refInp m c) b t (col h j)).coe]
    rfl
  · intro t b h j
    refine (congrFun c2 _).trans ((tr _ t b h j).trans ((M b t h j).2.2.1.trans ?_))
    simp only [Inp.head, Inp.row_val]
    exact (hI.kmod b t _).coe
  · intro t b h j
    refine (congrFun c3 _).trans ((tr _ t b h j).trans ((M b t h j).2.2.2.1.trans ?_))
    simp only [Inp.head, Inp.row_val]
    exact (hI.mix b t _).coe
  · intro t b h j
    refine (congrFun c4 _).trans ((tr _ t b h j).trans ((M b t h j).2.2.2.2.1.trans ?_))
    simp only [Inp.head, Inp.row_val]
    rw [EReal.coe_neg, ← (Inp.isReal_kkn (refInp m c) b t h j).coe]
  · intro t b h j
    refine (congrFun c5 _).trans ((tr _ t b h j).trans ((M b t h j).2.2.2.2.2.1.trans ?_))
    simp only [Inp.head, Inp.row_val]
    rw [EReal.coe_mul, ← (Inp.isReal_kkn (refInp m c) b t h j).coe, ← (Inp.isReal_a (refInp m c) b t (col h j)).coe]
  · exact ctr_entry m c
  · exact fun s h i j => zero_state m c s h i j

/-- The reference's result at an element. -/
theorem ref_at (hI : (refInp m c).Nice) (b : Fin 8) (t : Fin 4096) (h : Fin 8) (j : Fin 64) :
    (finalContents condOps preI bodyI postI 4096 m c (Proc.devRef .tc main_v112) : FVec Ideal S8x4096x512 .f32)
        (ix3 b t (col h j))
      = (refInp m c).fin b t ((refInp m c).y b t h) h j := by
  have keep : ∀ r : Ref sig .tc, r ∉ loopW →
      after condOps (atTrip condOps bodyI (entryContents preI m) 4096 c) (Proc.devRef .tc r) = ent m c r := by
    intro r hr
    have hc : r ∉ condOps_W := fun hr' => hr (by simp only [loopW, List.mem_append]; tauto)
    rw [after_of_writes_sub _ _ condOps_writes hc, loop_keep _ c r hr]
  have arg : ∀ r : Ref sig .tc, r ∉ earlyW → ent m c r = launchContents m c (Proc.devRef .tc r) :=
    fun r hr => early_keep _ r hr
  have M := fun h j n => made m c b t h j n
  unfold finalContents
  simp only [afterL_cons, afterL_nil]
  refine post _ b t h j (refInp m c) ?_ ?_ ?_ ?_ ?_ ?_ ?_ ?_
  · intro h j; rw [keep main_v60 (by decide)]; exact (M h j 0).1
  · intro h j; rw [keep main_v61 (by decide)]; exact (M h j 0).2.2.1
  · intro h j; rw [keep main_v62 (by decide)]; exact (M h j 0).2.2.2.1
  · intro n; rw [keep main_v42 (by decide)]; exact (M 0 0 n).2.2.2.2.2.2
  · intro h j; rw [keep main_arg9 (by decide), arg main_arg9 (by decide)]; rfl
  · intro n; rw [keep main_arg10 (by decide), arg main_arg10 (by decide)]; rfl
  · intro n; rw [keep main_arg11 (by decide), arg main_arg11 (by decide)]; rfl
  · intro h j
    rw [cond_keeps _ main_v75_8 (by decide)]
    exact (congrFun (atK_agree m c 4096 main_v75_8 (by decide)) (ix4 t b h j)).trans (((stands m c hI).iterate 4096 le_rfl).outs t b h j t.isLt)

end Cert.Rw
-- ==== Proof.RwClaim.lean ====
/-
  The value claim of the recurrence: run from equal arguments whose projection, mix and key's weight are real, the kernel's array
  and the reference's are equal element by element over the extended reals.
-/
module

public import proofs.«01_k».proof.Defs
public import proofs.«01_k».proof.Proof.RwFold
public import proofs.«01_k».proof.Proof.RwRead
public import proofs.«01_k».proof.Proof.RwFrame
public import proofs.«01_k».proof.Proof.Gen.Pre_real_inputs
public import Idealize.ShloMosaic.Lib.Claim

@[expose] public section

set_option maxRecDepth 16384

noncomputable section

namespace Cert.Rw

open Idealize Idealize.ShloMosaic Idealize.ShloMosaic.TcCoe Idealize.SL.Sem

/-- What is below the infinity with its negative is real. -/
theorem real_of_lt {x : EReal} (h : FloatOps.cmpf (F := Ideal) (φ := .f32) .olt (max x (-x) : EReal) (Ideal.ofBits .f32 0x7F800000#32 : EReal) = 1#1) :
    IsReal x := by
  have ht : Ideal.ofBits .f32 0x7F800000#32 = ⊤ := by simp [Ideal.ofBits, Ideal.ieee]
  rw [ht] at h
  change Ideal.cmp .olt _ _ = 1#1 at h
  induction x with
  | bot => simp [Ideal.cmp] at h
  | coe r => exact ⟨r, rfl⟩
  | top => simp [Ideal.cmp] at h

/-- The precondition says that the kernel's arguments are as the algebra asks. -/
theorem nice (m : (ℓ : Loc Cert.KernelIdeal.nD Cert.KernelIdeal.τ Cert.KernelIdeal.sig) → Buf (Elt Ideal) ℓ)
    (h : Pre_KernelIdeal_real_inputs m) (c : Dev Cert.KernelIdeal.nD) : (kerInp m c).Nice where
  p b t n := real_of_lt (congrFun (h c).1 (ix3 b t n))
  mu n := real_of_lt (congrFun (h c).2.1 (ix1 n))
  ka n := real_of_lt (congrFun (h c).2.2 (ix1 n))

/-- Where a buffer of the kernel lies on a device. -/
abbrev atK (c : Dev Cert.KernelIdeal.nD) (r : Ref Cert.KernelIdeal.sig .tc) := (c.tc : Thread Cert.KernelIdeal.nD Cert.KernelIdeal.τ).loc r

/-- Where a buffer of the reference lies on a device. -/
abbrev atR (c : Dev Cert.ReferenceIdeal.nD) (r : Ref Cert.ReferenceIdeal.sig .tc) := (c.tc : Thread Cert.ReferenceIdeal.nD Cert.ReferenceIdeal.τ).loc r

/-- Launched from equal arguments, the kernel and the reference have the same inputs. -/
theorem same (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (e0 : m' (atR c Cert.ReferenceIdeal.main_arg0) = m (atK c Cert.KernelIdeal.main_arg0))
    (e1 : m' (atR c Cert.ReferenceIdeal.main_arg1) = m (atK c Cert.KernelIdeal.main_arg1))
    (e2 : m' (atR c Cert.ReferenceIdeal.main_arg2) = m (atK c Cert.KernelIdeal.main_arg2))
    (e3 : m' (atR c Cert.ReferenceIdeal.main_arg3) = m (atK c Cert.KernelIdeal.main_arg3))
    (e4 : m' (atR c Cert.ReferenceIdeal.main_arg4) = m (atK c Cert.KernelIdeal.main_arg4))
    (e5 : m' (atR c Cert.ReferenceIdeal.main_arg5) = m (atK c Cert.KernelIdeal.main_arg5))
    (e6 : m' (atR c Cert.ReferenceIdeal.main_arg6) = m (atK c Cert.KernelIdeal.main_arg6))
    (e7 : m' (atR c Cert.ReferenceIdeal.main_arg7) = m (atK c Cert.KernelIdeal.main_arg7))
    (e8 : m' (atR c Cert.ReferenceIdeal.main_arg8) = m (atK c Cert.KernelIdeal.main_arg8))
    (e9 : m' (atR c Cert.ReferenceIdeal.main_arg9) = m (atK c Cert.KernelIdeal.main_arg9))
    (e10 : m' (atR c Cert.ReferenceIdeal.main_arg10) = m (atK c Cert.KernelIdeal.main_arg10))
    (e11 : m' (atR c Cert.ReferenceIdeal.main_arg11) = m (atK c Cert.KernelIdeal.main_arg11)) :
    refInp m' c = kerInp m c := by
  unfold refInp kerInp
  exact Inp.mk.injEq .. |>.mpr ⟨funext fun b => funext fun t => funext fun n => congrFun e0 (ix3 b t n), funext fun n => congrFun e1 (ix1 n),
    funext fun n => congrFun e2 (ix1 n), funext fun x => funext fun n => congrFun e3 (ix2 x n), funext fun n => congrFun e4 (ix1 n),
    funext fun x => funext fun n => congrFun e5 (ix2 x n), funext fun x => funext fun n => congrFun e6 (ix2 x n),
    funext fun n => congrFun e7 (ix1 n), funext fun n => congrFun e8 (ix1 n), funext fun h => funext fun j => congrFun e9 (ix2 h j),
    funext fun n => congrFun e10 (ix1 n), funext fun n => congrFun e11 (ix1 n)⟩

/-- The reference's array is the kernel's where the inputs are the same and as the algebra asks. -/
theorem result (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hI : (kerInp m c).Nice) (he : refInp m' c = kerInp m c) :
    (StableHlo.finalContents Cert.ReferenceIdeal.Value.condOps Cert.ReferenceIdeal.Value.preI Cert.ReferenceIdeal.Value.bodyI
      Cert.ReferenceIdeal.Value.postI 4096 m' c (Proc.devRef .tc Cert.ReferenceIdeal.main_v112) : FVec Ideal Cert.ReferenceIdeal.S8x4096x512 .f32)
      = (Cert.KernelIdeal.Value.G13 m c : FVec Ideal Cert.KernelIdeal.S8x4096x512 .f32) := by
  funext i
  have hn : (i 2).val < 512 := (i 2).isLt
  have hi : i = ix3 (i 0 : Fin 8) (i 1 : Fin 4096) (col ⟨(i 2).val / 64, by omega⟩ ⟨(i 2).val % 64, by omega⟩) :=
    at_rows i _ _ _ rfl rfl (by show _ = (i 2).val / 64 * 64 + (i 2).val % 64; omega)
  rw [hi]
  exact (ref_at m' c (he ▸ hI) _ _ _ _).trans ((by rw [he] : _ = _).trans (ker_at hI _ _ _ _).symm)

/-- The recurrence's kernel computes its reference, over the extended reals. -/
theorem algebraic : Cert.algebraic_KernelIdeal_ReferenceIdeal_pre_real_inputs := by
  pair_intro
  · run_from Cert.KernelIdeal.Value.run (F := Ideal) m g
  · run_from Cert.ReferenceIdeal.Value.run_fold (F := Ideal) m' g'
    all_goals obtain ⟨e0, e1, e2, e3, e4, e5, e6, e7, e8, e9, e10, e11⟩ := hagree c
    · exact result m m' c (nice m hpre c) (same m m' c e0 e1 e2 e3 e4 e5 e6 e7 e8 e9 e10 e11)
    · exact (final_keep m' c Cert.ReferenceIdeal.main_arg0 (by decide) (by decide) (by decide)).trans e0
    · exact (final_keep m' c Cert.ReferenceIdeal.main_arg1 (by decide) (by decide) (by decide)).trans e1
    · exact (final_keep m' c Cert.ReferenceIdeal.main_arg2 (by decide) (by decide) (by decide)).trans e2
    · exact (final_keep m' c Cert.ReferenceIdeal.main_arg3 (by decide) (by decide) (by decide)).trans e3
    · exact (final_keep m' c Cert.ReferenceIdeal.main_arg4 (by decide) (by decide) (by decide)).trans e4
    · exact (final_keep m' c Cert.ReferenceIdeal.main_arg5 (by decide) (by decide) (by decide)).trans e5
    · exact (final_keep m' c Cert.ReferenceIdeal.main_arg6 (by decide) (by decide) (by decide)).trans e6
    · exact (final_keep m' c Cert.ReferenceIdeal.main_arg7 (by decide) (by decide) (by decide)).trans e7
    · exact (final_keep m' c Cert.ReferenceIdeal.main_arg8 (by decide) (by decide) (by decide)).trans e8
    · exact (final_keep m' c Cert.ReferenceIdeal.main_arg9 (by decide) (by decide) (by decide)).trans e9
    · exact (final_keep m' c Cert.ReferenceIdeal.main_arg10 (by decide) (by decide) (by decide)).trans e10
    · exact (final_keep m' c Cert.ReferenceIdeal.main_arg11 (by decide) (by decide) (by decide)).trans e11

end Cert.Rw

end
-- ==== Proof.ModValue.lean ====
/-
  The modulation: what its reference and its kernel give at an element, a condition's gated row times a column plus the
  column's bias. A grid point works on 1536 columns.
-/
module

public import proofs.«01_k».proof.Proof.Gen.Kernel4Ideal.Value
public import proofs.«01_k».proof.Proof.Gen.Reference4Ideal.Read
public import proofs.«01_k».proof.Proof.InpRef
public import Idealize.ShloMosaic.Lib.Pipeline.ValueKit.Geometry

@[expose] public section

set_option maxRecDepth 16384

noncomputable section

namespace Cert.Mod

open Idealize.ShloMosaic Idealize.ShloMosaic.TcCoe Idealize.SL.Sem
open Cert.Inp (eq2)

/-- The modulation at a sequence and a column. -/
def at' (x : Fin 1024 → EReal) (w : Fin 1024 → EReal) (z : EReal) : EReal := (∑ k, x k * Ideal.logistic (x k) * w k) + z

section Ref
open Cert.Reference4Ideal Cert.Reference4Ideal.Gen Cert.Reference4Ideal.Read

/-- The reference's array. -/
theorem ref_at (x : FVec Ideal S8x1024 .f32) (w : FVec Ideal S1024x6144 .f32) (z : FVec Ideal S6144 .f32) (b : Fin 8) (n : Fin 6144) :
    val_main_v4 (F := Ideal) x w z (ix2 b n) = at' (fun k => x (ix2 b k)) (fun k => w (ix2 k n)) (z (ix1 n)) := by
  have hs : ∀ k : Fin 1024, val_main_v0 (F := Ideal) x (ix2 b k) = x (ix2 b k) * Ideal.logistic (x (ix2 b k)) := fun k => by
    unfold Ideal.logistic
    pointwise [val_main_v0, val_main_call0_v5, val_main_call0_v4, val_main_call0_v3, val_main_call0_v2,
      val_main_call0_v1, val_main_call0_v0, val_main_call0_cst, val_main_call0_cst_0]
  have hd : val_main_v1 (F := Ideal) x w (ix2 b n) = ∑ k : Fin 1024, x (ix2 b k) * Ideal.logistic (x (ix2 b k)) * w (ix2 k n) := by
    rw [val_main_v1_apply]
    refine Finset.sum_congr rfl fun k _ => ?_
    rw [eq2 (lidx_main_v1 _ _) b k rfl rfl, eq2 (ridx_main_v1 _ _) k n rfl rfl, hs]
  have hz : val_main_v3 (F := Ideal) z (ix2 b n) = z (ix1 n) := by
    pointwise [val_main_v3, val_main_v2]
  rw [val_main_v4_apply, hd, hz]
  rfl

end Ref

section Ker
open Cert.Kernel4Ideal Cert.Kernel4Ideal.Gen Cert.Kernel4Ideal.Value

variable (m : (ℓ : Loc nD τ sig) → Buf (Elt Ideal) ℓ) (c : Dev nD)

/-- An argument of the launch, as an array. -/
abbrev arg (b : Ref sig .tc) : Buf (Elt Ideal) ((c : Thread nD τ).loc b) := m ((c : Thread nD τ).loc b)

/-- A grid point's number is below 4. -/
theorem pt_lt (t : Fin cfg0.N) : t.val < 4 := lt_of_lt_of_eq t.isLt N_0

/-- Where the windows stand. -/
theorem index_facts : ∀ t : Fin grid0.N,
    (win0_0.index t 0 = 0 ∧ win0_0.index t 1 = 0) ∧ (win0_1.index t 0 = 0 ∧ win0_1.index t 1 = t.val)
    ∧ (win0_2.index t 0 = 0 ∧ win0_2.index t 1 = t.val) ∧ (win0_3.index t 0 = 0 ∧ win0_3.index t 1 = t.val) := by decide +kernel

/-- The conditions. -/
theorem blk0 (t : Fin cfg0.N) (b : Fin 8) (k : Fin 1024) :
    (iblk m c 0 t : FVec Ideal S8x1024 .f32) (ix2 b k) = (arg m c main_arg0 : FVec Ideal S8x1024 .f32) (ix2 b k) := by
  have hi := (index_facts t).1
  unfold iblk
  rw [View.read_apply]
  show V m c main_arg0 _ = _
  rw [V_main_arg0]
  exact congrArg _ (eq2 _ _ _ (by show win0_0.index t 0 * 8 + 1 * b.val = b.val; rw [hi.1]; omega)
    (by show win0_0.index t 1 * 1024 + 1 * k.val = k.val; rw [hi.2]; omega))

/-- The point's columns of the weight. -/
theorem blk1 (t : Fin cfg0.N) (k : Fin 1024) (n : Fin 1536) :
    (iblk m c 1 t : FVec Ideal S1024x1536 .f32) (ix2 k n)
      = (arg m c main_arg1 : FVec Ideal S1024x6144 .f32) (ix2 k ⟨1536 * t.val + n.val, by have := pt_lt t; omega⟩) := by
  have hi := (index_facts t).2.1
  unfold iblk
  rw [View.read_apply]
  show V m c main_arg1 _ = _
  rw [V_main_arg1]
  exact congrArg _ (eq2 _ _ _ (by show win0_1.index t 0 * 1024 + 1 * k.val = k.val; rw [hi.1]; omega)
    (by show win0_1.index t 1 * 1536 + 1 * n.val = 1536 * t.val + n.val; rw [hi.2]; omega))

/-- The bias as a row. -/
theorem bias_row (z : FVec Ideal S6144 .f32) (n : Fin 6144) : shapeCast S1x6144 z shapeCasts_S6144_S1x6144 (ix2 0 n) = z (ix1 n) := by
  pointwise

/-- The point's part of the bias. -/
theorem blk2 (t : Fin cfg0.N) (n : Fin 1536) :
    (iblk m c 2 t : FVec Ideal S1x1536 .f32) (ix2 0 n)
      = (arg m c main_arg2 : FVec Ideal S6144 .f32) (ix1 ⟨1536 * t.val + n.val, by have := pt_lt t; omega⟩) := by
  have hi := (index_facts t).2.2.1
  have hV : (V m c main_v0 : FVec Ideal S1x6144 .f32)
      = shapeCast S1x6144 (arg m c main_arg2 : FVec Ideal S6144 .f32) shapeCasts_S6144_S1x6144 := by
    unfold V
    simp only [hostOps0, List.flatten_cons, List.flatten_nil, List.append_nil, List.cons_append, List.nil_append]
    after_results
    rfl
  unfold iblk
  rw [View.read_apply]
  show (V m c main_v0 : FVec Ideal S1x6144 .f32) _ = _
  rw [hV]
  refine Eq.trans (congrArg _ (eq2 _ 0 ⟨1536 * t.val + n.val, by have := pt_lt t; omega⟩
    (by show win0_2.index t 0 * 1 + 1 * 0 = 0; rw [hi.1])
    (by show win0_2.index t 1 * 1536 + 1 * n.val = 1536 * t.val + n.val; rw [hi.2]; omega))) ?_
  exact bias_row ..

/-- The block stored. -/
theorem out3 (x0 : FVec Ideal S8x1024 .f32) (x1 : FVec Ideal S1024x1536 .f32) (x2 : FVec Ideal S1x1536 .f32) (b : Fin 8) (n : Fin 1536) :
    out0_3 (F := Ideal) x0 x1 x2 (ix2 b n) = at' (fun k => x0 (ix2 b k)) (fun k => x1 (ix2 k n)) (x2 (ix2 0 n)) := by
  have hz2 : (![0, 0] : Fin 2 → Nat) = fun _ => 0 := funext fun a => by fin_cases a <;> rfl
  unfold out0_3
  rw [View.canon_unit_zero hz2]
  have e0 : View.ld (Val := Elt Ideal) (e' := .f32) x0 r0_0 = x0 := View.ld_unit_zero hz2 ..
  have e1 : View.ld (Val := Elt Ideal) (e' := .f32) x1 r0_1 = x1 := View.ld_unit_zero hz2 ..
  have e2 : View.ld (Val := Elt Ideal) (e' := .f32) x2 r0_2 = x2 := View.ld_unit_zero hz2 ..
  rw [e0, e1, e2]
  unfold at'
  pointwise [k0_pay1]

/-- The array after the run. -/
theorem arr : (dats m 0 c).arrAt 3 cfg0.N
    = (fun i => at' (fun k => (arg m c main_arg0 : FVec Ideal S8x1024 .f32) (ix2 (i 0) k))
        (fun k => (arg m c main_arg1 : FVec Ideal S1024x6144 .f32) (ix2 k (i 1)))
        ((arg m c main_arg2 : FVec Ideal S6144 .f32) (ix1 (i 1))) : FVec Ideal S8x6144 .f32) := by
  refine (dats m 0 c).arrAt_eq_of_covers 3 _ (by decide +kernel) fun t hf y => ?_
  blk_simp
  rw [after0_3]
  have hi := (index_facts t).2.2.2
  obtain ⟨b, n, rfl⟩ : ∃ (b : Fin 8) (n : Fin 1536), y = (ix2 b n : S8x1536.Idx) := ⟨y 0, y 1, eq2 _ _ _ rfl rfl⟩
  have eb : (win0_3.blk t).view.emb (ix2 b n : S8x1536.Idx) 0 = (b : Fin 8) :=
    Fin.ext (by show win0_3.index t 0 * 8 + 1 * b.val = b.val; rw [hi.1]; omega)
  have en : (win0_3.blk t).view.emb (ix2 b n : S8x1536.Idx) 1 = (⟨1536 * t.val + n.val, by have := pt_lt t; omega⟩ : Fin 6144) :=
    Fin.ext (by show win0_3.index t 1 * 1536 + 1 * n.val = 1536 * t.val + n.val; rw [hi.2]; omega)
  rw [eb, en]
  refine (out3 ..).trans ?_
  simp only [blk0, blk1, blk2]

end Ker

end Cert.Mod

end
-- ==== Proof.ModClaim.lean ====
/-
  The value claim of the modulation: run from equal arguments, the kernel's array and the reference's are equal element by
  element over the extended reals.
-/
module

public import proofs.«01_k».proof.Defs
public import proofs.«01_k».proof.Proof.ModValue
public import proofs.«01_k».proof.Proof.Gen.Reference4Ideal.Run
public import Idealize.ShloMosaic.Lib.Claim

@[expose] public section

set_option maxRecDepth 16384

noncomputable section

namespace Cert.Mod

open Idealize.ShloMosaic Idealize.ShloMosaic.TcCoe Idealize.SL.Sem

/-- The modulation's kernel computes its reference, over the extended reals and for every input. -/
theorem algebraic : Cert.algebraic_Kernel4Ideal_Reference4Ideal := by
  pair_intro
  · run_from Cert.Kernel4Ideal.Value.run_blocks (F := Ideal) m g
  · run_from Cert.Reference4Ideal.Value.run (F := Ideal) m' g'
    rw [Cert.Reference4Ideal.Read.val_main_v4_eq]
    obtain ⟨e0, e1, e2⟩ := hagree c
    refine Eq.trans ?_ (arr m c).symm
    funext i
    obtain ⟨b, n, rfl⟩ : ∃ (b : Fin 8) (n : Fin 6144), i = ix2 b n := ⟨i 0, i 1, Cert.Inp.eq2 _ _ _ rfl rfl⟩
    exact ref_at ..

end Cert.Mod

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.KernelIdeal.Value
public import proofs.«01_k».proof.Proof.Gen.ReferenceIdeal.Run
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Pre_real_inputs
public import proofs.«01_k».proof.Proof.RwFrame
public import proofs.«01_k».proof.Proof.FfnClaim
public import proofs.«01_k».proof.Proof.InpClaim
public import proofs.«01_k».proof.Proof.RwClaim
public import proofs.«01_k».proof.Proof.ModClaim
public import Idealize.ShloMosaic.Adequacy
public import Idealize.ShloMosaic.Init

@[expose] public section

noncomputable section

namespace Cert.Proof

open Idealize.ShloMosaic Idealize.SL.Sem Cert.Kernel

/-- The output part's reference runs to its end, keeps its arguments and leaves every counter at zero. -/
theorem frame_ref2 : Cert.quiescent_Reference2Ideal := fun m ρ _ =>
  (θ_run Cert.Reference2Ideal.defs _ _).mono
    (fun r h => ⟨fun c => (h c).2, Idealize.ShloMosaic.sem_eq_zero_of_no_sems (by decide) r.2⟩)
    (Cert.Reference2Ideal.Value.run (F := Ideal) m ρ)

/-- The input projection's reference runs to its end, keeps its arguments and leaves every counter at zero. -/
theorem frame_ref3 : Cert.quiescent_Reference3Ideal := fun m ρ _ =>
  (θ_run Cert.Reference3Ideal.defs _ _).mono
    (fun r h => ⟨fun c => (h c).2.2, Idealize.ShloMosaic.sem_eq_zero_of_no_sems (by decide) r.2⟩)
    (Cert.Reference3Ideal.Value.run (F := Ideal) m ρ)

/-- The modulation's reference runs to its end, keeps its arguments and leaves every counter at zero. -/
theorem frame_ref4 : Cert.quiescent_Reference4Ideal := fun m ρ _ =>
  (θ_run Cert.Reference4Ideal.defs _ _).mono
    (fun r h => ⟨fun c => (h c).2, Idealize.ShloMosaic.sem_eq_zero_of_no_sems (by decide) r.2⟩)
    (Cert.Reference4Ideal.Value.run (F := Ideal) m ρ)

/-- The claims together: the frames of the fourteen programs, the ideal programs being the kernels over the extended reals,
    and the four value claims. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Pre_real_inputs.Gen.facts,
  fun m ρ _ => Cert.Kernel.Gen.frame m ρ, fun m ρ _ => Cert.KernelIdeal.Gen.frame m ρ,
  fun m ρ _ => Cert.KernelIdeal.Gen.frame m ρ, Cert.Rw.frame_ref, fun m ρ _ => Cert.Rw.frame_ref m ρ trivial,
  fun m ρ _ => Cert.Kernel2.Gen.frame m ρ, fun m ρ _ => Cert.Kernel2Ideal.Gen.frame m ρ, frame_ref2,
  fun m ρ _ => Cert.Kernel3.Gen.frame m ρ, fun m ρ _ => Cert.Kernel3Ideal.Gen.frame m ρ, frame_ref3,
  fun m ρ _ => Cert.Kernel4.Gen.frame m ρ, fun m ρ _ => Cert.Kernel4Ideal.Gen.frame m ρ, frame_ref4,
  fun m ρ _ => Cert.Kernel5.Gen.frame m ρ, fun m ρ _ => Cert.Kernel5Ideal.Gen.frame m ρ,
  trivial, Cert.Rw.algebraic, trivial, Cert.Ffn.algebraic, trivial, Cert.Inp.algebraic, trivial, Cert.Mod.algebraic, trivial⟩

end Cert.Proof

end
